-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S_ : Shape := ⟨0, ![]⟩
abbrev S4 : Shape := ⟨1, ![4]⟩
abbrev S128x8192 : Shape := ⟨2, ![128, 8192]⟩
abbrev S1024x4096 : Shape := ⟨2, ![1024, 4096]⟩
abbrev S1 : Shape := ⟨1, ![1]⟩
abbrev S32x128x128 : Shape := ⟨3, ![32, 128, 128]⟩
abbrev S128x1024 : Shape := ⟨2, ![128, 1024]⟩
abbrev S2x128x4096 : Shape := ⟨3, ![2, 128, 4096]⟩
abbrev S1x128 : Shape := ⟨2, ![1, 128]⟩
abbrev S32x128 : Shape := ⟨2, ![32, 128]⟩
abbrev S32 : Shape := ⟨1, ![32]⟩
abbrev S1x128x128 : Shape := ⟨3, ![1, 128, 128]⟩
abbrev S128x128 : Shape := ⟨2, ![128, 128]⟩
abbrev S128x4096 : Shape := ⟨2, ![128, 4096]⟩
abbrev S1x128x4096 : Shape := ⟨3, ![1, 128, 4096]⟩
abbrev S1x2x128x4096 : Shape := ⟨4, ![1, 2, 128, 4096]⟩
abbrev S1x1x1x1 : Shape := ⟨4, ![1, 1, 1, 1]⟩
abbrev S1x32x128 : Shape := ⟨3, ![1, 32, 128]⟩
abbrev S1x1x1 : Shape := ⟨3, ![1, 1, 1]⟩

abbrev nBuf : Space → Nat
  | .hbm => 46
  | .vmem => 9
  | .smem => 1
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i1⟩
  | .hbm, ⟨35, _⟩ => ⟨S_, .i32⟩
  | .hbm, ⟨36, _⟩ => ⟨S4, .i32⟩
  | .hbm, ⟨37, _⟩ => ⟨S4, .i1⟩
  | .hbm, ⟨38, _⟩ => ⟨S_, .i32⟩
  | .hbm, ⟨39, _⟩ => ⟨S_, .i1⟩
  | .hbm, ⟨40, _⟩ => ⟨S4, .i1⟩
  | .hbm, ⟨41, _⟩ => ⟨S4, .i1⟩
  | .hbm, ⟨42, _⟩ => ⟨S4, .i1⟩
  | .hbm, ⟨43, _⟩ => ⟨S4, .i32⟩
  | .hbm, ⟨44, _⟩ => ⟨S4, .i32⟩
  | .hbm, ⟨45, _⟩ => ⟨S128x8192, .f32⟩
  | .local _ .vmem, ⟨0, _⟩ => ⟨S4096x128, .f32⟩
  | .local _ .vmem, ⟨1, _⟩ => ⟨S1024x4096, .f32⟩
  | .local _ .vmem, ⟨2, _⟩ => ⟨S1024x4096, .f32⟩
  | .local _ .vmem, ⟨3, _⟩ => ⟨S128x8192, .f32⟩
  | .local _ .vmem, ⟨4, _⟩ => ⟨S32x128x128, .f32⟩
  | .local _ .vmem, ⟨5, _⟩ => ⟨S128x1024, .f32⟩
  | .local _ .vmem, ⟨6, _⟩ => ⟨S2x128x4096, .f32⟩
  | .local _ .vmem, ⟨7, _⟩ => ⟨S1x128, .f32⟩
  | .local _ .vmem, ⟨8, _⟩ => ⟨S32x128, .f32⟩
  | .local _ .smem, ⟨0, _⟩ => ⟨S4, .i32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v10 : Ref sig .tc := ⟨.hbm, 45, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 32
abbrev τ : Topo := Topo.v7x

variable {F : FTy → Type} [FloatOps F]

abbrev grid0 : Pipeline.Grid := ⟨2, ![4, 2], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_11 : BitVec 32 := 0#32
  let v30 : BitVec 1 := Scalar.cmpi .eq arg0 c0_i32_11
  let arg1 : BitVec 32 := BitVec.ofNat 32 (i 1).val
  let c0_i32_12 : BitVec 32 := 0#32
  let v31 : BitVec 1 := Scalar.cmpi .eq arg1 c0_i32_12
  let v32 : BitVec 1 := Scalar.andi v30 v31
  let v33 : BitVec 32 := Scalar.extui v32
  let c0_i32_13 : BitVec 32 := 0#32
  let v34 : BitVec 1 := Scalar.cmpi .ne v33 c0_i32_13
  v34

@[reducible] def k0_t1_loop : Scf.Loop 32 :=
  let c0_i32_25 : BitVec 32 := 0#32
  let c32_i32_26 : BitVec 32 := 32#32
  let v56 : BitVec 32 := Scalar.addi c0_i32_25 c32_i32_26
  let c1_i32_27 : BitVec 32 := 1#32
  ⟨c0_i32_25, v56, c1_i32_27⟩
def k0_cond2 (d0 : Dev nD) (k0_t1 : Fin k0_t1_loop.trips) : BitVec 1 :=
  let c0_i32_25 : BitVec 32 := 0#32
  let c1_i32_27 : BitVec 32 := 1#32
  let arg15 : BitVec 32 := Scf.iv c0_i32_25 c1_i32_27 k0_t1
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v62 : BitVec 1 := Scalar.cmpi .ne arg15 v2
  let v63 : BitVec 32 := Scalar.extui v62
  let c0_i32_36 : BitVec 32 := 0#32
  let v64 : BitVec 1 := Scalar.cmpi .ne v63 c0_i32_36
  v64

def k0_dev1 (k0_t1 : Fin k0_t1_loop.trips) : Nat :=
  let c0_i32_39 : BitVec 32 := 0#32
  let c0_i32_25 : BitVec 32 := 0#32
  let c1_i32_27 : BitVec 32 := 1#32
  let arg15 : BitVec 32 := Scf.iv c0_i32_25 c1_i32_27 k0_t1
  let c1_i32_38 : BitVec 32 := 1#32
  let v65 : BitVec 32 := Scalar.muli arg15 c1_i32_38
  let v66 : BitVec 32 := Scalar.addi c0_i32_39 v65
  v66.toNat
@[reducible] def k0_t2_loop : Scf.Loop 32 :=
  let c0_i32_32 : BitVec 32 := 0#32
  let c32_i32_33 : BitVec 32 := 32#32
  let v61 : BitVec 32 := Scalar.addi c0_i32_32 c32_i32_33
  let c1_i32_34 : BitVec 32 := 1#32
  ⟨c0_i32_32, v61, c1_i32_34⟩
def k0_cond3 (d0 : Dev nD) (k0_t2 : Fin k0_t2_loop.trips) : BitVec 1 :=
  let c8_i32_54 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_32 : BitVec 32 := 0#32
  let c1_i32_34 : BitVec 32 := 1#32
  let arg15 : BitVec 32 := Scf.iv c0_i32_32 c1_i32_34 k0_t2
  let c0_i32_37 : BitVec 32 := 0#32
  let v63 : BitVec 1 := Scalar.cmpi .sgt arg15 c0_i32_37
  let v64 : BitVec 32 := Scalar.extui v63
  let c0_i32_38 : BitVec 32 := 0#32
  let v65 : BitVec 1 := Scalar.cmpi .slt arg15 c0_i32_38
  let v66 : BitVec 32 := Scalar.extui v65
  let v67 : BitVec 32 := Scalar.subi v64 v66
  let c8_i32_36 : BitVec 32 := 8#32
  let c0_i32_39 : BitVec 32 := 0#32
  let v68 : BitVec 1 := Scalar.cmpi .sgt c8_i32_36 c0_i32_39
  let v69 : BitVec 32 := Scalar.extui v68
  let c0_i32_40 : BitVec 32 := 0#32
  let v70 : BitVec 1 := Scalar.cmpi .slt c8_i32_36 c0_i32_40
  let v71 : BitVec 32 := Scalar.extui v70
  let v72 : BitVec 32 := Scalar.subi v69 v71
  let v73 : BitVec 1 := Scalar.cmpi .ne v67 v72
  let v74 : BitVec 32 := Scalar.remsi arg15 c8_i32_36
  let c0_i32_41 : BitVec 32 := 0#32
  let v75 : BitVec 1 := Scalar.cmpi .ne v74 c0_i32_41
  let v76 : BitVec 1 := Scalar.andi v73 v75
  let v62 : BitVec 32 := Scalar.divsi arg15 c8_i32_36
  let c1_i32_42 : BitVec 32 := 1#32
  let v77 : BitVec 32 := Scalar.subi v62 c1_i32_42
  let v78 : BitVec 32 := Scalar.select v76 v77 v62
  let v89 : BitVec 32 := Scalar.subi v19 v78
  let c4_i32 : BitVec 32 := 4#32
  let c0_i32_49 : BitVec 32 := 0#32
  let v90 : BitVec 1 := Scalar.cmpi .eq c4_i32 c0_i32_49
  let c1_i32_50 : BitVec 32 := 1#32
  let v91 : BitVec 32 := Scalar.select v90 c1_i32_50 c4_i32
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  let v100 : BitVec 32 := Scalar.muli c8_i32_54 v99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_55 : BitVec 32 := 1#32
  let v101 : BitVec 32 := Scalar.addi v29 c1_i32_55
  let c8_i32_43 : BitVec 32 := 8#32
  let c0_i32_44 : BitVec 32 := 0#32
  let v79 : BitVec 1 := Scalar.cmpi .eq c8_i32_43 c0_i32_44
  let c1_i32_45 : BitVec 32 := 1#32
  let v80 : BitVec 32 := Scalar.select v79 c1_i32_45 c8_i32_43
  let v81 : BitVec 32 := Scalar.remsi arg15 v80
  let c0_i32_47 : BitVec 32 := 0#32
  let v83 : BitVec 1 := Scalar.cmpi .slt v81 c0_i32_47
  let c0_i32_48 : BitVec 32 := 0#32
  let v84 : BitVec 1 := Scalar.cmpi .slt v80 c0_i32_48
  let v85 : BitVec 1 := Scalar.xori v83 v84
  let c0_i32_46 : BitVec 32 := 0#32
  let v82 : BitVec 1 := Scalar.cmpi .ne v81 c0_i32_46
  let v86 : BitVec 1 := Scalar.andi v85 v82
  let v87 : BitVec 32 := Scalar.addi v81 v80
  let v88 : BitVec 32 := Scalar.select v86 v87 v81
  let v102 : BitVec 32 := Scalar.addi v101 v88
  let c8_i32_56 : BitVec 32 := 8#32
  let c0_i32_57 : BitVec 32 := 0#32
  let v103 : BitVec 1 := Scalar.cmpi .eq c8_i32_56 c0_i32_57
  let c1_i32_58 : BitVec 32 := 1#32
  let v104 : BitVec 32 := Scalar.select v103 c1_i32_58 c8_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let v113 : BitVec 32 := Scalar.addi v100 v112
  let v114 : BitVec 1 := Scalar.cmpi .ne v113 v2
  let v115 : BitVec 32 := Scalar.extui v114
  let c0_i32_62 : BitVec 32 := 0#32
  let v116 : BitVec 1 := Scalar.cmpi .ne v115 c0_i32_62
  v116

def k0_off2 (d0 : Dev nD) (k0_t2 : Fin k0_t2_loop.trips) : Fin 1 → Nat :=
  let c8_i32_54 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_32 : BitVec 32 := 0#32
  let c1_i32_34 : BitVec 32 := 1#32
  let arg15 : BitVec 32 := Scf.iv c0_i32_32 c1_i32_34 k0_t2
  let c0_i32_37 : BitVec 32 := 0#32
  let v63 : BitVec 1 := Scalar.cmpi .sgt arg15 c0_i32_37
  let v64 : BitVec 32 := Scalar.extui v63
  let c0_i32_38 : BitVec 32 := 0#32
  let v65 : BitVec 1 := Scalar.cmpi .slt arg15 c0_i32_38
  let v66 : BitVec 32 := Scalar.extui v65
  let v67 : BitVec 32 := Scalar.subi v64 v66
  let c8_i32_36 : BitVec 32 := 8#32
  let c0_i32_39 : BitVec 32 := 0#32
  let v68 : BitVec 1 := Scalar.cmpi .sgt c8_i32_36 c0_i32_39
  let v69 : BitVec 32 := Scalar.extui v68
  let c0_i32_40 : BitVec 32 := 0#32
  let v70 : BitVec 1 := Scalar.cmpi .slt c8_i32_36 c0_i32_40
  let v71 : BitVec 32 := Scalar.extui v70
  let v72 : BitVec 32 := Scalar.subi v69 v71
  let v73 : BitVec 1 := Scalar.cmpi .ne v67 v72
  let v74 : BitVec 32 := Scalar.remsi arg15 c8_i32_36
  let c0_i32_41 : BitVec 32 := 0#32
  let v75 : BitVec 1 := Scalar.cmpi .ne v74 c0_i32_41
  let v76 : BitVec 1 := Scalar.andi v73 v75
  let v62 : BitVec 32 := Scalar.divsi arg15 c8_i32_36
  let c1_i32_42 : BitVec 32 := 1#32
  let v77 : BitVec 32 := Scalar.subi v62 c1_i32_42
  let v78 : BitVec 32 := Scalar.select v76 v77 v62
  let v89 : BitVec 32 := Scalar.subi v19 v78
  let c4_i32 : BitVec 32 := 4#32
  let c0_i32_49 : BitVec 32 := 0#32
  let v90 : BitVec 1 := Scalar.cmpi .eq c4_i32 c0_i32_49
  let c1_i32_50 : BitVec 32 := 1#32
  let v91 : BitVec 32 := Scalar.select v90 c1_i32_50 c4_i32
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  let v100 : BitVec 32 := Scalar.muli c8_i32_54 v99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_55 : BitVec 32 := 1#32
  let v101 : BitVec 32 := Scalar.addi v29 c1_i32_55
  let c8_i32_43 : BitVec 32 := 8#32
  let c0_i32_44 : BitVec 32 := 0#32
  let v79 : BitVec 1 := Scalar.cmpi .eq c8_i32_43 c0_i32_44
  let c1_i32_45 : BitVec 32 := 1#32
  let v80 : BitVec 32 := Scalar.select v79 c1_i32_45 c8_i32_43
  let v81 : BitVec 32 := Scalar.remsi arg15 v80
  let c0_i32_47 : BitVec 32 := 0#32
  let v83 : BitVec 1 := Scalar.cmpi .slt v81 c0_i32_47
  let c0_i32_48 : BitVec 32 := 0#32
  let v84 : BitVec 1 := Scalar.cmpi .slt v80 c0_i32_48
  let v85 : BitVec 1 := Scalar.xori v83 v84
  let c0_i32_46 : BitVec 32 := 0#32
  let v82 : BitVec 1 := Scalar.cmpi .ne v81 c0_i32_46
  let v86 : BitVec 1 := Scalar.andi v85 v82
  let v87 : BitVec 32 := Scalar.addi v81 v80
  let v88 : BitVec 32 := Scalar.select v86 v87 v81
  let v102 : BitVec 32 := Scalar.addi v101 v88
  let c8_i32_56 : BitVec 32 := 8#32
  let c0_i32_57 : BitVec 32 := 0#32
  let v103 : BitVec 1 := Scalar.cmpi .eq c8_i32_56 c0_i32_57
  let c1_i32_58 : BitVec 32 := 1#32
  let v104 : BitVec 32 := Scalar.select v103 c1_i32_58 c8_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let v113 : BitVec 32 := Scalar.addi v100 v112
  ![v113.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_65 : BitVec 32 := 0#32
  let c0_i32_66 : BitVec 32 := 0#32
  ![v2.toNat, 0, 0]
def k0_off5 (d0 : Dev nD) (k0_t2 : Fin k0_t2_loop.trips) : Fin 2 → Nat :=
  let c8_i32_54 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_32 : BitVec 32 := 0#32
  let c1_i32_34 : BitVec 32 := 1#32
  let arg15 : BitVec 32 := Scf.iv c0_i32_32 c1_i32_34 k0_t2
  let c0_i32_37 : BitVec 32 := 0#32
  let v63 : BitVec 1 := Scalar.cmpi .sgt arg15 c0_i32_37
  let v64 : BitVec 32 := Scalar.extui v63
  let c0_i32_38 : BitVec 32 := 0#32
  let v65 : BitVec 1 := Scalar.cmpi .slt arg15 c0_i32_38
  let v66 : BitVec 32 := Scalar.extui v65
  let v67 : BitVec 32 := Scalar.subi v64 v66
  let c8_i32_36 : BitVec 32 := 8#32
  let c0_i32_39 : BitVec 32 := 0#32
  let v68 : BitVec 1 := Scalar.cmpi .sgt c8_i32_36 c0_i32_39
  let v69 : BitVec 32 := Scalar.extui v68
  let c0_i32_40 : BitVec 32 := 0#32
  let v70 : BitVec 1 := Scalar.cmpi .slt c8_i32_36 c0_i32_40
  let v71 : BitVec 32 := Scalar.extui v70
  let v72 : BitVec 32 := Scalar.subi v69 v71
  let v73 : BitVec 1 := Scalar.cmpi .ne v67 v72
  let v74 : BitVec 32 := Scalar.remsi arg15 c8_i32_36
  let c0_i32_41 : BitVec 32 := 0#32
  let v75 : BitVec 1 := Scalar.cmpi .ne v74 c0_i32_41
  let v76 : BitVec 1 := Scalar.andi v73 v75
  let v62 : BitVec 32 := Scalar.divsi arg15 c8_i32_36
  let c1_i32_42 : BitVec 32 := 1#32
  let v77 : BitVec 32 := Scalar.subi v62 c1_i32_42
  let v78 : BitVec 32 := Scalar.select v76 v77 v62
  let v89 : BitVec 32 := Scalar.subi v19 v78
  let c4_i32 : BitVec 32 := 4#32
  let c0_i32_49 : BitVec 32 := 0#32
  let v90 : BitVec 1 := Scalar.cmpi .eq c4_i32 c0_i32_49
  let c1_i32_50 : BitVec 32 := 1#32
  let v91 : BitVec 32 := Scalar.select v90 c1_i32_50 c4_i32
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  let v100 : BitVec 32 := Scalar.muli c8_i32_54 v99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_55 : BitVec 32 := 1#32
  let v101 : BitVec 32 := Scalar.addi v29 c1_i32_55
  let c8_i32_43 : BitVec 32 := 8#32
  let c0_i32_44 : BitVec 32 := 0#32
  let v79 : BitVec 1 := Scalar.cmpi .eq c8_i32_43 c0_i32_44
  let c1_i32_45 : BitVec 32 := 1#32
  let v80 : BitVec 32 := Scalar.select v79 c1_i32_45 c8_i32_43
  let v81 : BitVec 32 := Scalar.remsi arg15 v80
  let c0_i32_47 : BitVec 32 := 0#32
  let v83 : BitVec 1 := Scalar.cmpi .slt v81 c0_i32_47
  let c0_i32_48 : BitVec 32 := 0#32
  let v84 : BitVec 1 := Scalar.cmpi .slt v80 c0_i32_48
  let v85 : BitVec 1 := Scalar.xori v83 v84
  let c0_i32_46 : BitVec 32 := 0#32
  let v82 : BitVec 1 := Scalar.cmpi .ne v81 c0_i32_46
  let v86 : BitVec 1 := Scalar.andi v85 v82
  let v87 : BitVec 32 := Scalar.addi v81 v80
  let v88 : BitVec 32 := Scalar.select v86 v87 v81
  let v102 : BitVec 32 := Scalar.addi v101 v88
  let c8_i32_56 : BitVec 32 := 8#32
  let c0_i32_57 : BitVec 32 := 0#32
  let v103 : BitVec 1 := Scalar.cmpi .eq c8_i32_56 c0_i32_57
  let c1_i32_58 : BitVec 32 := 1#32
  let v104 : BitVec 32 := Scalar.select v103 c1_i32_58 c8_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let v113 : BitVec 32 := Scalar.addi v100 v112
  let c128_i32 : BitVec 32 := 128#32
  let v117 : BitVec 32 := Scalar.muli v113 c128_i32
  let c0_i32_67 : BitVec 32 := 0#32
  ![v117.toNat, 0]
def k0_dev2 (d0 : Dev nD) (k0_t2 : Fin k0_t2_loop.trips) : Nat :=
  let c0_i32_64 : BitVec 32 := 0#32
  let c8_i32_54 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_32 : BitVec 32 := 0#32
  let c1_i32_34 : BitVec 32 := 1#32
  let arg15 : BitVec 32 := Scf.iv c0_i32_32 c1_i32_34 k0_t2
  let c0_i32_37 : BitVec 32 := 0#32
  let v63 : BitVec 1 := Scalar.cmpi .sgt arg15 c0_i32_37
  let v64 : BitVec 32 := Scalar.extui v63
  let c0_i32_38 : BitVec 32 := 0#32
  let v65 : BitVec 1 := Scalar.cmpi .slt arg15 c0_i32_38
  let v66 : BitVec 32 := Scalar.extui v65
  let v67 : BitVec 32 := Scalar.subi v64 v66
  let c8_i32_36 : BitVec 32 := 8#32
  let c0_i32_39 : BitVec 32 := 0#32
  let v68 : BitVec 1 := Scalar.cmpi .sgt c8_i32_36 c0_i32_39
  let v69 : BitVec 32 := Scalar.extui v68
  let c0_i32_40 : BitVec 32 := 0#32
  let v70 : BitVec 1 := Scalar.cmpi .slt c8_i32_36 c0_i32_40
  let v71 : BitVec 32 := Scalar.extui v70
  let v72 : BitVec 32 := Scalar.subi v69 v71
  let v73 : BitVec 1 := Scalar.cmpi .ne v67 v72
  let v74 : BitVec 32 := Scalar.remsi arg15 c8_i32_36
  let c0_i32_41 : BitVec 32 := 0#32
  let v75 : BitVec 1 := Scalar.cmpi .ne v74 c0_i32_41
  let v76 : BitVec 1 := Scalar.andi v73 v75
  let v62 : BitVec 32 := Scalar.divsi arg15 c8_i32_36
  let c1_i32_42 : BitVec 32 := 1#32
  let v77 : BitVec 32 := Scalar.subi v62 c1_i32_42
  let v78 : BitVec 32 := Scalar.select v76 v77 v62
  let v89 : BitVec 32 := Scalar.subi v19 v78
  let c4_i32 : BitVec 32 := 4#32
  let c0_i32_49 : BitVec 32 := 0#32
  let v90 : BitVec 1 := Scalar.cmpi .eq c4_i32 c0_i32_49
  let c1_i32_50 : BitVec 32 := 1#32
  let v91 : BitVec 32 := Scalar.select v90 c1_i32_50 c4_i32
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  let v100 : BitVec 32 := Scalar.muli c8_i32_54 v99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_55 : BitVec 32 := 1#32
  let v101 : BitVec 32 := Scalar.addi v29 c1_i32_55
  let c8_i32_43 : BitVec 32 := 8#32
  let c0_i32_44 : BitVec 32 := 0#32
  let v79 : BitVec 1 := Scalar.cmpi .eq c8_i32_43 c0_i32_44
  let c1_i32_45 : BitVec 32 := 1#32
  let v80 : BitVec 32 := Scalar.select v79 c1_i32_45 c8_i32_43
  let v81 : BitVec 32 := Scalar.remsi arg15 v80
  let c0_i32_47 : BitVec 32 := 0#32
  let v83 : BitVec 1 := Scalar.cmpi .slt v81 c0_i32_47
  let c0_i32_48 : BitVec 32 := 0#32
  let v84 : BitVec 1 := Scalar.cmpi .slt v80 c0_i32_48
  let v85 : BitVec 1 := Scalar.xori v83 v84
  let c0_i32_46 : BitVec 32 := 0#32
  let v82 : BitVec 1 := Scalar.cmpi .ne v81 c0_i32_46
  let v86 : BitVec 1 := Scalar.andi v85 v82
  let v87 : BitVec 32 := Scalar.addi v81 v80
  let v88 : BitVec 32 := Scalar.select v86 v87 v81
  let v102 : BitVec 32 := Scalar.addi v101 v88
  let c8_i32_56 : BitVec 32 := 8#32
  let c0_i32_57 : BitVec 32 := 0#32
  let v103 : BitVec 1 := Scalar.cmpi .eq c8_i32_56 c0_i32_57
  let c1_i32_58 : BitVec 32 := 1#32
  let v104 : BitVec 32 := Scalar.select v103 c1_i32_58 c8_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let v113 : BitVec 32 := Scalar.addi v100 v112
  let c1_i32_63 : BitVec 32 := 1#32
  let v118 : BitVec 32 := Scalar.muli v113 c1_i32_63
  let v119 : BitVec 32 := Scalar.addi c0_i32_64 v118
  v119.toNat
def k0_off6 (i : grid0.Coords) : Fin 1 → Nat :=
  let arg0 : BitVec 32 := BitVec.ofNat 32 (i 0).val
  let v35 : Index := Scalar.indexCast arg0
  ![v35.toNat]
def k0_cond4 (i : grid0.Coords) : BitVec 1 :=
  let arg1 : BitVec 32 := BitVec.ofNat 32 (i 1).val
  let c0_i32_14 : BitVec 32 := 0#32
  let v37 : BitVec 1 := Scalar.cmpi .eq arg1 c0_i32_14
  let v38 : BitVec 32 := Scalar.extui v37
  let c0_i32_15 : BitVec 32 := 0#32
  let v39 : BitVec 1 := Scalar.cmpi .ne v38 c0_i32_15
  v39

@[reducible] def k0_t3_loop : Scf.Loop 32 :=
  let c0_i32_25 : BitVec 32 := 0#32
  let c8_i32_26 : BitVec 32 := 8#32
  let v55 : BitVec 32 := Scalar.addi c0_i32_25 c8_i32_26
  let c1_i32_27 : BitVec 32 := 1#32
  ⟨c0_i32_25, v55, c1_i32_27⟩
def k0_off7 (v36 : BitVec 32) (k0_t3 : Fin k0_t3_loop.trips) : Fin 1 → Nat :=
  let c8_i32_59 : BitVec 32 := 8#32
  let v120 : BitVec 32 := Scalar.muli v36 c8_i32_59
  let c0_i32_25 : BitVec 32 := 0#32
  let c1_i32_27 : BitVec 32 := 1#32
  let arg15 : BitVec 32 := Scf.iv c0_i32_25 c1_i32_27 k0_t3
  let v121 : BitVec 32 := Scalar.addi v120 arg15
  ![v121.toNat]
def k0_cond5 (d0 : Dev nD) (v36 : BitVec 32) (k0_t3 : Fin k0_t3_loop.trips) : BitVec 1 :=
  let c8_i32_59 : BitVec 32 := 8#32
  let v120 : BitVec 32 := Scalar.muli v36 c8_i32_59
  let c0_i32_25 : BitVec 32 := 0#32
  let c1_i32_27 : BitVec 32 := 1#32
  let arg15 : BitVec 32 := Scf.iv c0_i32_25 c1_i32_27 k0_t3
  let v121 : BitVec 32 := Scalar.addi v120 arg15
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 1 := Scalar.cmpi .ne v121 v2
  let v123 : BitVec 32 := Scalar.extui v122
  let c0_i32_60 : BitVec 32 := 0#32
  let v124 : BitVec 1 := Scalar.cmpi .ne v123 c0_i32_60
  v124

def k0_off8 (v36 : BitVec 32) (k0_t3 : Fin k0_t3_loop.trips) : Fin 3 → Nat :=
  let c8_i32_59 : BitVec 32 := 8#32
  let v120 : BitVec 32 := Scalar.muli v36 c8_i32_59
  let c0_i32_25 : BitVec 32 := 0#32
  let c1_i32_27 : BitVec 32 := 1#32
  let arg15 : BitVec 32 := Scf.iv c0_i32_25 c1_i32_27 k0_t3
  let v121 : BitVec 32 := Scalar.addi v120 arg15
  let c0_i32_65 : BitVec 32 := 0#32
  let c0_i32_66 : BitVec 32 := 0#32
  ![v121.toNat, 0, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v56 : BitVec 32 := Scalar.muli v2 c128_i32
  let v57 : Index := Scalar.indexCast v56
  let c0_29 : Index := 0#32
  ![v57.toNat, 0]
def k0_off10 (v36 : BitVec 32) (c0_i32_31 : BitVec 32) : Fin 3 → Nat :=
  let c8_i32_30 : BitVec 32 := 8#32
  let v60 : BitVec 32 := Scalar.muli v36 c8_i32_30
  let v61 : BitVec 32 := Scalar.addi v60 c0_i32_31
  let v63 : Index := Scalar.indexCast v61
  let c0_32 : Index := 0#32
  let c0_33 : Index := 0#32
  ![v63.toNat, 0, 0]

def k0_chk1 (i : grid0.Coords) (d0 : Dev nD) (v36 : BitVec 32) : Prop :=
  (∀ k0_t3 : Fin k0_t3_loop.trips, ∀ (k0_h4 : k0_cond4 i = 1#1), ∀ (k0_h5 : k0_cond5 d0 v36 k0_t3 = 1#1), ∀ a, (k0_off7 v36 k0_t3) a + S1.size a ≤ S32.size a) ∧
  (∀ k0_t3 : Fin k0_t3_loop.trips, ∀ (k0_h4 : k0_cond4 i = 1#1), ∀ (k0_h5 : k0_cond5 d0 v36 k0_t3 = 1#1), ∀ a, (k0_off8 v36 k0_t3) a + S1x128x128.size a ≤ S32x128x128.size a) ∧
  (∀ (k0_h4 : k0_cond4 i = 1#1), ∀ (r : Fin 8), ∀ a, (k0_off10 v36 (BitVec.ofNat 32 r.val)) a + S1x128x128.size a ≤ S32x128x128.size a)
theorem k0_off7_inb : ∀ (i : grid0.Coords) (d0 : Dev nD) (v36 : BitVec 32) (k0_hw1 : k0_chk1 i d0 v36) (k0_t3 : Fin k0_t3_loop.trips), ∀ (k0_h4 : k0_cond4 i = 1#1), ∀ (k0_h5 : k0_cond5 d0 v36 k0_t3 = 1#1), ∀ a, (k0_off7 v36 k0_t3) a + S1.size a ≤ S32.size a := fun i d0 v36 k0_hw1 k0_t3 k0_h4 k0_h5 => k0_hw1.1 k0_t3 k0_h4 k0_h5
theorem k0_off8_inb : ∀ (i : grid0.Coords) (d0 : Dev nD) (v36 : BitVec 32) (k0_hw1 : k0_chk1 i d0 v36) (k0_t3 : Fin k0_t3_loop.trips), ∀ (k0_h4 : k0_cond4 i = 1#1), ∀ (k0_h5 : k0_cond5 d0 v36 k0_t3 = 1#1), ∀ a, (k0_off8 v36 k0_t3) a + S1x128x128.size a ≤ S32x128x128.size a := fun i d0 v36 k0_hw1 k0_t3 k0_h4 k0_h5 => k0_hw1.2.1 k0_t3 k0_h4 k0_h5
theorem k0_off10_inb : ∀ (i : grid0.Coords) (d0 : Dev nD) (v36 : BitVec 32) (k0_hw1 : k0_chk1 i d0 v36), ∀ (k0_h4 : k0_cond4 i = 1#1), ∀ (r : Fin 8), ∀ a, (k0_off10 v36 (BitVec.ofNat 32 r.val)) a + S1x128x128.size a ≤ S32x128x128.size a := fun i d0 v36 k0_hw1 k0_h4 r => k0_hw1.2.2 k0_h4 r

def k0_cond6 (i : grid0.Coords) : BitVec 1 :=
  let arg0 : BitVec 32 := BitVec.ofNat 32 (i 0).val
  let c0_i32_19 : BitVec 32 := 0#32
  let v44 : BitVec 1 := Scalar.cmpi .eq arg0 c0_i32_19
  let v45 : BitVec 32 := Scalar.extui v44
  let c0_i32_20 : BitVec 32 := 0#32
  let v46 : BitVec 1 := Scalar.cmpi .ne v45 c0_i32_20
  v46

def k0_off11 (i : grid0.Coords) : Fin 3 → Nat :=
  let arg1 : BitVec 32 := BitVec.ofNat 32 (i 1).val
  let v55 : Index := Scalar.indexCast arg1
  let c0_25 : Index := 0#32
  let c0_26 : Index := 0#32
  ![v55.toNat, 0, 0]
def k0_cond7 (i : grid0.Coords) : BitVec 1 :=
  let arg0 : BitVec 32 := BitVec.ofNat 32 (i 0).val
  let c0_i32_21 : BitVec 32 := 0#32
  let v47 : BitVec 1 := Scalar.cmpi .sgt arg0 c0_i32_21
  let v48 : BitVec 32 := Scalar.extui v47
  let c0_i32_22 : BitVec 32 := 0#32
  let v49 : BitVec 1 := Scalar.cmpi .ne v48 c0_i32_22
  v49

def k0_off12 (i : grid0.Coords) : Fin 3 → Nat :=
  let arg1 : BitVec 32 := BitVec.ofNat 32 (i 1).val
  let v55 : Index := Scalar.indexCast arg1
  let c0_25 : Index := 0#32
  let c0_26 : Index := 0#32
  ![v55.toNat, 0, 0]
def k0_cond8 (i : grid0.Coords) : BitVec 1 :=
  let arg0 : BitVec 32 := BitVec.ofNat 32 (i 0).val
  let c3_i32 : BitVec 32 := 3#32
  let v50 : BitVec 1 := Scalar.cmpi .eq arg0 c3_i32
  let arg1 : BitVec 32 := BitVec.ofNat 32 (i 1).val
  let c1_i32_23 : BitVec 32 := 1#32
  let v51 : BitVec 1 := Scalar.cmpi .eq arg1 c1_i32_23
  let v52 : BitVec 1 := Scalar.andi v50 v51
  let v53 : BitVec 32 := Scalar.extui v52
  let c0_i32_24 : BitVec 32 := 0#32
  let v54 : BitVec 1 := Scalar.cmpi .ne v53 c0_i32_24
  v54

@[reducible] def k0_t4_loop : Scf.Loop 32 :=
  let c0_i32_31 : BitVec 32 := 0#32
  let c32_i32_32 : BitVec 32 := 32#32
  let v65 : BitVec 32 := Scalar.addi c0_i32_31 c32_i32_32
  let c1_i32_33 : BitVec 32 := 1#32
  ⟨c0_i32_31, v65, c1_i32_33⟩
def k0_cond9 (d0 : Dev nD) (k0_t4 : Fin k0_t4_loop.trips) : BitVec 1 :=
  let c8_i32_77 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let c1_i32_33 : BitVec 32 := 1#32
  let arg15 : BitVec 32 := Scf.iv c0_i32_31 c1_i32_33 k0_t4
  let c0_i32_60 : BitVec 32 := 0#32
  let v100 : BitVec 1 := Scalar.cmpi .sgt arg15 c0_i32_60
  let v101 : BitVec 32 := Scalar.extui v100
  let c0_i32_61 : BitVec 32 := 0#32
  let v102 : BitVec 1 := Scalar.cmpi .slt arg15 c0_i32_61
  let v103 : BitVec 32 := Scalar.extui v102
  let v104 : BitVec 32 := Scalar.subi v101 v103
  let c8_i32_59 : BitVec 32 := 8#32
  let c0_i32_62 : BitVec 32 := 0#32
  let v105 : BitVec 1 := Scalar.cmpi .sgt c8_i32_59 c0_i32_62
  let v106 : BitVec 32 := Scalar.extui v105
  let c0_i32_63 : BitVec 32 := 0#32
  let v107 : BitVec 1 := Scalar.cmpi .slt c8_i32_59 c0_i32_63
  let v108 : BitVec 32 := Scalar.extui v107
  let v109 : BitVec 32 := Scalar.subi v106 v108
  let v110 : BitVec 1 := Scalar.cmpi .ne v104 v109
  let v111 : BitVec 32 := Scalar.remsi arg15 c8_i32_59
  let c0_i32_64 : BitVec 32 := 0#32
  let v112 : BitVec 1 := Scalar.cmpi .ne v111 c0_i32_64
  let v113 : BitVec 1 := Scalar.andi v110 v112
  let v99 : BitVec 32 := Scalar.divsi arg15 c8_i32_59
  let c1_i32_65 : BitVec 32 := 1#32
  let v114 : BitVec 32 := Scalar.subi v99 c1_i32_65
  let v115 : BitVec 32 := Scalar.select v113 v114 v99
  let v126 : BitVec 32 := Scalar.subi v19 v115
  let c4_i32 : BitVec 32 := 4#32
  let c0_i32_72 : BitVec 32 := 0#32
  let v127 : BitVec 1 := Scalar.cmpi .eq c4_i32 c0_i32_72
  let c1_i32_73 : BitVec 32 := 1#32
  let v128 : BitVec 32 := Scalar.select v127 c1_i32_73 c4_i32
  let v129 : BitVec 32 := Scalar.remsi v126 v128
  let c0_i32_75 : BitVec 32 := 0#32
  let v131 : BitVec 1 := Scalar.cmpi .slt v129 c0_i32_75
  let c0_i32_76 : BitVec 32 := 0#32
  let v132 : BitVec 1 := Scalar.cmpi .slt v128 c0_i32_76
  let v133 : BitVec 1 := Scalar.xori v131 v132
  let c0_i32_74 : BitVec 32 := 0#32
  let v130 : BitVec 1 := Scalar.cmpi .ne v129 c0_i32_74
  let v134 : BitVec 1 := Scalar.andi v133 v130
  let v135 : BitVec 32 := Scalar.addi v129 v128
  let v136 : BitVec 32 := Scalar.select v134 v135 v129
  let v137 : BitVec 32 := Scalar.muli c8_i32_77 v136
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_78 : BitVec 32 := 1#32
  let v138 : BitVec 32 := Scalar.addi v29 c1_i32_78
  let c8_i32_66 : BitVec 32 := 8#32
  let c0_i32_67 : BitVec 32 := 0#32
  let v116 : BitVec 1 := Scalar.cmpi .eq c8_i32_66 c0_i32_67
  let c1_i32_68 : BitVec 32 := 1#32
  let v117 : BitVec 32 := Scalar.select v116 c1_i32_68 c8_i32_66
  let v118 : BitVec 32 := Scalar.remsi arg15 v117
  let c0_i32_70 : BitVec 32 := 0#32
  let v120 : BitVec 1 := Scalar.cmpi .slt v118 c0_i32_70
  let c0_i32_71 : BitVec 32 := 0#32
  let v121 : BitVec 1 := Scalar.cmpi .slt v117 c0_i32_71
  let v122 : BitVec 1 := Scalar.xori v120 v121
  let c0_i32_69 : BitVec 32 := 0#32
  let v119 : BitVec 1 := Scalar.cmpi .ne v118 c0_i32_69
  let v123 : BitVec 1 := Scalar.andi v122 v119
  let v124 : BitVec 32 := Scalar.addi v118 v117
  let v125 : BitVec 32 := Scalar.select v123 v124 v118
  let v139 : BitVec 32 := Scalar.addi v138 v125
  let c8_i32_79 : BitVec 32 := 8#32
  let c0_i32_80 : BitVec 32 := 0#32
  let v140 : BitVec 1 := Scalar.cmpi .eq c8_i32_79 c0_i32_80
  let c1_i32_81 : BitVec 32 := 1#32
  let v141 : BitVec 32 := Scalar.select v140 c1_i32_81 c8_i32_79
  let v142 : BitVec 32 := Scalar.remsi v139 v141
  let c0_i32_83 : BitVec 32 := 0#32
  let v144 : BitVec 1 := Scalar.cmpi .slt v142 c0_i32_83
  let c0_i32_84 : BitVec 32 := 0#32
  let v145 : BitVec 1 := Scalar.cmpi .slt v141 c0_i32_84
  let v146 : BitVec 1 := Scalar.xori v144 v145
  let c0_i32_82 : BitVec 32 := 0#32
  let v143 : BitVec 1 := Scalar.cmpi .ne v142 c0_i32_82
  let v147 : BitVec 1 := Scalar.andi v146 v143
  let v148 : BitVec 32 := Scalar.addi v142 v141
  let v149 : BitVec 32 := Scalar.select v147 v148 v142
  let v150 : BitVec 32 := Scalar.addi v137 v149
  let v151 : BitVec 1 := Scalar.cmpi .ne v150 v2
  let v152 : BitVec 32 := Scalar.extui v151
  let c0_i32_85 : BitVec 32 := 0#32
  let v153 : BitVec 1 := Scalar.cmpi .ne v152 c0_i32_85
  v153

def k0_off13 (d0 : Dev nD) (k0_t4 : Fin k0_t4_loop.trips) : Fin 1 → Nat :=
  let c8_i32_77 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let c1_i32_33 : BitVec 32 := 1#32
  let arg15 : BitVec 32 := Scf.iv c0_i32_31 c1_i32_33 k0_t4
  let c0_i32_60 : BitVec 32 := 0#32
  let v100 : BitVec 1 := Scalar.cmpi .sgt arg15 c0_i32_60
  let v101 : BitVec 32 := Scalar.extui v100
  let c0_i32_61 : BitVec 32 := 0#32
  let v102 : BitVec 1 := Scalar.cmpi .slt arg15 c0_i32_61
  let v103 : BitVec 32 := Scalar.extui v102
  let v104 : BitVec 32 := Scalar.subi v101 v103
  let c8_i32_59 : BitVec 32 := 8#32
  let c0_i32_62 : BitVec 32 := 0#32
  let v105 : BitVec 1 := Scalar.cmpi .sgt c8_i32_59 c0_i32_62
  let v106 : BitVec 32 := Scalar.extui v105
  let c0_i32_63 : BitVec 32 := 0#32
  let v107 : BitVec 1 := Scalar.cmpi .slt c8_i32_59 c0_i32_63
  let v108 : BitVec 32 := Scalar.extui v107
  let v109 : BitVec 32 := Scalar.subi v106 v108
  let v110 : BitVec 1 := Scalar.cmpi .ne v104 v109
  let v111 : BitVec 32 := Scalar.remsi arg15 c8_i32_59
  let c0_i32_64 : BitVec 32 := 0#32
  let v112 : BitVec 1 := Scalar.cmpi .ne v111 c0_i32_64
  let v113 : BitVec 1 := Scalar.andi v110 v112
  let v99 : BitVec 32 := Scalar.divsi arg15 c8_i32_59
  let c1_i32_65 : BitVec 32 := 1#32
  let v114 : BitVec 32 := Scalar.subi v99 c1_i32_65
  let v115 : BitVec 32 := Scalar.select v113 v114 v99
  let v126 : BitVec 32 := Scalar.subi v19 v115
  let c4_i32 : BitVec 32 := 4#32
  let c0_i32_72 : BitVec 32 := 0#32
  let v127 : BitVec 1 := Scalar.cmpi .eq c4_i32 c0_i32_72
  let c1_i32_73 : BitVec 32 := 1#32
  let v128 : BitVec 32 := Scalar.select v127 c1_i32_73 c4_i32
  let v129 : BitVec 32 := Scalar.remsi v126 v128
  let c0_i32_75 : BitVec 32 := 0#32
  let v131 : BitVec 1 := Scalar.cmpi .slt v129 c0_i32_75
  let c0_i32_76 : BitVec 32 := 0#32
  let v132 : BitVec 1 := Scalar.cmpi .slt v128 c0_i32_76
  let v133 : BitVec 1 := Scalar.xori v131 v132
  let c0_i32_74 : BitVec 32 := 0#32
  let v130 : BitVec 1 := Scalar.cmpi .ne v129 c0_i32_74
  let v134 : BitVec 1 := Scalar.andi v133 v130
  let v135 : BitVec 32 := Scalar.addi v129 v128
  let v136 : BitVec 32 := Scalar.select v134 v135 v129
  let v137 : BitVec 32 := Scalar.muli c8_i32_77 v136
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_78 : BitVec 32 := 1#32
  let v138 : BitVec 32 := Scalar.addi v29 c1_i32_78
  let c8_i32_66 : BitVec 32 := 8#32
  let c0_i32_67 : BitVec 32 := 0#32
  let v116 : BitVec 1 := Scalar.cmpi .eq c8_i32_66 c0_i32_67
  let c1_i32_68 : BitVec 32 := 1#32
  let v117 : BitVec 32 := Scalar.select v116 c1_i32_68 c8_i32_66
  let v118 : BitVec 32 := Scalar.remsi arg15 v117
  let c0_i32_70 : BitVec 32 := 0#32
  let v120 : BitVec 1 := Scalar.cmpi .slt v118 c0_i32_70
  let c0_i32_71 : BitVec 32 := 0#32
  let v121 : BitVec 1 := Scalar.cmpi .slt v117 c0_i32_71
  let v122 : BitVec 1 := Scalar.xori v120 v121
  let c0_i32_69 : BitVec 32 := 0#32
  let v119 : BitVec 1 := Scalar.cmpi .ne v118 c0_i32_69
  let v123 : BitVec 1 := Scalar.andi v122 v119
  let v124 : BitVec 32 := Scalar.addi v118 v117
  let v125 : BitVec 32 := Scalar.select v123 v124 v118
  let v139 : BitVec 32 := Scalar.addi v138 v125
  let c8_i32_79 : BitVec 32 := 8#32
  let c0_i32_80 : BitVec 32 := 0#32
  let v140 : BitVec 1 := Scalar.cmpi .eq c8_i32_79 c0_i32_80
  let c1_i32_81 : BitVec 32 := 1#32
  let v141 : BitVec 32 := Scalar.select v140 c1_i32_81 c8_i32_79
  let v142 : BitVec 32 := Scalar.remsi v139 v141
  let c0_i32_83 : BitVec 32 := 0#32
  let v144 : BitVec 1 := Scalar.cmpi .slt v142 c0_i32_83
  let c0_i32_84 : BitVec 32 := 0#32
  let v145 : BitVec 1 := Scalar.cmpi .slt v141 c0_i32_84
  let v146 : BitVec 1 := Scalar.xori v144 v145
  let c0_i32_82 : BitVec 32 := 0#32
  let v143 : BitVec 1 := Scalar.cmpi .ne v142 c0_i32_82
  let v147 : BitVec 1 := Scalar.andi v146 v143
  let v148 : BitVec 32 := Scalar.addi v142 v141
  let v149 : BitVec 32 := Scalar.select v147 v148 v142
  let v150 : BitVec 32 := Scalar.addi v137 v149
  ![v150.toNat]
def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_88 : BitVec 32 := 0#32
  ![v2.toNat, 0]
def k0_dev3 (d0 : Dev nD) (k0_t4 : Fin k0_t4_loop.trips) : Nat :=
  let c0_i32_87 : BitVec 32 := 0#32
  let c8_i32_77 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let c1_i32_33 : BitVec 32 := 1#32
  let arg15 : BitVec 32 := Scf.iv c0_i32_31 c1_i32_33 k0_t4
  let c0_i32_60 : BitVec 32 := 0#32
  let v100 : BitVec 1 := Scalar.cmpi .sgt arg15 c0_i32_60
  let v101 : BitVec 32 := Scalar.extui v100
  let c0_i32_61 : BitVec 32 := 0#32
  let v102 : BitVec 1 := Scalar.cmpi .slt arg15 c0_i32_61
  let v103 : BitVec 32 := Scalar.extui v102
  let v104 : BitVec 32 := Scalar.subi v101 v103
  let c8_i32_59 : BitVec 32 := 8#32
  let c0_i32_62 : BitVec 32 := 0#32
  let v105 : BitVec 1 := Scalar.cmpi .sgt c8_i32_59 c0_i32_62
  let v106 : BitVec 32 := Scalar.extui v105
  let c0_i32_63 : BitVec 32 := 0#32
  let v107 : BitVec 1 := Scalar.cmpi .slt c8_i32_59 c0_i32_63
  let v108 : BitVec 32 := Scalar.extui v107
  let v109 : BitVec 32 := Scalar.subi v106 v108
  let v110 : BitVec 1 := Scalar.cmpi .ne v104 v109
  let v111 : BitVec 32 := Scalar.remsi arg15 c8_i32_59
  let c0_i32_64 : BitVec 32 := 0#32
  let v112 : BitVec 1 := Scalar.cmpi .ne v111 c0_i32_64
  let v113 : BitVec 1 := Scalar.andi v110 v112
  let v99 : BitVec 32 := Scalar.divsi arg15 c8_i32_59
  let c1_i32_65 : BitVec 32 := 1#32
  let v114 : BitVec 32 := Scalar.subi v99 c1_i32_65
  let v115 : BitVec 32 := Scalar.select v113 v114 v99
  let v126 : BitVec 32 := Scalar.subi v19 v115
  let c4_i32 : BitVec 32 := 4#32
  let c0_i32_72 : BitVec 32 := 0#32
  let v127 : BitVec 1 := Scalar.cmpi .eq c4_i32 c0_i32_72
  let c1_i32_73 : BitVec 32 := 1#32
  let v128 : BitVec 32 := Scalar.select v127 c1_i32_73 c4_i32
  let v129 : BitVec 32 := Scalar.remsi v126 v128
  let c0_i32_75 : BitVec 32 := 0#32
  let v131 : BitVec 1 := Scalar.cmpi .slt v129 c0_i32_75
  let c0_i32_76 : BitVec 32 := 0#32
  let v132 : BitVec 1 := Scalar.cmpi .slt v128 c0_i32_76
  let v133 : BitVec 1 := Scalar.xori v131 v132
  let c0_i32_74 : BitVec 32 := 0#32
  let v130 : BitVec 1 := Scalar.cmpi .ne v129 c0_i32_74
  let v134 : BitVec 1 := Scalar.andi v133 v130
  let v135 : BitVec 32 := Scalar.addi v129 v128
  let v136 : BitVec 32 := Scalar.select v134 v135 v129
  let v137 : BitVec 32 := Scalar.muli c8_i32_77 v136
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_78 : BitVec 32 := 1#32
  let v138 : BitVec 32 := Scalar.addi v29 c1_i32_78
  let c8_i32_66 : BitVec 32 := 8#32
  let c0_i32_67 : BitVec 32 := 0#32
  let v116 : BitVec 1 := Scalar.cmpi .eq c8_i32_66 c0_i32_67
  let c1_i32_68 : BitVec 32 := 1#32
  let v117 : BitVec 32 := Scalar.select v116 c1_i32_68 c8_i32_66
  let v118 : BitVec 32 := Scalar.remsi arg15 v117
  let c0_i32_70 : BitVec 32 := 0#32
  let v120 : BitVec 1 := Scalar.cmpi .slt v118 c0_i32_70
  let c0_i32_71 : BitVec 32 := 0#32
  let v121 : BitVec 1 := Scalar.cmpi .slt v117 c0_i32_71
  let v122 : BitVec 1 := Scalar.xori v120 v121
  let c0_i32_69 : BitVec 32 := 0#32
  let v119 : BitVec 1 := Scalar.cmpi .ne v118 c0_i32_69
  let v123 : BitVec 1 := Scalar.andi v122 v119
  let v124 : BitVec 32 := Scalar.addi v118 v117
  let v125 : BitVec 32 := Scalar.select v123 v124 v118
  let v139 : BitVec 32 := Scalar.addi v138 v125
  let c8_i32_79 : BitVec 32 := 8#32
  let c0_i32_80 : BitVec 32 := 0#32
  let v140 : BitVec 1 := Scalar.cmpi .eq c8_i32_79 c0_i32_80
  let c1_i32_81 : BitVec 32 := 1#32
  let v141 : BitVec 32 := Scalar.select v140 c1_i32_81 c8_i32_79
  let v142 : BitVec 32 := Scalar.remsi v139 v141
  let c0_i32_83 : BitVec 32 := 0#32
  let v144 : BitVec 1 := Scalar.cmpi .slt v142 c0_i32_83
  let c0_i32_84 : BitVec 32 := 0#32
  let v145 : BitVec 1 := Scalar.cmpi .slt v141 c0_i32_84
  let v146 : BitVec 1 := Scalar.xori v144 v145
  let c0_i32_82 : BitVec 32 := 0#32
  let v143 : BitVec 1 := Scalar.cmpi .ne v142 c0_i32_82
  let v147 : BitVec 1 := Scalar.andi v146 v143
  let v148 : BitVec 32 := Scalar.addi v142 v141
  let v149 : BitVec 32 := Scalar.select v147 v148 v142
  let v150 : BitVec 32 := Scalar.addi v137 v149
  let c1_i32_86 : BitVec 32 := 1#32
  let v154 : BitVec 32 := Scalar.muli v150 c1_i32_86
  let v155 : BitVec 32 := Scalar.addi c0_i32_87 v154
  v155.toNat
@[reducible] def k0_t5_loop : Scf.Loop 32 :=
  let c0_i32_35 : BitVec 32 := 0#32
  let c32_i32_36 : BitVec 32 := 32#32
  let v66 : BitVec 32 := Scalar.addi c0_i32_35 c32_i32_36
  let c1_i32_37 : BitVec 32 := 1#32
  ⟨c0_i32_35, v66, c1_i32_37⟩
def k0_cond10 (d0 : Dev nD) (k0_t5 : Fin k0_t5_loop.trips) : BitVec 1 :=
  let c0_i32_35 : BitVec 32 := 0#32
  let c1_i32_37 : BitVec 32 := 1#32
  let arg15 : BitVec 32 := Scf.iv c0_i32_35 c1_i32_37 k0_t5
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v99 : BitVec 1 := Scalar.cmpi .ne arg15 v2
  let v100 : BitVec 32 := Scalar.extui v99
  let c0_i32_59 : BitVec 32 := 0#32
  let v101 : BitVec 1 := Scalar.cmpi .ne v100 c0_i32_59
  v101

def k0_off16 (k0_t5 : Fin k0_t5_loop.trips) : Fin 1 → Nat :=
  let c0_i32_35 : BitVec 32 := 0#32
  let c1_i32_37 : BitVec 32 := 1#32
  let arg15 : BitVec 32 := Scf.iv c0_i32_35 c1_i32_37 k0_t5
  ![arg15.toNat]
def k0_off17 (k0_t5 : Fin k0_t5_loop.trips) : Fin 2 → Nat :=
  let c0_i32_35 : BitVec 32 := 0#32
  let c1_i32_37 : BitVec 32 := 1#32
  let arg15 : BitVec 32 := Scf.iv c0_i32_35 c1_i32_37 k0_t5
  let c0_i32_63 : BitVec 32 := 0#32
  ![arg15.toNat, 0]
@[reducible] def k0_t6_loop : Scf.Loop 32 :=
  let c0_i32_55 : BitVec 32 := 0#32
  let c32_i32_56 : BitVec 32 := 32#32
  let v98 : BitVec 32 := Scalar.addi c0_i32_55 c32_i32_56
  let c1_i32_57 : BitVec 32 := 1#32
  ⟨c0_i32_55, v98, c1_i32_57⟩
def k0_cond11 (d0 : Dev nD) (k0_t6 : Fin k0_t6_loop.trips) : BitVec 1 :=
  let c0_i32_55 : BitVec 32 := 0#32
  let c1_i32_57 : BitVec 32 := 1#32
  let arg15 : BitVec 32 := Scf.iv c0_i32_55 c1_i32_57 k0_t6
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v99 : BitVec 1 := Scalar.cmpi .ne arg15 v2
  let v100 : BitVec 32 := Scalar.extui v99
  let c0_i32_59 : BitVec 32 := 0#32
  let v101 : BitVec 1 := Scalar.cmpi .ne v100 c0_i32_59
  v101

def k0_off18 (k0_t6 : Fin k0_t6_loop.trips) : Fin 1 → Nat :=
  let c0_i32_55 : BitVec 32 := 0#32
  let c1_i32_57 : BitVec 32 := 1#32
  let arg15 : BitVec 32 := Scf.iv c0_i32_55 c1_i32_57 k0_t6
  ![arg15.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let c0_i32_64 : BitVec 32 := 0#32
  ![v2.toNat, 0, 0]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_66 : BitVec 32 := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Words.lean ====
/-
The kernel's printed words in closed form: which device a trip of a loop addresses, which slot, row block and
semaphore it names, and at which grid points its branches run.
-/
module

public import proofs.«01_k».proof.Proof.Gen.KernelIdeal
public import proofs.«01_k».proof.Proof.Gen.KernelIdeal.Skeleton

@[expose] public section

set_option maxRecDepth 16384

noncomputable section

namespace Cert.A2A

open Cert.KernelIdeal Cert.KernelIdeal.Gen
open Idealize.ShloMosaic Idealize.ShloMosaic.TcCoe

set_option backward.proofsInPublic true in
/-- The device that trip `i` of a sending loop on device `c` addresses: the quarters of the mesh downward from its own, and
    within a quarter the lanes upward from its own. -/
def peer (c : Dev nD) (i : Fin 32) : Dev nD :=
  ⟨8 * ((c.val / 8 + 4 - i.val / 8) % 4) + (c.val % 8 + 1 + i.val % 8) % 8, by
    have h1 : (c.val / 8 + 4 - i.val / 8) % 4 < 4 := Nat.mod_lt _ (by decide)
    have h2 : (c.val % 8 + 1 + i.val % 8) % 8 < 8 := Nat.mod_lt _ (by decide)
    show _ < 32
    omega⟩

set_option backward.proofsInPublic true in
/-- The trip of the sending loop on `c` that addresses `j`. -/
def trip (c j : Dev nD) : Fin 32 :=
  ⟨8 * ((c.val / 8 + 4 - j.val / 8) % 4) + (j.val % 8 + 15 - c.val % 8) % 8, by
    have h1 : (c.val / 8 + 4 - j.val / 8) % 4 < 4 := Nat.mod_lt _ (by decide)
    have h2 : (j.val % 8 + 15 - c.val % 8) % 8 < 8 := Nat.mod_lt _ (by decide)
    omega⟩

theorem trip_peer (c : Dev nD) (i : Fin 32) : trip c (peer c i) = i := by revert i; revert c; decide +kernel
theorem peer_trip (c j : Dev nD) : peer c (trip c j) = j := by revert j; revert c; decide +kernel

/-- The quarter of the mesh that device `c` takes up at its `k`-th pass. -/
def quarter (c : Dev nD) (k : Fin 4) : Fin 4 := ⟨(c.val / 8 + k.val) % 4, Nat.mod_lt _ (by decide)⟩

set_option backward.proofsInPublic true in
/-- Lane `l` of quarter `s`. -/
def lane (s : Fin 4) (l : Fin 8) : Dev nD := ⟨8 * s.val + l.val, by show _ < 32; omega⟩

/-- The word that names quarter `s`. -/
abbrev qw (s : Fin 4) : BitVec 32 := BitVec.ofNat 32 s.val

theorem trips1 : k0_t1_loop.trips = 32 := by decide +kernel
theorem trips2 : k0_t2_loop.trips = 32 := by decide +kernel
theorem trips3 : k0_t3_loop.trips = 8 := by decide +kernel
theorem trips4 : k0_t4_loop.trips = 32 := by decide +kernel
theorem trips5 : k0_t5_loop.trips = 32 := by decide +kernel
theorem trips6 : k0_t6_loop.trips = 32 := by decide +kernel

/-! ## The branches -/

theorem cond1_iff : ∀ i : grid0.Coords, k0_cond1 i = 1#1 ↔ ((i 0).val = 0 ∧ (i 1).val = 0) := by decide +kernel
theorem cond4_iff : ∀ i : grid0.Coords, k0_cond4 i = 1#1 ↔ (i 1).val = 0 := by decide +kernel
theorem cond6_iff : ∀ i : grid0.Coords, k0_cond6 i = 1#1 ↔ (i 0).val = 0 := by decide +kernel
theorem cond7_iff : ∀ i : grid0.Coords, k0_cond7 i = 1#1 ↔ (i 0).val ≠ 0 := by decide +kernel
theorem cond8_iff : ∀ i : grid0.Coords, k0_cond8 i = 1#1 ↔ ((i 0).val = 3 ∧ (i 1).val = 1) := by decide +kernel

theorem cond2_iff : ∀ (d : Dev nD) (t : Fin k0_t1_loop.trips), k0_cond2 d t = 1#1 ↔ t.val ≠ d.val := by decide +kernel
theorem cond10_iff : ∀ (d : Dev nD) (t : Fin k0_t5_loop.trips), k0_cond10 d t = 1#1 ↔ t.val ≠ d.val := by decide +kernel
theorem cond11_iff : ∀ (d : Dev nD) (t : Fin k0_t6_loop.trips), k0_cond11 d t = 1#1 ↔ t.val ≠ d.val := by decide +kernel
theorem cond3_iff : ∀ (d : Dev nD) (t : Fin k0_t2_loop.trips), k0_cond3 d t = 1#1 ↔ peer d (t.cast trips2) ≠ d := by decide +kernel
theorem cond9_iff : ∀ (d : Dev nD) (t : Fin k0_t4_loop.trips), k0_cond9 d t = 1#1 ↔ peer d (t.cast trips4) ≠ d := by decide +kernel
theorem cond5_iff : ∀ (d : Dev nD) (s : Fin 4) (t : Fin k0_t3_loop.trips), k0_cond5 d (qw s) t = 1#1 ↔ lane s (t.cast trips3) ≠ d := by decide +kernel

/-! ## Devices and offsets -/

theorem dev2_eq : ∀ (d : Dev nD) (t : Fin k0_t2_loop.trips), k0_dev2 d t = (peer d (t.cast trips2)).val := by decide +kernel
theorem dev3_eq : ∀ (d : Dev nD) (t : Fin k0_t4_loop.trips), k0_dev3 d t = (peer d (t.cast trips4)).val := by decide +kernel
theorem off2_eq : ∀ (d : Dev nD) (t : Fin k0_t2_loop.trips), k0_off2 d t = ![(peer d (t.cast trips2)).val] := by decide +kernel
theorem off5_eq : ∀ (d : Dev nD) (t : Fin k0_t2_loop.trips), k0_off5 d t = ![128 * (peer d (t.cast trips2)).val, 0] := by decide +kernel
theorem off13_eq : ∀ (d : Dev nD) (t : Fin k0_t4_loop.trips), k0_off13 d t = ![(peer d (t.cast trips4)).val] := by decide +kernel
theorem off7_eq : ∀ (s : Fin 4) (t : Fin k0_t3_loop.trips), k0_off7 (qw s) t = ![(lane s (t.cast trips3)).val] := by decide +kernel
theorem off8_eq : ∀ (s : Fin 4) (t : Fin k0_t3_loop.trips), k0_off8 (qw s) t = ![(lane s (t.cast trips3)).val, 0, 0] := by decide +kernel
theorem off10_eq : ∀ (s : Fin 4) (l : Fin 8), k0_off10 (qw s) (BitVec.ofNat 32 l.val) = ![(lane s l).val, 0, 0] := by decide +kernel

/-- The side condition that the kernel assumes of the word it read holds of every quarter's word. -/
theorem chk1_qw (i : grid0.Coords) (d : Dev nD) (s : Fin 4) : k0_chk1 i d (qw s) := by
  unfold k0_chk1
  refine ⟨fun t _ _ => ?_, fun t _ _ => ?_, fun _ r => ?_⟩
  · rw [off7_eq]
    have := (lane s (t.cast trips3)).isLt
    intro a; fin_cases a
    show (lane s (t.cast trips3)).val + 1 ≤ 32
    exact this
  · rw [off8_eq]
    have := (lane s (t.cast trips3)).isLt
    intro a; fin_cases a
    · show (lane s (t.cast trips3)).val + 1 ≤ 32
      exact this
    · exact Nat.le_refl 128
    · exact Nat.le_refl 128
  · rw [off10_eq]
    have := (lane s r).isLt
    intro a; fin_cases a
    · show (lane s r).val + 1 ≤ 32
      exact this
    · exact Nat.le_refl 128
    · exact Nat.le_refl 128

/-- The comparison of a slot's word with the device's own: true exactly at its own slot. -/
theorem own_eq : ∀ (d : Dev nD) (s : Fin 4) (l : Fin 8),
    Scalar.cmpi .eq (Scalar.addi (Scalar.muli (qw s) 8#32) (BitVec.ofNat 32 l.val)) (Scalar.remsi (Scalar.divsi (Dev.word d) 1#32) 32#32)
      = if lane s l = d then 1#1 else 0#1 := by decide +kernel

end Cert.A2A

end
-- ==== Proof.Cells.lean ====
/-
The memory regions and semaphore cells of the exchange: the row blocks of `x`, the slots of the receive buffer, the
rows of the maxima buffer; the barrier cell and the four families of transfer cells; where the printed slices land.
-/
module

public import proofs.«01_k».proof.Proof.Words
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring
public import Idealize.ShloMosaic.Lib.ValueLayout
public import Idealize.ShloMosaic.Lib.ValueIdxCoords

@[expose] public section

set_option maxRecDepth 16384

noncomputable section

namespace Cert.A2A

open Cert.KernelIdeal Cert.KernelIdeal.Gen

open Idealize.ShloMosaic Idealize.ShloMosaic.TcCoe
open Idealize.ShloMosaic.ValueIdx Idealize.ShloMosaic.Ring

variable {F : FTy → Type} [FloatOps F]

/-! ## Memory -/

abbrev xM : Memref sig .tc .vmem S4096x128 .f32 := Memref.whole cc0_stg0_0
abbrev oM : Memref sig .tc .vmem S128x8192 .f32 := Memref.whole cc0_stg2_0
abbrev rM : Memref sig .tc .vmem S32x128x128 .f32 := Memref.whole cc0_scratch0
abbrev aM : Memref sig .tc .vmem S128x1024 .f32 := Memref.whole cc0_scratch1
abbrev yM : Memref sig .tc .vmem S2x128x4096 .f32 := Memref.whole cc0_scratch2
abbrev tM : Memref sig .tc .vmem S1x128 .f32 := Memref.whole cc0_scratch3
abbrev bM : Memref sig .tc .vmem S32x128 .f32 := Memref.whole cc0_scratch4

theorem xRow_inb (j : Dev nD) : ∀ a, (![128 * j.val, 0] : Fin 2 → ℕ) a + S128x128.size a ≤ S4096x128.size a := by
  have : j.val < 32 := j.isLt
  exact Rect.inb₂ (d := ![4096, 128]) (size := ![128, 128]) (show 128 * j.val + 128 ≤ 4096 by omega) (Nat.le_refl 128)

theorem rSlot_inb (j : Dev nD) : ∀ a, (![j.val, 0, 0] : Fin 3 → ℕ) a + S1x128x128.size a ≤ S32x128x128.size a := by
  have : j.val < 32 := j.isLt
  intro a; fin_cases a
  · show j.val + 1 ≤ 32; omega
  · exact Nat.le_refl 128
  · exact Nat.le_refl 128

theorem bRow_inb (j : Dev nD) : ∀ a, (![j.val, 0] : Fin 2 → ℕ) a + S1x128.size a ≤ S32x128.size a := by
  have : j.val < 32 := j.isLt
  exact Rect.inb₂ (d := ![32, 128]) (size := ![1, 128]) (show j.val + 1 ≤ 32 by omega) (Nat.le_refl 128)

/-- Rows `128 j ‥ 128 j + 127` of the `x` staging buffer. -/
abbrev xRow (j : Dev nD) : Memref sig .tc .vmem S128x128 .f32 :=
  xM.slice (Rect.unit (s := S4096x128) ![128 * j.val, 0] S128x128.size (xRow_inb j)) (fun _ => rfl)
/-- Slot `j` of the receive buffer. -/
abbrev rSlot (j : Dev nD) : Memref sig .tc .vmem S128x128 .f32 :=
  (rM.slice (Rect.unit (s := S32x128x128) ![j.val, 0, 0] S1x128x128.size (rSlot_inb j)) (fun _ => rfl)).squeeze S128x128 squeezes_S1x128x128_S128x128
/-- Row `j` of the maxima buffer. -/
abbrev bRow (j : Dev nD) : Memref sig .tc .vmem S1x128 .f32 :=
  bM.slice (Rect.unit (s := S32x128) ![j.val, 0] S1x128.size (bRow_inb j)) (fun _ => rfl)

/-- A slice of a memref depends on its offset alone. -/
theorem slice_of_off {sp : Space} {s : Shape} (m : Memref sig .tc sp s .f32) {off off' size : Fin s.rank → ℕ} (h : off = off')
    (p : ∀ a, off a + size a ≤ s.size a) (p' : ∀ a, off' a + size a ≤ s.size a) (q q') :
    m.slice (Rect.unit (s := s) off size p) q = m.slice (Rect.unit (s := s) off' size p') q' := by
  subst h; rfl

/-! ### Their element sets -/

theorem xRow_set (j : Dev nD) : (xRow j).view.set = (Rect.unit (s := S4096x128) ![128 * j.val, 0] S128x128.size (xRow_inb j)).set :=
  View.set_slice_whole _ _
theorem rSlot_set (j : Dev nD) : (rSlot j).view.set = (Rect.unit (s := S32x128x128) ![j.val, 0, 0] S1x128x128.size (rSlot_inb j)).set :=
  (View.set_reshape _ _).trans (View.set_slice_whole _ _)
theorem bRow_set (j : Dev nD) : (bRow j).view.set = (Rect.unit (s := S32x128) ![j.val, 0] S1x128.size (bRow_inb j)).set :=
  View.set_slice_whole _ _

theorem xRow_disjoint (j j' : Dev nD) (h : j ≠ j') : Disjoint (xRow j).view.set (xRow j').view.set := by
  rw [xRow_set, xRow_set]
  exact lead_disjoint (s := S4096x128) (NB := 32) 0 128 (fun b => ![128 * b.val, 0]) S128x128.size xRow_inb (fun _ => rfl) rfl j j' h
theorem rSlot_disjoint (j j' : Dev nD) (h : j ≠ j') : Disjoint (rSlot j).view.set (rSlot j').view.set := by
  rw [rSlot_set, rSlot_set]
  exact lead_disjoint (s := S32x128x128) (NB := 32) 0 1 (fun b => ![b.val, 0, 0]) S1x128x128.size rSlot_inb (fun b => (Nat.one_mul _).symm) rfl j j' h
theorem bRow_disjoint (j j' : Dev nD) (h : j ≠ j') : Disjoint (bRow j).view.set (bRow j').view.set := by
  rw [bRow_set, bRow_set]
  exact lead_disjoint (s := S32x128) (NB := 32) 0 1 (fun b => ![b.val, 0]) S1x128.size bRow_inb (fun b => (Nat.one_mul _).symm) rfl j j' h

theorem xRow_cover : Finset.biUnion (β := S4096x128.Idx) Finset.univ (fun j : Dev nD => (xRow j).view.set) = Finset.univ := by
  rw [show (fun j : Dev nD => ((xRow j).view.set : Finset S4096x128.Idx)) = _ from funext xRow_set]
  exact lead_cover (s := S4096x128) (NB := 32) 0 128 (fun b => ![128 * b.val, 0]) S128x128.size xRow_inb (fun _ => rfl)
    (fun b a ha => match a, ha with | ⟨0, _⟩, h => absurd rfl h | ⟨1, _⟩, _ => rfl) rfl
    (fun a ha => match a, ha with | ⟨0, _⟩, h => absurd rfl h | ⟨1, _⟩, _ => rfl) rfl
theorem rSlot_cover : Finset.biUnion (β := S32x128x128.Idx) Finset.univ (fun j : Dev nD => (rSlot j).view.set) = Finset.univ := by
  rw [show (fun j : Dev nD => ((rSlot j).view.set : Finset S32x128x128.Idx)) = _ from funext rSlot_set]
  exact lead_cover (s := S32x128x128) (NB := 32) 0 1 (fun b => ![b.val, 0, 0]) S1x128x128.size rSlot_inb (fun b => (Nat.one_mul _).symm)
    (fun b a ha => match a, ha with | ⟨0, _⟩, h => absurd rfl h | ⟨1, _⟩, _ => rfl | ⟨2, _⟩, _ => rfl) rfl
    (fun a ha => match a, ha with | ⟨0, _⟩, h => absurd rfl h | ⟨1, _⟩, _ => rfl | ⟨2, _⟩, _ => rfl) rfl
theorem bRow_cover : Finset.biUnion (β := S32x128.Idx) Finset.univ (fun j : Dev nD => (bRow j).view.set) = Finset.univ := by
  rw [show (fun j : Dev nD => ((bRow j).view.set : Finset S32x128.Idx)) = _ from funext bRow_set]
  exact lead_cover (s := S32x128) (NB := 32) 0 1 (fun b => ![b.val, 0]) S1x128.size bRow_inb (fun b => (Nat.one_mul _).symm)
    (fun b a ha => match a, ha with | ⟨0, _⟩, h => absurd rfl h | ⟨1, _⟩, _ => rfl) rfl
    (fun a ha => match a, ha with | ⟨0, _⟩, h => absurd rfl h | ⟨1, _⟩, _ => rfl) rfl

/-! ### Where their indices lie -/

theorem xRow_emb (j : Dev nD) (p q : Fin 128) :
    (xRow j).view.emb (ix2 p q) = (ix2 ⟨128 * j.val + p.val, by have : j.val < 32 := j.isLt; omega⟩ q : S4096x128.Idx) := by
  funext a; fin_cases a
  · exact Fin.ext (show 128 * j.val + 1 * p.val = 128 * j.val + p.val by omega)
  · exact Fin.ext (show 0 + 1 * q.val = q.val by omega)

theorem rSlot_emb (j : Dev nD) (p q : Fin 128) :
    (rSlot j).view.emb (ix2 p q) = (ix3 (j : Fin 32) p q : S32x128x128.Idx) := by
  show ((rM.slice (Rect.unit (s := S32x128x128) ![j.val, 0, 0] S1x128x128.size (rSlot_inb j)) (fun _ => rfl)).view.emb
    (Shape.reshapeEquiv _ (ix2 p q))) = _
  rw [reshapeEquiv_ix2_1ab]
  funext a; fin_cases a
  · exact Fin.ext (show j.val + 1 * 0 = j.val by omega)
  · exact Fin.ext (show 0 + 1 * p.val = p.val by omega)
  · exact Fin.ext (show 0 + 1 * q.val = q.val by omega)

theorem bRow_emb (j : Dev nD) (p : Fin 1) (q : Fin 128) :
    (bRow j).view.emb (ix2 p q) = (ix2 (j : Fin 32) q : S32x128.Idx) := by
  funext a; fin_cases a
  · exact Fin.ext (show j.val + 1 * p.val = j.val by omega)
  · exact Fin.ext (show 0 + 1 * q.val = q.val by omega)

/-! ## Cells -/

/-- The barrier semaphore of the kernel's collective. -/
abbrev barS : Sem sig := (SemArray.scalar (sig.barrier 0 rfl) : Sems sig S_).sem

theorem semIx_lt (k : Fin 4) (j : Dev nD) : 4 + 32 * k.val + j.val < sig.nDmaSem := by
  have h : j.val < 32 := j.isLt
  have := k.isLt
  show 4 + 32 * k.val + j.val < 132
  omega

/-- The transfer semaphore of family `k` (0 block sends, 1 block arrivals, 2 maxima sends, 3 maxima arrivals), number `j`. -/
abbrev semIx (k : Fin 4) (j : Dev nD) : DmaSem sig := ⟨4 + 32 * k.val + j.val, semIx_lt k j⟩

abbrev bar (c : Dev nD) : GSem nD τ sig := ((c : Thread nD τ), .reg barS)
abbrev cel (k : Fin 4) (c j : Dev nD) : GSem nD τ sig := ((c : Thread nD τ), .dma (semIx k j))

theorem sem_inb (j : Dev nD) : ∀ a, (![j.val] : Fin 1 → ℕ) a + S1.size a ≤ S32.size a := by
  have : j.val < 32 := j.isLt
  exact Rect.inb₁ (d := ![32]) (size := ![1]) (show j.val + 1 ≤ 32 by omega)

theorem sem5_at : ∀ j : Dev nD, ((cc0_scratch5.slice (Rect.unit (s := S32) ![j.val] S1.size (sem_inb j))).squeeze S_ squeezes_S1_S_).sem = semIx 0 j := by
  decide +kernel
theorem sem5_eq (j : Dev nD) (off : Fin 1 → ℕ) (h : off = ![j.val]) (p) :
    ((cc0_scratch5.slice (Rect.unit (s := S32) off S1.size p)).squeeze S_ squeezes_S1_S_).sem = semIx 0 j := by
  subst h; exact sem5_at j
theorem sem6_at : ∀ j : Dev nD, ((cc0_scratch6.slice (Rect.unit (s := S32) ![j.val] S1.size (sem_inb j))).squeeze S_ squeezes_S1_S_).sem = semIx 1 j := by
  decide +kernel
theorem sem6_eq (j : Dev nD) (off : Fin 1 → ℕ) (h : off = ![j.val]) (p) :
    ((cc0_scratch6.slice (Rect.unit (s := S32) off S1.size p)).squeeze S_ squeezes_S1_S_).sem = semIx 1 j := by
  subst h; exact sem6_at j
theorem sem7_at : ∀ j : Dev nD, ((cc0_scratch7.slice (Rect.unit (s := S32) ![j.val] S1.size (sem_inb j))).squeeze S_ squeezes_S1_S_).sem = semIx 2 j := by
  decide +kernel
theorem sem7_eq (j : Dev nD) (off : Fin 1 → ℕ) (h : off = ![j.val]) (p) :
    ((cc0_scratch7.slice (Rect.unit (s := S32) off S1.size p)).squeeze S_ squeezes_S1_S_).sem = semIx 2 j := by
  subst h; exact sem7_at j
theorem sem8_at : ∀ j : Dev nD, ((cc0_scratch8.slice (Rect.unit (s := S32) ![j.val] S1.size (sem_inb j))).squeeze S_ squeezes_S1_S_).sem = semIx 3 j := by
  decide +kernel
theorem sem8_eq (j : Dev nD) (off : Fin 1 → ℕ) (h : off = ![j.val]) (p) :
    ((cc0_scratch8.slice (Rect.unit (s := S32) off S1.size p)).squeeze S_ squeezes_S1_S_).sem = semIx 3 j := by
  subst h; exact sem8_at j

/-! ## Amounts -/

/-- What a block transfer credits. -/
abbrev NX : ℕ := (rSlot (0 : Fin 32)).view.dmaCredit
/-- What a maxima transfer credits. -/
abbrev NA : ℕ := (bRow (0 : Fin 32)).view.dmaCredit

theorem NX_pos : 0 < NX := View.dmaCredit_pos _ (by decide)
theorem NA_pos : 0 < NA := View.dmaCredit_pos _ (by decide)

theorem credit_rSlot (j : Dev nD) : (rSlot j).view.dmaCredit = NX := rfl
theorem credit_bRow (j : Dev nD) : (bRow j).view.dmaCredit = NA := rfl
theorem credit_tM : (tM : Memref sig .tc .vmem S1x128 .f32).view.dmaCredit = NA := by decide +kernel
theorem credit_xRow (j : Dev nD) : (xRow j).view.dmaCredit = NX := by
  have h : ∀ j, (xRow j).view.dmaCredit = (xRow (0 : Fin 32)).view.dmaCredit := fun _ => rfl
  exact (h j).trans (by decide +kernel)

end Cert.A2A

end
-- ==== Proof.Proto.lean ====
/-
The protocol of the exchange: the contents that move, the schedule of the barrier and transfer cells (one round each),
what each device owes at launch, and the levels that order the waits.
-/
module

public import proofs.«01_k».proof.Proof.Cells
public import Idealize.ShloMosaic.Lib.Rounds
public import Idealize.ShloMosaic.Lib.Rounds.Family

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, this protocol's (duties named by devices), and flight counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance EB_landsIn : (EB : Emb UB 𝕄).LandsIn (upEmb : UEmb _ 𝕄) := by unfold EB; infer_instance

/-! ## Contents -/

abbrev XBuf (F : FTy → Type) : Type := (cc0_stg0_0 : Ref sig .tc).ty.Contents (Elt F)
abbrev RBuf (F : FTy → Type) : Type := (cc0_scratch0 : Ref sig .tc).ty.Contents (Elt F)
abbrev TBuf (F : FTy → Type) : Type := (cc0_scratch3 : Ref sig .tc).ty.Contents (Elt F)
abbrev BBuf (F : FTy → Type) : Type := (cc0_scratch4 : Ref sig .tc).ty.Contents (Elt F)

/-- What device `c`'s receive buffer holds once every block has arrived: in slot `j`, rows `128 c ‥` of device `j`'s `x`. -/
def RB (xs : Dev nD → XBuf F) (c : Dev nD) : RBuf F := fun i =>
  xs (i 0 : Fin 32) ((xRow c).view.emb (ix2 (i 1 : Fin 128) (i 2 : Fin 128)))

/-- What device `c`'s maxima buffer holds at the end: device `j`'s maximum along row `j`, zero along its own. -/
def AB (tx : Dev nD → TBuf F) (c : Dev nD) : BBuf F := fun i =>
  if (i 0).val = c.val then k0_pay15 (F := F) i else tx (i 0 : Fin 32) (ix2 (0 : Fin 1) (i 1 : Fin 128))

/-- Device `c`'s row block `j` of `x`. -/
def xPts (c j : Dev nD) (f : XBuf F) : sProp 𝕄 := ((xRow j).view.loc (c : Thread nD τ)) ↦[(xRow j).view.set]{fullShare} f
/-- Device `c`'s receive slot `j`. -/
def rPts (c j : Dev nD) (f : RBuf F) : sProp 𝕄 := ((rSlot j).view.loc (c : Thread nD τ)) ↦[(rSlot j).view.set]{fullShare} f
/-- Device `c`'s maxima row `j`. -/
def bPts (c j : Dev nD) (f : BBuf F) : sProp 𝕄 := ((bRow j).view.loc (c : Thread nD τ)) ↦[(bRow j).view.set]{fullShare} f
/-- The share of its own maximum that a device lends to the transfer to device `j`. -/
def tShare (j : Dev nD) : PosShare TreeShare := Transfers.dealOf fullShare (Finset.univ : Finset (Fin 32)) j
/-- Device `c`'s own maximum, at the share lent to device `j`. -/
def tPts (c j : Dev nD) (f : TBuf F) : sProp 𝕄 := (tM.view.loc (c : Thread nD τ)) ↦[tM.view.set]{tShare j} f

omit [FloatOps F] in
instance xPts_storable (c j : Dev nD) (f) : BI.Storable (upEmb : UEmb _ 𝕄) (xPts (F := F) c j f) := by unfold xPts; infer_instance
omit [FloatOps F] in
instance rPts_storable (c j : Dev nD) (f) : BI.Storable (upEmb : UEmb _ 𝕄) (rPts (F := F) c j f) := by unfold rPts; infer_instance
omit [FloatOps F] in
instance bPts_storable (c j : Dev nD) (f) : BI.Storable (upEmb : UEmb _ 𝕄) (bPts (F := F) c j f) := by unfold bPts; infer_instance
omit [FloatOps F] in
instance tPts_storable (c j : Dev nD) (f) : BI.Storable (upEmb : UEmb _ 𝕄) (tPts (F := F) c j f) := by unfold tPts; infer_instance

omit [FloatOps F] in
/-- A block that lands in slot `c` of device `r`'s receive buffer from device `c`'s row block `r`. -/
theorem rPts_landed (xs : Dev nD → XBuf F) (c r : Dev nD) (fd : RBuf F) :
    rPts r c ((rSlot c).view.write (Elt F) fd ((xRow r).view.read (Elt F) (xs c)) Finset.univ) = rPts r c (RB xs r) := by
  unfold rPts
  refine pointsTo_congr fun i hi => ?_
  obtain ⟨z, -, rfl⟩ := Finset.mem_map.mp hi
  rw [View.write_emb_of_mem _ _ (Finset.mem_univ z)]
  obtain ⟨p, q, rfl⟩ : ∃ p q : Fin 128, z = ix2 p q := ⟨z 0, z 1, eq_ix2 z⟩
  rw [View.read_apply]
  rw [cast_cast, cast_eq]
  unfold RB
  rw [rSlot_emb]
  rfl

/-- A maximum that lands in row `c` of device `r`'s maxima buffer from device `c`. -/
theorem bPts_landed (tx : Dev nD → TBuf F) (c r : Dev nD) (h : c ≠ r) (fd : BBuf F) :
    bPts r c ((bRow c).view.write (Elt F) fd (tM.view.read (Elt F) (tx c)) Finset.univ) = bPts r c (AB tx r) := by
  unfold bPts
  refine pointsTo_congr fun i hi => ?_
  obtain ⟨z, -, rfl⟩ := Finset.mem_map.mp hi
  rw [View.write_emb_of_mem _ _ (Finset.mem_univ z)]
  obtain ⟨p, q, rfl⟩ : ∃ (p : Fin 1) (q : Fin 128), z = ix2 p q := ⟨z 0, z 1, eq_ix2 z⟩
  rw [View.read_apply, cast_cast, cast_eq]
  unfold AB
  rw [bRow_emb]
  obtain rfl : p = 0 := Subsingleton.elim _ _
  exact (if_neg fun e => h (Fin.ext e)).symm

/-! ## The schedule -/

/-- What device `d`'s signal hands device `c`: slot `c` of `d`'s receive buffer, and that `d` has opened the cells `c` credits. -/
def barPay (c d : Dev nD) : sProp 𝕄 :=
  iprop((∃ f, rPts (F := F) d c f) ∗ reached EB (cel 1 d c) 0 ∗ reached EB (cel 3 d c) 0)
/-- What the arrival of device `j`'s block hands device `c`: the slot at its contents, and row `c` of `j`'s maxima buffer. -/
def rcvPay (xs : Dev nD → XBuf F) (c j : Dev nD) : sProp 𝕄 := iprop(rPts c j (RB xs c) ∗ (∃ f, bPts (F := F) j c f))

variable (xs : Dev nD → XBuf F) (tx : Dev nD → TBuf F)

/-- One round per cell. A barrier cell has one unit from every other device; a transfer cell the one transfer it is for. -/
def sched : Rounds.Schedule (GSem nD τ sig) (Dev nD) 𝕄 where
  duties g r := match g.2 with
    | .reg s => if r = 0 ∧ s = barS then Finset.univ.erase g.1.1 else ∅
    | .dma q => if r = 0 ∧ 4 ≤ q.val then Finset.univ.filter (fun j : Dev nD => j.val = (q.val - 4) % 32 ∧ j ≠ g.1.1) else ∅
  unitless _ := False
  amount g _ _ := match g.2 with
    | .reg _ => 1
    | .dma q => if q.val < 68 then NX else NA
  payload g _ d := match g.2 with
    | .reg _ => barPay g.1.1 d
    | .dma q => if q.val < 36 then xPts g.1.1 d (xs g.1.1) else if q.val < 68 then rcvPay xs g.1.1 d
        else if q.val < 100 then tPts g.1.1 d (tx g.1.1) else bPts g.1.1 d (AB tx g.1.1)
  amount_pos g _ _ _ := by
    rcases g with ⟨t, _ | q⟩
    · exact Nat.one_pos
    · show 0 < if q.val < 68 then NX else NA
      split
      · exact NX_pos
      · exact NA_pos

instance sched_storable (g : GSem nD τ sig) (r : ℕ) (d : Dev nD) :
    BI.Storable (upEmb : UEmb _ 𝕄) ((sched xs tx).payload g r d) := by
  rcases g with ⟨t, _ | q⟩
  · show BI.Storable upEmb (barPay (F := F) t.1 d)
    unfold barPay; infer_instance
  · show BI.Storable upEmb (if q.val < 36 then xPts t.1 d (xs t.1) else if q.val < 68 then rcvPay xs t.1 d
        else if q.val < 100 then tPts t.1 d (tx t.1) else bPts t.1 d (AB tx t.1))
    unfold rcvPay
    (repeat' split) <;> infer_instance

theorem duties_bar (c : Dev nD) : (sched xs tx).duties (bar c) 0 = Finset.univ.erase c := by
  show (if 0 = 0 ∧ barS = barS then Finset.univ.erase c else ∅) = _
  exact if_pos ⟨rfl, rfl⟩

theorem duties_cel (k : Fin 4) (c j : Dev nD) (h : j ≠ c) : (sched xs tx).duties (cel k c j) 0 = {j} := by
  show (if 0 = 0 ∧ 4 ≤ 4 + 32 * k.val + j.val then Finset.univ.filter (fun i : Dev nD => i.val = (4 + 32 * k.val + j.val - 4) % 32 ∧ i ≠ c) else ∅) = {j}
  have hj : j.val < 32 := j.isLt
  rw [if_pos ⟨rfl, by omega⟩]
  ext i
  rw [Finset.mem_filter, Finset.mem_singleton]
  have hm : (4 + 32 * k.val + j.val - 4) % 32 = j.val := by omega
  rw [hm]
  constructor
  · rintro ⟨-, h1, -⟩; exact Fin.ext h1
  · rintro rfl; exact ⟨Finset.mem_univ _, rfl, h⟩

theorem duties_own (k : Fin 4) (c : Dev nD) (r : ℕ) : (sched xs tx).duties (cel k c c) r = ∅ := by
  show (if r = 0 ∧ 4 ≤ 4 + 32 * k.val + c.val then Finset.univ.filter (fun i : Dev nD => i.val = (4 + 32 * k.val + c.val - 4) % 32 ∧ i ≠ c) else ∅) = ∅
  have hj : c.val < 32 := c.isLt
  split
  · ext i
    rw [Finset.mem_filter]
    have hm : (4 + 32 * k.val + c.val - 4) % 32 = c.val := by omega
    rw [hm]
    constructor
    · rintro ⟨-, h1, h2⟩; exact absurd (Fin.ext h1) h2
    · intro h; exact absurd h (Finset.notMem_empty _)
  · rfl

theorem duties_later (g : GSem nD τ sig) (r : ℕ) (h : 1 ≤ r) : (sched xs tx).duties g r = ∅ := by
  rcases g with ⟨t, s | q⟩
  · exact if_neg fun h' => by omega
  · exact if_neg fun h' => by omega

theorem amount_bar (c d : Dev nD) : (sched xs tx).amount (bar c) 0 d = 1 := rfl
theorem amount_snd (c j d : Dev nD) : (sched xs tx).amount (cel 0 c j) 0 d = NX := if_pos (by
  have : j.val < 32 := j.isLt
  show 4 + 32 * 0 + j.val < 68; omega)
theorem amount_rcv (c j d : Dev nD) : (sched xs tx).amount (cel 1 c j) 0 d = NX := if_pos (by
  have : j.val < 32 := j.isLt
  show 4 + 32 * 1 + j.val < 68; omega)
theorem amount_asnd (c j d : Dev nD) : (sched xs tx).amount (cel 2 c j) 0 d = NA := if_neg (by
  show ¬ (4 + 32 * 2 + j.val < 68); omega)
theorem amount_arcv (c j d : Dev nD) : (sched xs tx).amount (cel 3 c j) 0 d = NA := if_neg (by
  show ¬ (4 + 32 * 3 + j.val < 68); omega)

theorem expect_bar (c : Dev nD) : (sched xs tx).expect (bar c) 0 = 31 := by
  unfold Schedule.expect Schedule.amountOf
  rw [duties_bar, Finset.sum_congr rfl fun d _ => amount_bar xs tx c d, Finset.sum_const, Finset.card_erase_of_mem (Finset.mem_univ _)]
  rfl
theorem expect_cel (k : Fin 4) (c j : Dev nD) (h : j ≠ c) : (sched xs tx).expect (cel k c j) 0 = (sched xs tx).amount (cel k c j) 0 j := by
  unfold Schedule.expect Schedule.amountOf
  rw [duties_cel xs tx k c j h, Finset.sum_singleton]

theorem payload_bar (c d : Dev nD) : (sched xs tx).payload (bar c) 0 d = barPay c d := rfl
theorem payload_snd (c j d : Dev nD) : (sched xs tx).payload (cel 0 c j) 0 d = xPts c d (xs c) := if_pos (by
  have : j.val < 32 := j.isLt
  show 4 + 32 * 0 + j.val < 36; omega)
theorem payload_rcv (c j d : Dev nD) : (sched xs tx).payload (cel 1 c j) 0 d = rcvPay xs c d := by
  have : j.val < 32 := j.isLt
  exact (if_neg (show ¬ (4 + 32 * 1 + j.val < 36) by omega)).trans (if_pos (show 4 + 32 * 1 + j.val < 68 by omega))
theorem payload_asnd (c j d : Dev nD) : (sched xs tx).payload (cel 2 c j) 0 d = tPts c d (tx c) := by
  have : j.val < 32 := j.isLt
  exact (if_neg (show ¬ (4 + 32 * 2 + j.val < 36) by omega)).trans ((if_neg (show ¬ (4 + 32 * 2 + j.val < 68) by omega)).trans
    (if_pos (show 4 + 32 * 2 + j.val < 100 by omega)))
theorem payload_arcv (c j d : Dev nD) : (sched xs tx).payload (cel 3 c j) 0 d = bPts c d (AB tx c) := by
  have : j.val < 32 := j.isLt
  exact (if_neg (show ¬ (4 + 32 * 3 + j.val < 36) by omega)).trans ((if_neg (show ¬ (4 + 32 * 3 + j.val < 68) by omega)).trans
    (if_neg (show ¬ (4 + 32 * 3 + j.val < 100) by omega)))

/-- The rest of a transfer cell's round: its one payload. -/
theorem rest_cel (k : Fin 4) (c j : Dev nD) (h : j ≠ c) :
    bigSep ((sched xs tx).duties (cel k c j) 0 \ ∅) (fun d => (sched xs tx).payload (cel k c j) 0 d) = (sched xs tx).payload (cel k c j) 0 j := by
  rw [Finset.sdiff_empty, duties_cel xs tx k c j h, bigSep_singleton]

/-! ## Tallies and levels -/

/-- One unit to device `j`'s barrier cell. -/
def tB (c j : Dev nD) : CellTallies nD τ sig Unit := if j = c then 0 else tallyAt (bar j) () 1
/-- A block to device `j`. -/
def tR (c j : Dev nD) : CellTallies nD τ sig Unit := if j = c then 0 else tallyAt (cel 1 j c) () NX
/-- A maximum to device `j`. -/
def tA (c j : Dev nD) : CellTallies nD τ sig Unit := if j = c then 0 else tallyAt (cel 3 j c) () NA

def oB (c : Dev nD) : CellTallies nD τ sig Unit := ∑ j, tB c j
def oR (c : Dev nD) : CellTallies nD τ sig Unit := ∑ j, tR c j
def oA (c : Dev nD) : CellTallies nD τ sig Unit := ∑ j, tA c j
/-- All that device `c` owes at launch. -/
def O₀ (c : Dev nD) : CellTallies nD τ sig Unit := oA c + oR c + oB c

def L (g : GSem nD τ sig) : Finset Unit := if g.1.2 = .tc then {()} else ∅
/-- Staging and sending cells at 0, barrier cells at 1, block arrivals at 2, maxima arrivals at 3. -/
def lv (g : GSem nD τ sig) (_ : Unit) : ℕ := match g.2 with
  | .reg _ => 1
  | .dma q => if 36 ≤ q.val ∧ q.val < 68 then 2 else if 100 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c j : Dev nD) : lv (cel 1 c j) () = 2 := if_pos (by
  have : j.val < 32 := j.isLt
  show 36 ≤ 4 + 32 * 1 + j.val ∧ 4 + 32 * 1 + j.val < 68; omega)
theorem lv_arcv (c j : Dev nD) : lv (cel 3 c j) () = 3 := by
  have : j.val < 32 := j.isLt
  exact (if_neg (show ¬ (36 ≤ 4 + 32 * 3 + j.val ∧ 4 + 32 * 3 + j.val < 68) by omega)).trans (if_pos (show 100 ≤ 4 + 32 * 3 + j.val by omega))

/-- Every cell that tallies `O` owe lies on a device's own core, at a level of at least `b`. -/
def Above (b : ℕ) (O : CellTallies nD τ sig Unit) : Prop := ∀ g u, 0 < O g u → g.1.2 = .tc ∧ b ≤ lv g u

theorem Above.zero (b : ℕ) : Above b 0 := fun g u h => absurd h (Nat.lt_irrefl 0)
theorem Above.add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.sum {b : ℕ} {ι : Type} (s : Finset ι) (f : ι → CellTallies nD τ sig Unit) (h : ∀ i ∈ s, Above b (f i)) : Above b (∑ i ∈ s, f i) := by
  classical
  induction s using Finset.induction_on with
  | empty => rw [Finset.sum_empty]; exact Above.zero b
  | insert i s hi ih =>
    rw [Finset.sum_insert hi]
    exact (h i (Finset.mem_insert_self _ _)).add (ih fun j hj => h j (Finset.mem_insert_of_mem hj))
theorem Above.at {b : ℕ} {g : GSem nD τ sig} {n : ℕ} (h : g.1.2 = .tc) (hb : b ≤ lv g ()) : Above b (tallyAt g () n) := fun g' u hg => by
  rw [tallyAt_apply] at hg
  by_cases e : g' = g ∧ u = ()
  · rw [e.1]; exact ⟨h, hb⟩
  · rw [if_neg e] at hg; exact absurd hg (Nat.lt_irrefl 0)

theorem above_tB (c j : Dev nD) : Above 1 (tB c j) := by
  unfold tB; split
  · exact Above.zero _
  · exact Above.at rfl (Nat.le_refl 1)
theorem above_tR (c j : Dev nD) : Above 2 (tR c j) := by
  unfold tR; split
  · exact Above.zero _
  · exact Above.at rfl (by rw [lv_rcv])
theorem above_tA (c j : Dev nD) : Above 3 (tA c j) := by
  unfold tA; split
  · exact Above.zero _
  · exact Above.at rfl (by rw [lv_arcv])
theorem Above.mono {b b' : ℕ} {O : CellTallies nD τ sig Unit} (h : Above b O) (hb : b' ≤ b) : Above b' O :=
  fun g u hg => ⟨(h g u hg).1, hb.trans (h g u hg).2⟩

theorem above_oA (c : Dev nD) : Above 3 (oA c) := Above.sum _ _ fun j _ => above_tA c j
theorem above_oR (c : Dev nD) : Above 2 (oR c) := Above.sum _ _ fun j _ => above_tR c j
theorem above_oB (c : Dev nD) : Above 1 (oB c) := Above.sum _ _ fun j _ => above_tB c j
theorem above_O₀ (c : Dev nD) : Above 1 (O₀ c) :=
  (((above_oA c).mono (by omega)).add ((above_oR c).mono (by omega))).add (above_oB c)

omit [FloatOps F] in
/-- A wait is allowed below everything owed. -/
theorem mayWait (c : Dev nD) (sm : SemLoc sig) (O : CellTallies nD τ sig Unit) (h : Above (lv ((c : Thread nD τ), sm) () + 1) O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.A2A

end
-- ==== Proof.Steps.lean ====
/-
One step of each loop of the kernel's body: a signal, a block sent, a block awaited, a maximum sent, a maximum awaited,
the two sends drained; and the rule for a loop whose trips each turn one item of a family.
-/
module

public import proofs.«01_k».proof.Proof.Proto
public import Idealize.ShloMosaic.Lib.Scf
public import proofs.«01_k».proof.Proof.Gen.KernelIdeal.Skeleton

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

abbrev 𝒱₀ : Variants := Variants.none

omit [FloatOps F] in
theorem bigSep_at {I : Type} [DecidableEq I] {s : Finset I} {i : I} (hi : i ∈ s) {Φ : I → sProp 𝕄} : (bigSep s Φ : sProp 𝕄) ⊢ Φ i :=
  bigSep_elim hi

/-! ## What every step may use -/

/-- Every cell's invariant, that every barrier cell is open, and the levels. -/
def ctx : sProp 𝕄 :=
  iprop((bigSep Finset.univ fun c : Dev nD => cellInv EB (sched xs tx) (K (bar c)) (bar c))
    ∗ (bigSep Finset.univ fun x : Fin 4 × Dev nD × Dev nD => cellInv EB (sched xs tx) (K (cel x.1 x.2.1 x.2.2)) (cel x.1 x.2.1 x.2.2))
    ∗ (bigSep Finset.univ fun c : Dev nD => reached EB (bar c) 0)
    ∗ levAts L lv)

instance ctx_persistent : BI.Persistent (ctx xs tx K) := by unfold ctx; infer_instance

theorem ctx_bar (c : Dev nD) : ctx xs tx K ⊢ cellInv EB (sched xs tx) (K (bar c)) (bar c) := by
  unfold ctx
  iintro ⟨H, -⟩
  ihave H := (bigSep_at (i := c) (Finset.mem_univ c)) $$ H; iexact H
theorem ctx_cel (k : Fin 4) (c j : Dev nD) : ctx xs tx K ⊢ cellInv EB (sched xs tx) (K (cel k c j)) (cel k c j) := by
  unfold ctx
  iintro ⟨-, H, -⟩
  ihave H := (bigSep_at (i := (k, c, j)) (Finset.mem_univ _)) $$ H; iexact H
theorem ctx_reached (c : Dev nD) : ctx xs tx K ⊢ reached EB (bar c) 0 := by
  unfold ctx
  iintro ⟨-, -, H, -⟩
  ihave H := (bigSep_at (i := c) (Finset.mem_univ c)) $$ H; iexact H
theorem ctx_lev : ctx xs tx K ⊢ levAts L lv := by
  unfold ctx
  iintro ⟨-, -, -, H⟩
  iexact H

/-- What device `c` owes, whatever it has waited for. -/
def ow (c : Dev nD) (O : CellTallies nD τ sig Unit) : sProp 𝕄 := iprop(∃ W, owes (c : Thread nD τ) O W)

/-- One thing for the device itself, another for every other device. -/
def cs (c j : Dev nD) (A B : sProp 𝕄) : sProp 𝕄 := if j = c then A else B
omit [FloatOps F] in
theorem cs_self (c : Dev nD) (A B : sProp 𝕄) : cs c c A B = A := if_pos rfl
omit [FloatOps F] in
theorem cs_ne (c j : Dev nD) (h : j ≠ c) (A B : sProp 𝕄) : cs c j A B = B := if_neg h

/-! ## The loop rule -/

section Loop

omit [FloatOps F] in
theorem lp_step {n : ℕ} (Pre Post : Fin n → sProp 𝕄) (k : Fin n) :
    (bigSep Finset.univ fun i : Fin n => if i.val < k.val then Post i else Pre i)
      ⊢ iprop(Pre k ∗ (Post k -∗ bigSep Finset.univ fun i : Fin n => if i.val < k.val + 1 then Post i else Pre i)) := by
  rw [bigSep_univ_at _ k, bigSep_univ_at (fun i : Fin n => if i.val < k.val + 1 then Post i else Pre i) k, if_neg (Nat.lt_irrefl _), if_pos (Nat.lt_succ_self _)]
  iintro ⟨HA, HB⟩
  isplitl [HA]; · iexact HA
  iintro HP
  isplitl [HP]; · iexact HP
  iapply (Entails.of_eq (bigSep_congr (s := Finset.univ.erase k) (fun i hi => ?_)) : _ ⊢ _)
  rotate_left
  · iexact HB
  · have : i ≠ k := (Finset.mem_erase.mp hi).1
    have : i.val ≠ k.val := fun e => this (Fin.ext e)
    by_cases hlt : i.val < k.val
    · rw [if_pos hlt, if_pos (by omega)]
    · rw [if_neg hlt, if_neg (by omega)]

/-- What the trips from `k` on still owe. -/
def owed {n : ℕ} (t : Fin n → CellTallies nD τ sig Unit) (k : ℕ) : CellTallies nD τ sig Unit := ∑ i : Fin n, if i.val < k then 0 else t i

theorem owed_step {n : ℕ} (t : Fin n → CellTallies nD τ sig Unit) (k : Fin n) : owed t k.val = owed t (k.val + 1) + t k := by
  unfold owed
  rw [← Finset.add_sum_erase _ _ (Finset.mem_univ k), ← Finset.add_sum_erase _ (fun i : Fin n => if i.val < k.val + 1 then 0 else t i) (Finset.mem_univ k),
    if_neg (Nat.lt_irrefl _), if_pos (Nat.lt_succ_self _), zero_add, add_comm]
  congr 1
  refine Finset.sum_congr rfl fun i hi => ?_
  have : i ≠ k := (Finset.mem_erase.mp hi).1
  have : i.val ≠ k.val := fun e => this (Fin.ext e)
  by_cases hlt : i.val < k.val
  · rw [if_pos hlt, if_pos (by omega)]
  · rw [if_neg hlt, if_neg (by omega)]
theorem owed_zero {n : ℕ} (t : Fin n → CellTallies nD τ sig Unit) : owed t 0 = ∑ i, t i :=
  Finset.sum_congr rfl fun i _ => if_neg (Nat.not_lt_zero _)
theorem owed_end {n : ℕ} (t : Fin n → CellTallies nD τ sig Unit) : owed t n = 0 :=
  Finset.sum_eq_zero fun i _ => if_pos i.isLt

/-- A loop whose trip `k` turns `Pre k` into `Post k` and pays `t k`. -/
theorem wp_loop {w : ℕ} (c : Dev nD) (lb ub st : BitVec w) (hok : Scf.OK lb ub st)
    (body : Fin (Scf.trips lb ub st) → Unit → Prog (TpuEff nD τ sig (Elt F) Λ₀ .tc) Unit)
    (Pre Post : Fin (Scf.trips lb ub st) → sProp 𝕄) (t : Fin (Scf.trips lb ub st) → CellTallies nD τ sig Unit) (O : CellTallies nD τ sig Unit)
    (hbody : ∀ (k : Fin (Scf.trips lb ub st)) (acc : Unit), iprop(ctx xs tx K ∗ Pre k ∗ ow c (O + owed t (k.val + 1) + t k))
      ⊢ wp frame (wpE (defs₀ (F := F)) 𝒱₀ (c : Thread nD τ) none) Set.univ (body k acc) fun _ => iprop(Post k ∗ ow c (O + owed t (k.val + 1))))
    {β : Type} {kk : Unit → Prog (TpuEff nD τ sig (Elt F) Λ₀ .tc) β} {Q : β → sProp 𝕄} :
    iprop(ctx xs tx K ∗ bigSep Finset.univ Pre ∗ ow c (O + ∑ k, t k) ∗ ((bigSep Finset.univ Post ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ (Scf.for lb ub st hok ⟨⟩ body >>= kk) Q := by
  iintro ⟨#HC, HP, HO, Hk⟩
  iapply (Scf.wp_for_bind frame (wpE (defs₀ (F := F)) 𝒱₀ (c : Thread nD τ) none) Set.univ lb ub st hok () body
    (fun k _ => iprop(ctx xs tx K ∗ (bigSep Finset.univ fun i : Fin (Scf.trips lb ub st) => if i.val < k then Post i else Pre i) ∗ ow c (O + owed t k))) ?_) $$ [HP HO]
  rotate_left
  · isplitr; · iexact HC
    isplitl [HP]
    · iapply (Entails.of_eq (bigSep_congr (s := Finset.univ) (Φ := Pre) (fun i _ => (if_neg (Nat.not_lt_zero _)).symm)) : _ ⊢ _); iexact HP
    · rw [owed_zero]; iexact HO
  · iintro %acc ⟨-, HP, HO⟩
    iapply Hk
    isplitl [HP]
    · iapply (Entails.of_eq (bigSep_congr (s := Finset.univ) (Ψ := Post) (fun i _ => if_pos i.isLt)) : _ ⊢ _); iexact HP
    · rw [owed_end, add_zero]; iexact HO
  · intro k acc
    iintro ⟨#HC, HP, HO⟩
    ihave H := (lp_step Pre Post k) $$ HP
    icases H with ⟨H1, H2⟩
    iapply (wp_wand_r frame (wpE (defs₀ (F := F)) 𝒱₀ (c : Thread nD τ) none) Set.univ)
    isplitl [H1 HO]
    · iapply (hbody k acc)
      isplitr; · iexact HC
      isplitl [H1]; · iexact H1
      rw [add_assoc, ← owed_step]; iexact HO
    · iintro %acc' ⟨H1, HO⟩
      isplitr; · iexact HC
      isplitl [H1 H2]
      · iapply H2; iexact H1
      · iexact HO

end Loop

/-! ## One wait for a transfer cell, one send of a block, one send of a maximum -/

theorem wait_cel (k : Fin 4) (c j : Dev nD) (hj : j ≠ c) (sm : DmaSem sig) (hs : sm = semIx k j) (N : ℕ)
    (hA : (sched xs tx).amount (cel k c j) 0 j = N) {sp sp' : Space} {s s' : Shape} {e : EltTy}
    (src : Memref sig .tc sp s e) (dst : Memref sig .tc sp' s' e) (h1 : src.view.WordExact) (h2 : dst.view.WordExact)
    (hN : dst.view.dmaCredit = N) (O : CellTallies nD τ sig Unit) (hO : Above (lv (cel k c j) () + 1) O)
    {β : Type} {kk : PUnit → Prog (TpuEff nD τ sig (Elt F) Λ₀ .tc) β} {Q : β → sProp 𝕄} :
    iprop(ctx xs tx K ∗ atPos EB (cel k c j) 0 ∅ 0 ∗ cred (tallyAt (cel k c j) () N) ∗ ow c O
        ∗ ((atPos EB (cel k c j) 1 ∅ 0 ∗ (sched xs tx).payload (cel k c j) 0 j ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ (.op (.waitDma2 sm src dst h1 h2) kk) Q := by
  subst hs
  unfold ow
  iintro ⟨#HC, Hat, Hc, ⟨%W, HO⟩, Hk⟩
  iapply (Rounds.wp_wait_rest_token 𝒱₀ EB (sched xs tx) (c : Thread nD τ) none (κ := K (cel k c j))
      (wpE_waitDma2_eq 𝒱₀ (c : Thread nD τ) none Set.univ) (Set.mem_univ _) () (O := O) (W := W) (R := 0) (m := 0) (T := ∅)
      (by rw [Nat.zero_add, expect_cel xs tx k c j hj, hA, hN])) $$ [Hat Hc HO]
  · isplitr; · iapply (ctx_cel xs tx K k c j); iexact HC
    isplitl [Hc]; · rw [hN]; iexact Hc
    isplitl [HO]; · iexact HO
    isplitr; · iapply (mayWait c _ O hO); iapply (ctx_lev xs tx K); iexact HC
    iexact Hat
  iintro ⟨HO, Hat, -, Hp⟩
  ihave Hp := (Entails.of_eq (rest_cel xs tx k c j hj)) $$ Hp
  iapply Hk
  isplitl [Hat]; · iexact Hat
  isplitl [Hp]; · iexact Hp
  iexists _; iexact HO

theorem send_x (c r : Dev nD) (h : r ≠ c) (dv : Dev nD) (hdv : dv = r)
    (src : Memref sig .tc .vmem S128x128 .f32) (hsrc : src = xRow r) (dst : Memref sig .tc .vmem S128x128 .f32) (hdst : dst = rSlot c)
    (s1 s2 : DmaSem sig) (hs1 : s1 = semIx 0 r) (hs2 : s2 = semIx 1 c)
    (hsc : dst.view.ref.isScScratch = false)
    (hw1 : src.view.WordExact) (hw2 : dst.view.WordExact) (hty : DmaTarget.Typed .vmem (.dma s2) (.remote (Dev.tc dv : Thread nD τ) dst (.dma s1) hsc))
    (O : CellTallies nD τ sig Unit)
    {β : Type} {kk : PUnit → Prog (TpuEff nD τ sig (Elt F) Λ₀ .tc) β} {Q : β → sProp 𝕄} :
    iprop(ctx xs tx K ∗ (dutyTok EB (cel 0 c r) 0 r ∗ reached EB (cel 0 c r) 0 ∗ dutyTok EB (cel 1 r c) 0 c ∗ xPts c r (xs c) ∗ barPay c r ∗ (∃ f, bPts (F := F) c r f))
        ∗ ow c (O + tR c r) ∗ (((cred (tallyAt (cel 0 c r) () NX) ∗ reached EB (cel 3 r c) 0) ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ
          (.op (.enqueueDma src (.remote (Dev.tc dv : Thread nD τ) dst (.dma s1) hsc) (.dma s2) hw1 hw2 hty) kk) Q := by
  subst hdv; subst hsrc; subst hdst; subst hs1; subst hs2
  unfold ow barPay
  iintro ⟨#HC, ⟨Ht0, Hr0, Ht1, Hx, ⟨⟨%fr, Hr⟩, #Hr1, #Hr3⟩, Hb⟩, ⟨%W, HO⟩, Hk⟩
  unfold xPts rPts
  iapply (Rounds.wp_send_pointsTo_with 𝒱₀ EB (sched xs tx) (c : Thread nD τ) none (c' := (dv : Thread nD τ))
    (κ₁ := K (cel 0 c dv)) (κ₂ := K (cel 1 dv c)) (r₁ := 0) (r₂ := 0) (d₁ := dv) (d₂ := c) (fd := fr) (fs := xs c)
    (src := xRow dv) (dst := rSlot c) (sS := .dma (semIx 0 dv)) (sem := .dma (semIx 1 c)) (O₀ := O + tR c dv)
    (F := iprop(∃ f, bPts (F := F) c dv f))
    (by rw [duties_cel xs tx 0 c dv h]; exact Finset.mem_singleton_self _)
    (by rw [duties_cel xs tx 1 dv c (Ne.symm h)]; exact Finset.mem_singleton_self _)
    () () NX (show (rSlot c).view.dmaCredit = NX from credit_rSlot c) (amount_snd xs tx c dv dv) (amount_rcv xs tx dv c c) O (by rw [tR, if_neg h]) (W := W)
    (by rw [payload_snd]; unfold xPts; exact BI.Entails.refl _)
    (by
      rw [payload_rcv]; unfold rcvPay
      exact sep_mono_left (Entails.of_eq (rPts_landed xs c dv fr)))) $$ [Ht0 Hr0 Ht1 Hx Hr Hb HO]
  · isplitr; · iapply (ctx_cel xs tx K 0 c dv); iexact HC
    isplitr; · iapply (ctx_cel xs tx K 1 dv c); iexact HC
    isplitl [Hx]; · iexact Hx
    isplitl [Hr Hb]
    · isplitl [Hr]; · iexact Hr
      iexact Hb
    isplitl [HO]; · iexact HO
    isplitl [Ht0]; · iexact Ht0
    isplitl [Hr0]; · iexact Hr0
    isplitl [Ht1]; · iexact Ht1
    iexact Hr1
  iintro ⟨Hc, HO⟩
  iapply Hk
  isplitl [Hc]
  · isplitl [Hc]; · iexact Hc
    iexact Hr3
  iexists _; iexact HO

theorem send_t (c r : Dev nD) (h : r ≠ c) (dv : Dev nD) (hdv : dv = r)
    (dst : Memref sig .tc .vmem S1x128 .f32) (hdst : dst = bRow c)
    (s1 s2 : DmaSem sig) (hs1 : s1 = semIx 2 r) (hs2 : s2 = semIx 3 c)
    (hsc : dst.view.ref.isScScratch = false)
    (hw1 : tM.view.WordExact) (hw2 : dst.view.WordExact) (hty : DmaTarget.Typed .vmem (.dma s2) (.remote (Dev.tc dv : Thread nD τ) dst (.dma s1) hsc))
    (O : CellTallies nD τ sig Unit)
    {β : Type} {kk : PUnit → Prog (TpuEff nD τ sig (Elt F) Λ₀ .tc) β} {Q : β → sProp 𝕄} :
    iprop(ctx xs tx K ∗ (dutyTok EB (cel 2 c r) 0 r ∗ reached EB (cel 2 c r) 0 ∗ dutyTok EB (cel 3 r c) 0 c ∗ reached EB (cel 3 r c) 0 ∗ tPts c r (tx c) ∗ (∃ f, bPts (F := F) r c f))
        ∗ ow c (O + tA c r) ∗ ((cred (tallyAt (cel 2 c r) () NA) ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ
          (.op (.enqueueDma tM (.remote (Dev.tc dv : Thread nD τ) dst (.dma s1) hsc) (.dma s2) hw1 hw2 hty) kk) Q := by
  subst hdv; subst hdst; subst hs1; subst hs2
  unfold ow
  iintro ⟨#HC, ⟨Ht0, Hr0, Ht1, Hr3, Hx, ⟨%fb, Hb⟩⟩, ⟨%W, HO⟩, Hk⟩
  unfold tPts bPts
  iapply (Rounds.wp_send_pointsTo 𝒱₀ EB (sched xs tx) (c : Thread nD τ) none (c' := (dv : Thread nD τ))
    (κ₁ := K (cel 2 c dv)) (κ₂ := K (cel 3 dv c)) (r₁ := 0) (r₂ := 0) (d₁ := dv) (d₂ := c) (fd := fb) (fs := tx c)
    (src := tM) (dst := bRow c) (sS := .dma (semIx 2 dv)) (sem := .dma (semIx 3 c)) (O₀ := O + tA c dv)
    (by rw [duties_cel xs tx 2 c dv h]; exact Finset.mem_singleton_self _)
    (by rw [duties_cel xs tx 3 dv c (Ne.symm h)]; exact Finset.mem_singleton_self _)
    () () NA (show (bRow c).view.dmaCredit = NA from credit_bRow c) (amount_asnd xs tx c dv dv) (amount_arcv xs tx dv c c) O (by rw [tA, if_neg h]) (W := W)
    (by rw [payload_asnd]; unfold tPts; exact BI.Entails.refl _)
    (by
      rw [payload_arcv]
      exact Entails.of_eq (bPts_landed tx c dv (Ne.symm h) fb))) $$ [Ht0 Hr0 Ht1 Hx Hr3 Hb HO]
  · isplitr; · iapply (ctx_cel xs tx K 2 c dv); iexact HC
    isplitr; · iapply (ctx_cel xs tx K 3 dv c); iexact HC
    isplitl [Hx]; · iexact Hx
    isplitl [Hb]; · iexact Hb
    isplitl [HO]; · iexact HO
    isplitl [Ht0]; · iexact Ht0
    isplitl [Hr0]; · iexact Hr0
    isplitl [Ht1]; · iexact Ht1
    iexact Hr3
  iintro ⟨Hc, HO⟩
  iapply Hk
  isplitl [Hc]; · iexact Hc
  iexists _; iexact HO

end Cert.A2A

end
-- ==== Proof.Loop.lean ====
/-
The six loops of the kernel's body, each with what it takes and what it leaves, over the devices (or the lanes of a quarter).
-/
module

public import proofs.«01_k».proof.Proof.Steps

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

/-! ## Loops over a family of other names -/

theorem wp_loop_pay {w : ℕ} {ι : Type} [Fintype ι] (c : Dev nD) (lb ub st : BitVec w) (hok : Scf.OK lb ub st)
    (body : Fin (Scf.trips lb ub st) → Unit → Prog (TpuEff nD τ sig (Elt F) Λ₀ .tc) Unit) (e : Fin (Scf.trips lb ub st) ≃ ι)
    (Pre Post : ι → sProp 𝕄) (t : ι → CellTallies nD τ sig Unit) (O : CellTallies nD τ sig Unit)
    (hbody : ∀ (k : Fin (Scf.trips lb ub st)) (acc : Unit) (O' : CellTallies nD τ sig Unit), iprop(ctx xs tx K ∗ Pre (e k) ∗ ow c (O' + t (e k)))
      ⊢ wp frame (wpE (defs₀ (F := F)) 𝒱₀ (c : Thread nD τ) none) Set.univ (body k acc) fun _ => iprop(Post (e k) ∗ ow c O'))
    {β : Type} {kk : Unit → Prog (TpuEff nD τ sig (Elt F) Λ₀ .tc) β} {Q : β → sProp 𝕄} :
    iprop(ctx xs tx K ∗ bigSep Finset.univ Pre ∗ ow c (O + ∑ k, t k) ∗ ((bigSep Finset.univ Post ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ (Scf.for lb ub st hok ⟨⟩ body >>= kk) Q := by
  rw [bigSep_univ_equiv e Pre, bigSep_univ_equiv e Post, ← Equiv.sum_comp e t]
  exact wp_loop xs tx K c lb ub st hok body (fun k => Pre (e k)) (fun k => Post (e k)) (fun k => t (e k)) O (fun k acc => hbody k acc _)

theorem wp_loop_wait {w : ℕ} {ι : Type} [Fintype ι] (c : Dev nD) (lb ub st : BitVec w) (hok : Scf.OK lb ub st)
    (body : Fin (Scf.trips lb ub st) → Unit → Prog (TpuEff nD τ sig (Elt F) Λ₀ .tc) Unit) (e : Fin (Scf.trips lb ub st) ≃ ι)
    (Pre Post : ι → sProp 𝕄) (O : CellTallies nD τ sig Unit)
    (hbody : ∀ (k : Fin (Scf.trips lb ub st)) (acc : Unit), iprop(ctx xs tx K ∗ Pre (e k) ∗ ow c O)
      ⊢ wp frame (wpE (defs₀ (F := F)) 𝒱₀ (c : Thread nD τ) none) Set.univ (body k acc) fun _ => iprop(Post (e k) ∗ ow c O))
    {β : Type} {kk : Unit → Prog (TpuEff nD τ sig (Elt F) Λ₀ .tc) β} {Q : β → sProp 𝕄} :
    iprop(ctx xs tx K ∗ bigSep Finset.univ Pre ∗ ow c O ∗ ((bigSep Finset.univ Post ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ (Scf.for lb ub st hok ⟨⟩ body >>= kk) Q := by
  have h0 : (∑ k : Fin (Scf.trips lb ub st), (0 : CellTallies nD τ sig Unit)) = 0 := Finset.sum_const_zero
  have h1 : ∀ n, owed (fun _ : Fin (Scf.trips lb ub st) => (0 : CellTallies nD τ sig Unit)) n = 0 := fun n => by
    unfold owed; exact Finset.sum_eq_zero fun i _ => by split <;> rfl
  have := wp_loop xs tx K c lb ub st hok body (fun k => Pre (e k)) (fun k => Post (e k)) (fun _ => 0) O
    (fun k acc => by rw [h1, add_zero, add_zero]; exact hbody k acc) (kk := kk) (Q := Q)
  rw [h0, add_zero] at this
  rw [bigSep_univ_equiv e Pre, bigSep_univ_equiv e Post]
  exact this

/-- The trips of the sending loops, by the device that the trip sends to. -/
def peerEquiv (c : Dev nD) : Fin 32 ≃ Dev nD where
  toFun := peer c
  invFun := trip c
  left_inv := trip_peer c
  right_inv := peer_trip c

abbrev tb : Memref sig .tc .smem S4 .i32 := Memref.whole main_v9

section Bodies

variable (i : grid0.Coords) (arg4 : Memref sig .tc .vmem S1024x4096 .f32) (h4 : arg4.IsWhole) (c : Dev nD)

abbrev W2 : (tb).IsWhole := Memref.isWhole_whole _

/-! ## The barrier's signals -/

abbrev B1 (h1 : k0_cond1 i = 1#1) (v55 : Sems sig S_) :=
  k0_t1_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8 c h1 v55

def pre1 (c j : Dev nD) : sProp 𝕄 :=
  cs c j iprop(∃ f, rPts (F := F) c c f)
    iprop((∃ f, rPts (F := F) c j f) ∗ dutyTok EB (bar j) 0 c ∗ reached EB (cel 1 c j) 0 ∗ reached EB (cel 3 c j) 0)
def post1 (c j : Dev nD) : sProp 𝕄 := cs c j iprop(∃ f, rPts (F := F) c c f) iprop(emp)

theorem trip1 (h1 : k0_cond1 i = 1#1) (k : Fin k0_t1_loop.trips) (acc : Unit) (O : CellTallies nD τ sig Unit) :
    iprop(ctx xs tx K ∗ pre1 c (finCongr trips1 k) ∗ ow c (O + tB c (finCongr trips1 k)))
      ⊢ wp frame (wpE (defs₀ (F := F)) 𝒱₀ (c : Thread nD τ) none) Set.univ (B1 i arg4 h4 c h1 (SemArray.scalar (sig.barrier 0 rfl)) k acc)
          fun _ => iprop(post1 c (finCongr trips1 k) ∗ ow c O) := by
  unfold B1 k0_t1_body pre1 post1
  have hdev : k0_dev1 k = (finCongr trips1 k : Fin 32).val := k0_dev1_eq k
  generalize hj : (finCongr trips1 k : Fin 32) = j
  rw [hj] at hdev
  have hv : k.val = j.val := by rw [← hj]; rfl
  by_cases h : j = c
  · have h2 : ¬ k0_cond2 c k = 1#1 := by rw [cond2_iff, hv, h]; exact fun e => e rfl
    rw [dif_neg h2, h]
    simp only [Prog.bind_ret, Prog.pure_eq_ret, wp_ret, cs_self, tB, if_true, add_zero]
    iintro ⟨-, Hr, HO⟩
    imodintro
    isplitl [Hr] <;> iassumption
  · have h2 : k0_cond2 c k = 1#1 := by rw [cond2_iff, hv]; exact fun e => h (Fin.ext e)
    rw [dif_pos h2]
    simp only [semSignalWord, Prog.lift, Prog.bind_op, Prog.bind_ret, Prog.pure_eq_ret, cs_ne c j h]
    have hd : (⟨k0_dev1 k, k0_dev1_lt i c k h1 h2⟩ : Dev nD) = j := Fin.ext hdev
    rw [hd]
    unfold ow
    iintro ⟨#HC, ⟨Hr, Ht, Hr1, Hr3⟩, ⟨%W, HO⟩⟩
    iapply (Rounds.wp_signal 𝒱₀ EB (sched xs tx) (c : Thread nD τ) none (dst := (j : Thread nD τ)) (sem := barS) (κ := K (bar j)) (r := 0)
      (d := c) (by rw [duties_bar]; exact Finset.mem_erase.mpr ⟨Ne.symm h, Finset.mem_univ _⟩) ((amount_bar xs tx j c).trans (by decide)) () (O₀ := O + tB c j) O
        (by rw [tB, if_neg h]; rfl)) $$ [HO Ht Hr Hr1 Hr3]
    · isplitr; · iapply (ctx_bar xs tx K j); iexact HC
      isplitl [HO]; · iexact HO
      isplitl [Ht]; · iexact Ht
      isplitl [Hr Hr1 Hr3]
      · rw [payload_bar]; unfold barPay
        isplitl [Hr]; · iexact Hr
        isplitl [Hr1] <;> iassumption
      · iapply (ctx_reached xs tx K j); iexact HC
    iintro HO
    rw [wp_ret]; imodintro
    isplitr; · iempintro
    iexists W; iexact HO

theorem loop1 (h1 : k0_cond1 i = 1#1) (O : CellTallies nD τ sig Unit) {β : Type} {kk : Unit → Prog (TpuEff nD τ sig (Elt F) Λ₀ .tc) β} {Q : β → sProp 𝕄} :
    iprop(ctx xs tx K ∗ bigSep Finset.univ (pre1 (F := F) c) ∗ ow c (O + oB c) ∗ ((bigSep Finset.univ (post1 (F := F) c) ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ
          (Scf.Loop.for k0_t1_loop (k0_t1_ok i h1) ⟨⟩ (B1 i arg4 h4 c h1 (SemArray.scalar (sig.barrier 0 rfl))) >>= kk) Q :=
  wp_loop_pay xs tx K c _ _ _ _ _ (finCongr trips1) (pre1 c) (post1 c) (tB c) O (fun k acc O' => trip1 xs tx K i arg4 h4 c h1 k acc O')

/-! ## The blocks' sends -/

abbrev B2 (v19 : BitVec 32) (h1 : k0_cond1 i = 1#1) :=
  k0_t2_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8 c v19 h1

def pre2 (c r : Dev nD) : sProp 𝕄 :=
  cs c r iprop(xPts c c (xs c) ∗ bPts c c (k0_pay15 (F := F)))
    iprop(dutyTok EB (cel 0 c r) 0 r ∗ reached EB (cel 0 c r) 0 ∗ dutyTok EB (cel 1 r c) 0 c ∗ xPts c r (xs c) ∗ barPay c r ∗ (∃ f, bPts (F := F) c r f))
def post2 (c r : Dev nD) : sProp 𝕄 :=
  cs c r iprop(xPts c c (xs c) ∗ bPts c c (k0_pay15 (F := F))) iprop(cred (tallyAt (cel 0 c r) () NX) ∗ reached EB (cel 3 r c) 0)

theorem trip2 (v19 : BitVec 32) (h1 : k0_cond1 i = 1#1) (k : Fin k0_t2_loop.trips) (acc : Unit) (O : CellTallies nD τ sig Unit) :
    iprop(ctx xs tx K ∗ pre2 xs c (((finCongr trips2).trans (peerEquiv c)) k) ∗ ow c (O + tR c (((finCongr trips2).trans (peerEquiv c)) k)))
      ⊢ wp frame (wpE (defs₀ (F := F)) 𝒱₀ (c : Thread nD τ) none) Set.univ (B2 i arg4 h4 c v19 h1 k acc)
          fun _ => iprop(post2 xs c (((finCongr trips2).trans (peerEquiv c)) k) ∗ ow c O) := by
  unfold B2 k0_t2_body pre2 post2
  have hcond := cond3_iff c k
  have hdev := dev2_eq c k
  have ho2 := off2_eq c k
  have ho5 := off5_eq c k
  have hj' : ((finCongr trips2).trans (peerEquiv c)) k = peer c (k.cast trips2) := rfl
  rw [hj']
  generalize peer c (k.cast trips2) = r at hcond hdev ho2 ho5 ⊢
  simp only [k0_part1_eq_skeleton]
  unfold k0_part1_skel
  by_cases h : r = c
  · have h2 : ¬ k0_cond3 c k = 1#1 := by rw [hcond]; exact fun e => e h
    simp only [dif_neg h2, h]
    simp only [Prog.bind_ret, Prog.pure_eq_ret, wp_ret, cs_self, tR, if_true, add_zero]
    iintro ⟨-, Hr, HO⟩
    imodintro
    isplitl [Hr] <;> iassumption
  · have h2 : k0_cond3 c k = 1#1 := hcond.mpr h
    simp only [dif_pos h2]
    simp only [Prog.lift, Prog.bind_op, Prog.bind_ret, Prog.pure_eq_ret, cs_ne c r h]
    iintro ⟨#HC, Hp, HO⟩
    iapply (send_x xs tx K c r h _ (Fin.ext hdev) _ (slice_of_off xM ho5 _ _ _ _) _
      (congrArg (fun m : Memref sig .tc .vmem S1x128x128 .f32 => m.squeeze S128x128 squeezes_S1x128x128_S128x128) (slice_of_off rM (k0_off4_eq c) _ _ _ _))
      _ _ (sem5_eq r _ ho2 _) (sem6_eq c _ (k0_off3_eq c) _) rfl (View.wordExact_bits rfl) ((View.wordExact_bits rfl).reshape _ _) ⟨⟨rfl, Or.inl rfl⟩, trivial⟩ O)
    isplitr; · iexact HC
    isplitl [Hp]; · iexact Hp
    isplitl [HO]; · iexact HO
    iintro ⟨Hc, HO⟩
    rw [wp_ret]; imodintro
    isplitl [Hc] <;> iassumption

theorem loop2 (v19 : BitVec 32) (h1 : k0_cond1 i = 1#1) (O : CellTallies nD τ sig Unit) {β : Type} {kk : Unit → Prog (TpuEff nD τ sig (Elt F) Λ₀ .tc) β} {Q : β → sProp 𝕄} :
    iprop(ctx xs tx K ∗ bigSep Finset.univ (pre2 xs c) ∗ ow c (O + oR c) ∗ ((bigSep Finset.univ (post2 xs c) ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ
          (Scf.Loop.for k0_t2_loop (k0_t2_ok i h1) ⟨⟩ (B2 i arg4 h4 c v19 h1) >>= kk) Q :=
  wp_loop_pay xs tx K c _ _ _ _ _ ((finCongr trips2).trans (peerEquiv c)) (pre2 xs c) (post2 xs c) (tR c) O
    (fun k acc O' => trip2 xs tx K i arg4 h4 c v19 h1 k acc O')

/-! ## The blocks of a quarter awaited -/

abbrev B3 (v2 v36 : BitVec 32) (hw : k0_chk1 i c v36) (h4' : k0_cond4 i = 1#1) :=
  k0_t3_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8 c v2 v36 hw h4'

def pend (c j : Dev nD) : sProp 𝕄 :=
  cs c j iprop(∃ f, rPts (F := F) c c f) iprop(atPos EB (cel 1 c j) 0 ∅ 0 ∗ cred (tallyAt (cel 1 c j) () NX))
def got (c j : Dev nD) : sProp 𝕄 :=
  cs c j iprop(∃ f, rPts (F := F) c c f) iprop(atPos EB (cel 1 c j) 1 ∅ 0 ∗ rPts c j (RB xs c) ∗ ∃ f, bPts (F := F) j c f)

theorem trip3 (v2 : BitVec 32) (s : Fin 4) (hw : k0_chk1 i c (qw s)) (h4' : k0_cond4 i = 1#1) (k : Fin k0_t3_loop.trips) (acc : Unit) :
    iprop(ctx xs tx K ∗ pend (F := F) c (lane s (finCongr trips3 k)) ∗ ow c (oA c))
      ⊢ wp frame (wpE (defs₀ (F := F)) 𝒱₀ (c : Thread nD τ) none) Set.univ (B3 i arg4 h4 c v2 (qw s) hw h4' k acc)
          fun _ => iprop(got xs c (lane s (finCongr trips3 k)) ∗ ow c (oA c)) := by
  unfold B3 k0_t3_body pend got
  have hcond := cond5_iff c s k
  have ho7 := off7_eq s k
  have hj' : lane s (finCongr trips3 k) = lane s (k.cast trips3) := rfl
  rw [hj']
  generalize lane s (k.cast trips3) = r at hcond ho7 ⊢
  by_cases h : r = c
  · have h2 : ¬ k0_cond5 c (qw s) k = 1#1 := by rw [hcond]; exact fun e => e h
    rw [dif_neg h2, h]
    simp only [Prog.bind_ret, Prog.pure_eq_ret, wp_ret, cs_self]
    iintro ⟨-, Hr, HO⟩
    imodintro
    isplitl [Hr] <;> iassumption
  · have h2 : k0_cond5 c (qw s) k = 1#1 := hcond.mpr h
    rw [dif_pos h2]
    simp only [Prog.lift, Prog.bind_op, Prog.bind_ret, Prog.pure_eq_ret, cs_ne c r h]
    iintro ⟨#HC, ⟨Hat, Hc⟩, HO⟩
    iapply (wait_cel xs tx K 1 c r h _ (sem6_eq r _ ho7 _) NX (amount_rcv xs tx c r r) _
      ((rM.slice (Rect.unit (s := S32x128x128) (k0_off8 (qw s) k) S1x128x128.size (k0_off8_inb i c (qw s) hw k h4' h2)) (fun _ => rfl)).squeeze S128x128 squeezes_S1x128x128_S128x128)
      _ _ rfl (oA c) (by rw [lv_rcv]; exact above_oA c))
    isplitr; · iexact HC
    isplitl [Hat]; · iexact Hat
    isplitl [Hc]; · iexact Hc
    isplitl [HO]; · iexact HO
    rw [payload_rcv]; unfold rcvPay
    iintro ⟨Hat, ⟨Hr, Hb⟩, HO⟩
    rw [wp_ret]; imodintro
    isplitl [Hat Hr Hb]
    · isplitl [Hat]; · iexact Hat
      isplitl [Hr] <;> iassumption
    · iexact HO

theorem loop3 (v2 : BitVec 32) (s : Fin 4) (hw : k0_chk1 i c (qw s)) (h4' : k0_cond4 i = 1#1) {β : Type} {kk : Unit → Prog (TpuEff nD τ sig (Elt F) Λ₀ .tc) β} {Q : β → sProp 𝕄} :
    iprop(ctx xs tx K ∗ bigSep Finset.univ (fun l : Fin 8 => pend (F := F) c (lane s l)) ∗ ow c (oA c)
        ∗ ((bigSep Finset.univ (fun l : Fin 8 => got xs c (lane s l)) ∗ ow c (oA c))
        -∗ wp frame (wpE (defs₀ (F := F)) 𝒱₀ (c : Thread nD τ) none) Set.univ (kk ⟨⟩) Q))
      ⊢ wp frame (wpE (defs₀ (F := F)) 𝒱₀ (c : Thread nD τ) none) Set.univ
          (Scf.Loop.for k0_t3_loop (k0_t3_ok i h4') ⟨⟩ (B3 i arg4 h4 c v2 (qw s) hw h4') >>= kk) Q :=
  wp_loop_wait xs tx K c _ _ _ _ _ (finCongr trips3) (fun l : Fin 8 => pend (F := F) c (lane s l)) (fun l : Fin 8 => got xs c (lane s l)) (oA c)
    (fun k acc => trip3 xs tx K i arg4 h4 c v2 s hw h4' k acc)

/-! ## The maxima's sends -/

abbrev B4 (v2 v19 v29 : BitVec 32) (h8 : k0_cond8 i = 1#1) :=
  k0_t4_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8 c v2 v19 v29 h8

def pre4 (c r : Dev nD) : sProp 𝕄 :=
  cs c r iprop(emp)
    iprop(dutyTok EB (cel 2 c r) 0 r ∗ reached EB (cel 2 c r) 0 ∗ dutyTok EB (cel 3 r c) 0 c ∗ reached EB (cel 3 r c) 0 ∗ tPts c r (tx c) ∗ (∃ f, bPts (F := F) r c f))
def post4 (c r : Dev nD) : sProp 𝕄 := cs c r iprop(emp) (cred (tallyAt (cel 2 c r) () NA))

theorem trip4 (v2 v19 v29 : BitVec 32) (h8 : k0_cond8 i = 1#1) (k : Fin k0_t4_loop.trips) (acc : Unit) (O : CellTallies nD τ sig Unit) :
    iprop(ctx xs tx K ∗ pre4 tx c (((finCongr trips4).trans (peerEquiv c)) k) ∗ ow c (O + tA c (((finCongr trips4).trans (peerEquiv c)) k)))
      ⊢ wp frame (wpE (defs₀ (F := F)) 𝒱₀ (c : Thread nD τ) none) Set.univ (B4 i arg4 h4 c v2 v19 v29 h8 k acc)
          fun _ => iprop(post4 (F := F) c (((finCongr trips4).trans (peerEquiv c)) k) ∗ ow c O) := by
  unfold B4 k0_t4_body pre4 post4
  have hcond := cond9_iff c k
  have hdev := dev3_eq c k
  have ho13 := off13_eq c k
  have hj' : ((finCongr trips4).trans (peerEquiv c)) k = peer c (k.cast trips4) := rfl
  rw [hj']
  generalize peer c (k.cast trips4) = r at hcond hdev ho13 ⊢
  simp only [k0_part3_eq_skeleton]
  unfold k0_part3_skel
  by_cases h : r = c
  · have h2 : ¬ k0_cond9 c k = 1#1 := by rw [hcond]; exact fun e => e h
    simp only [dif_neg h2, h]
    simp only [Prog.bind_ret, Prog.pure_eq_ret, wp_ret, cs_self, tA, if_true, add_zero]
    iintro ⟨-, Hr, HO⟩
    imodintro
    isplitl [Hr] <;> iassumption
  · have h2 : k0_cond9 c k = 1#1 := hcond.mpr h
    simp only [dif_pos h2]
    simp only [Prog.lift, Prog.bind_op, Prog.bind_ret, Prog.pure_eq_ret, cs_ne c r h]
    iintro ⟨#HC, Hp, HO⟩
    iapply (send_t xs tx K c r h _ (Fin.ext hdev) _ (slice_of_off bM (k0_off15_eq c) _ _ _ _)
      _ _ (sem7_eq r _ ho13 _) (sem8_eq c _ (k0_off14_eq c) _) rfl (Memref.isWhole_whole _).wordExact (View.wordExact_bits rfl) ⟨⟨rfl, Or.inl rfl⟩, trivial⟩ O)
    isplitr; · iexact HC
    isplitl [Hp]; · iexact Hp
    isplitl [HO]; · iexact HO
    iintro ⟨Hc, HO⟩
    rw [wp_ret]; imodintro
    isplitl [Hc] <;> iassumption

theorem loop4 (v2 v19 v29 : BitVec 32) (h8 : k0_cond8 i = 1#1) (O : CellTallies nD τ sig Unit) {β : Type} {kk : Unit → Prog (TpuEff nD τ sig (Elt F) Λ₀ .tc) β} {Q : β → sProp 𝕄} :
    iprop(ctx xs tx K ∗ bigSep Finset.univ (pre4 tx c) ∗ ow c (O + oA c) ∗ ((bigSep Finset.univ (post4 (F := F) c) ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ
          (Scf.Loop.for k0_t4_loop (k0_t4_ok i h8) ⟨⟩ (B4 i arg4 h4 c v2 v19 v29 h8) >>= kk) Q :=
  wp_loop_pay xs tx K c _ _ _ _ _ ((finCongr trips4).trans (peerEquiv c)) (pre4 tx c) (post4 c) (tA c) O
    (fun k acc O' => trip4 xs tx K i arg4 h4 c v2 v19 v29 h8 k acc O')

/-! ## The maxima awaited -/

abbrev B5 (v2 v19 v29 : BitVec 32) (h8 : k0_cond8 i = 1#1) :=
  k0_t5_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8 c v2 v19 v29 h8

def pre5 (c j : Dev nD) : sProp 𝕄 :=
  cs c j (bPts c c (k0_pay15 (F := F))) iprop(atPos EB (cel 3 c j) 0 ∅ 0 ∗ cred (tallyAt (cel 3 c j) () NA))
def post5 (c j : Dev nD) : sProp 𝕄 :=
  cs c j (bPts c c (k0_pay15 (F := F))) iprop(atPos EB (cel 3 c j) 1 ∅ 0 ∗ bPts c j (AB tx c))

theorem trip5 (v2 v19 v29 : BitVec 32) (h8 : k0_cond8 i = 1#1) (k : Fin k0_t5_loop.trips) (acc : Unit) :
    iprop(ctx xs tx K ∗ pre5 (F := F) c (finCongr trips5 k) ∗ ow c 0)
      ⊢ wp frame (wpE (defs₀ (F := F)) 𝒱₀ (c : Thread nD τ) none) Set.univ (B5 i arg4 h4 c v2 v19 v29 h8 k acc)
          fun _ => iprop(post5 tx c (finCongr trips5 k) ∗ ow c 0) := by
  unfold B5 k0_t5_body pre5 post5
  have ho : k0_off16 k = ![(finCongr trips5 k : Fin 32).val] := k0_off16_eq k
  generalize hj : (finCongr trips5 k : Fin 32) = j at ho ⊢
  have hv : k.val = j.val := by rw [← hj]; rfl
  by_cases h : j = c
  · have h2 : ¬ k0_cond10 c k = 1#1 := by rw [cond10_iff, hv, h]; exact fun e => e rfl
    rw [dif_neg h2, h]
    simp only [Prog.bind_ret, Prog.pure_eq_ret, wp_ret, cs_self]
    iintro ⟨-, Hr, HO⟩
    imodintro
    isplitl [Hr] <;> iassumption
  · have h2 : k0_cond10 c k = 1#1 := by rw [cond10_iff, hv]; exact fun e => h (Fin.ext e)
    rw [dif_pos h2]
    simp only [Prog.lift, Prog.bind_op, Prog.bind_ret, Prog.pure_eq_ret, cs_ne c j h]
    iintro ⟨#HC, ⟨Hat, Hc⟩, HO⟩
    iapply (wait_cel xs tx K 3 c j h _ (sem8_eq j _ ho _) NA (amount_arcv xs tx c j j) _
      (bM.slice (Rect.unit (s := S32x128) (k0_off17 k) S1x128.size (k0_off17_inb i c k h8 h2)) (fun _ => rfl)) _ _ rfl 0 (Above.zero _))
    isplitr; · iexact HC
    isplitl [Hat]; · iexact Hat
    isplitl [Hc]; · iexact Hc
    isplitl [HO]; · iexact HO
    rw [payload_arcv]
    iintro ⟨Hat, Hb, HO⟩
    rw [wp_ret]; imodintro
    isplitl [Hat Hb]
    · isplitl [Hat] <;> iassumption
    · iexact HO

theorem loop5 (v2 v19 v29 : BitVec 32) (h8 : k0_cond8 i = 1#1) {β : Type} {kk : Unit → Prog (TpuEff nD τ sig (Elt F) Λ₀ .tc) β} {Q : β → sProp 𝕄} :
    iprop(ctx xs tx K ∗ bigSep Finset.univ (pre5 (F := F) c) ∗ ow c 0 ∗ ((bigSep Finset.univ (post5 tx c) ∗ ow c 0)
        -∗ wp frame (wpE (defs₀ (F := F)) 𝒱₀ (c : Thread nD τ) none) Set.univ (kk ⟨⟩) Q))
      ⊢ wp frame (wpE (defs₀ (F := F)) 𝒱₀ (c : Thread nD τ) none) Set.univ
          (Scf.Loop.for k0_t5_loop (k0_t5_ok i h8) ⟨⟩ (B5 i arg4 h4 c v2 v19 v29 h8) >>= kk) Q :=
  wp_loop_wait xs tx K c _ _ _ _ _ (finCongr trips5) (pre5 c) (post5 tx c) 0 (fun k acc => trip5 xs tx K i arg4 h4 c v2 v19 v29 h8 k acc)

/-! ## The sends drained -/

abbrev B6 (h8 : k0_cond8 i = 1#1) :=
  k0_t6_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8 c h8

def pre6 (c j : Dev nD) : sProp 𝕄 :=
  cs c j iprop(xPts c c (xs c) ∗ tPts c c (tx c))
    iprop((atPos EB (cel 0 c j) 0 ∅ 0 ∗ cred (tallyAt (cel 0 c j) () NX)) ∗ atPos EB (cel 2 c j) 0 ∅ 0 ∗ cred (tallyAt (cel 2 c j) () NA))
def post6 (c j : Dev nD) : sProp 𝕄 :=
  cs c j iprop(xPts c c (xs c) ∗ tPts c c (tx c))
    iprop((atPos EB (cel 0 c j) 1 ∅ 0 ∗ xPts c j (xs c)) ∗ atPos EB (cel 2 c j) 1 ∅ 0 ∗ tPts c j (tx c))

theorem trip6 (h8 : k0_cond8 i = 1#1) (k : Fin k0_t6_loop.trips) (acc : Unit) :
    iprop(ctx xs tx K ∗ pre6 xs tx c (finCongr trips6 k) ∗ ow c 0)
      ⊢ wp frame (wpE (defs₀ (F := F)) 𝒱₀ (c : Thread nD τ) none) Set.univ (B6 i arg4 h4 c h8 k acc)
          fun _ => iprop(post6 xs tx c (finCongr trips6 k) ∗ ow c 0) := by
  unfold B6 k0_t6_body pre6 post6
  have ho : k0_off18 k = ![(finCongr trips6 k : Fin 32).val] := k0_off18_eq k
  generalize hj : (finCongr trips6 k : Fin 32) = j at ho ⊢
  have hv : k.val = j.val := by rw [← hj]; rfl
  by_cases h : j = c
  · have h2 : ¬ k0_cond11 c k = 1#1 := by rw [cond11_iff, hv, h]; exact fun e => e rfl
    rw [dif_neg h2, h]
    simp only [Prog.bind_ret, Prog.pure_eq_ret, wp_ret, cs_self]
    iintro ⟨-, Hr, HO⟩
    imodintro
    isplitl [Hr] <;> iassumption
  · have h2 : k0_cond11 c k = 1#1 := by rw [cond11_iff, hv]; exact fun e => h (Fin.ext e)
    rw [dif_pos h2]
    simp only [Prog.lift, Prog.bind_op, Prog.bind_ret, Prog.pure_eq_ret, cs_ne c j h]
    iintro ⟨#HC, ⟨⟨Hat, Hc⟩, ⟨Hat2, Hc2⟩⟩, HO⟩
    iapply (wait_cel xs tx K 0 c j h _ (sem5_eq j _ ho _) NX (amount_snd xs tx c j j) _ _ _ _ (credit_xRow (0 : Fin 32)) 0 (Above.zero _))
    isplitr; · iexact HC
    isplitl [Hat]; · iexact Hat
    isplitl [Hc]; · iexact Hc
    isplitl [HO]; · iexact HO
    rw [payload_snd]
    iintro ⟨Hat, Hx, HO⟩
    iapply (wait_cel xs tx K 2 c j h _ (sem7_eq j _ ho _) NA (amount_asnd xs tx c j j) _ _ _ _ credit_tM 0 (Above.zero _))
    isplitr; · iexact HC
    isplitl [Hat2]; · iexact Hat2
    isplitl [Hc2]; · iexact Hc2
    isplitl [HO]; · iexact HO
    rw [payload_asnd]
    iintro ⟨Hat2, Ht, HO⟩
    rw [wp_ret]; imodintro
    isplitl [Hat Hx Hat2 Ht]
    · isplitl [Hat Hx]
      · isplitl [Hat] <;> iassumption
      · isplitl [Hat2] <;> iassumption
    · iexact HO

theorem loop6 (h8 : k0_cond8 i = 1#1) {β : Type} {kk : Unit → Prog (TpuEff nD τ sig (Elt F) Λ₀ .tc) β} {Q : β → sProp 𝕄} :
    iprop(ctx xs tx K ∗ bigSep Finset.univ (pre6 xs tx c) ∗ ow c 0 ∗ ((bigSep Finset.univ (post6 xs tx c) ∗ ow c 0)
        -∗ wp frame (wpE (defs₀ (F := F)) 𝒱₀ (c : Thread nD τ) none) Set.univ (kk ⟨⟩) Q))
      ⊢ wp frame (wpE (defs₀ (F := F)) 𝒱₀ (c : Thread nD τ) none) Set.univ
          (Scf.Loop.for k0_t6_loop (k0_t6_ok i h8) ⟨⟩ (B6 i arg4 h4 c h8) >>= kk) Q :=
  wp_loop_wait xs tx K c _ _ _ _ _ (finCongr trips6) (pre6 xs tx c) (post6 xs tx c) 0 (fun k acc => trip6 xs tx K i arg4 h4 c h8 k acc)

end Bodies

end Cert.A2A

end
-- ==== Proof.Values.lean ====
/-
What the buffers of the kernel's body hold, as values: the staged row of blocks, the two halves of the accumulator,
the result; and what a load or a store of a half reads and leaves.
-/
module

public import proofs.«01_k».proof.Proof.Steps

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev YBuf (F : FTy → Type) := S2x128x4096.Idx → F .f32
abbrev YHalf (F : FTy → Type) := S1x128x4096.Idx → F .f32
abbrev ABuf (F : FTy → Type) := S128x1024.Idx → F .f32
abbrev OBuf (F : FTy → Type) := S128x8192.Idx → F .f32
abbrev WBuf (F : FTy → Type) := S1024x4096.Idx → F .f32

/-! ## The accumulator's halves -/

/-- The accumulator whose halves are `a` and `b`. -/
def yB (a b : YHalf F) : YBuf F := fun i => if (i 0).val = 0 then a (ix3 (0 : Fin 1) (i 1) (i 2)) else b (ix3 (0 : Fin 1) (i 1) (i 2))

theorem yB_eta (f : YBuf F) : ∃ a b, f = yB a b :=
  ⟨fun j => f (ix3 (0 : Fin 2) (j 1) (j 2)), fun j => f (ix3 (1 : Fin 2) (j 1) (j 2)), by
    funext i
    rw [eq_ix3 i]
    show _ = if (i 0).val = 0 then _ else _
    have h2 : (i 0).val < 2 := (i 0).isLt
    split
    · next h => rw [show i 0 = (0 : Fin 2) from Fin.ext h]; rfl
    · next h => rw [show i 0 = (1 : Fin 2) from Fin.ext (by show (i 0).val = 1; omega)]; rfl⟩

section Half
variable {off : Fin 3 → ℕ} (inb : ∀ a, off a + S1x128x4096.size a ≤ S2x128x4096.size a)

theorem yHalf_emb (n : Fin 2) (h : off = ![n.val, 0, 0]) (z : S1x128x4096.Idx) :
    (yM.access (Rect.unit (s := S2x128x4096) off S1x128x4096.size inb)).emb z = (ix3 n (z 1) (z 2) : S2x128x4096.Idx) := by
  subst h
  funext a; fin_cases a
  · have : (z 0).val < 1 := (z 0).isLt
    exact Fin.ext (show n.val + 1 * (z 0).val = n.val by omega)
  · exact Fin.ext (show 0 + 1 * (z 1).val = (z 1).val by omega)
  · exact Fin.ext (show 0 + 1 * (z 2).val = (z 2).val by omega)

theorem half_eta (z : S1x128x4096.Idx) : (ix3 (0 : Fin 1) (z 1) (z 2) : S1x128x4096.Idx) = z := by
  have h0 : z 0 = (0 : Fin 1) := Subsingleton.elim (α := Fin 1) _ _
  conv_rhs => rw [eq_ix3 z, h0]
  rfl

theorem read_half0 (h : off = ![0, 0, 0]) (a b : YHalf F) :
    yM.view.readAt (Elt F) (Rect.unit (s := S2x128x4096) off S1x128x4096.size inb).toLoadRect (yB a b) = a := by
  funext z
  refine (congrArg (yB a b) (yHalf_emb inb 0 h z)).trans ?_
  exact (if_pos rfl).trans (congrArg a (half_eta z))

theorem read_half1 (h : off = ![1, 0, 0]) (a b : YHalf F) :
    yM.view.readAt (Elt F) (Rect.unit (s := S2x128x4096) off S1x128x4096.size inb).toLoadRect (yB a b) = b := by
  funext z
  refine (congrArg (yB a b) (yHalf_emb inb 1 h z)).trans ?_
  exact (if_neg (by show ¬ (1 : ℕ) = 0; omega)).trans (congrArg b (half_eta z))

theorem write_half (n : Fin 2) (h : off = ![n.val, 0, 0]) (f : YBuf F) (w : YHalf F) (i : S2x128x4096.Idx) :
    (yM.access (Rect.unit (s := S2x128x4096) off S1x128x4096.size inb)).write (Elt F) f w Finset.univ i
      = if (i 0).val = n.val then w (ix3 (0 : Fin 1) (i 1) (i 2)) else f i := by
  split
  · next hn =>
    have hi : i = (yM.access (Rect.unit (s := S2x128x4096) off S1x128x4096.size inb)).emb (ix3 (0 : Fin 1) (i 1) (i 2)) := by
      rw [yHalf_emb inb n h]
      conv_lhs => rw [eq_ix3 i, show i 0 = n from Fin.ext hn]
      rfl
    conv_lhs => rw [hi]
    exact View.write_emb_of_mem _ _ (Finset.mem_univ _)
  · next hn =>
    refine View.write_of_not_mem _ _ _ fun hm => hn ?_
    rw [View.setOn_univ] at hm
    obtain ⟨z, _, hz⟩ := Finset.mem_map.mp hm
    rw [← hz, yHalf_emb inb n h]

theorem write_half0 (h : off = ![0, 0, 0]) (a b v : YHalf F) :
    (yM.access (Rect.unit (s := S2x128x4096) off S1x128x4096.size inb)).write (Elt F) (yB a b) v Finset.univ = yB v b := by
  funext i
  rw [write_half inb 0 h]
  show (if _ then _ else if _ then _ else _) = if _ then _ else _
  by_cases hi : (i 0).val = 0
  · exact (if_pos hi).trans (if_pos hi).symm
  · exact (if_neg hi).trans ((if_neg hi).trans (if_neg hi).symm)

theorem write_half1 (h : off = ![1, 0, 0]) (a b v : YHalf F) :
    (yM.access (Rect.unit (s := S2x128x4096) off S1x128x4096.size inb)).write (Elt F) (yB a b) v Finset.univ = yB a v := by
  funext i
  rw [write_half inb 1 h]
  show (if _ then _ else if _ then _ else _) = if _ then _ else _
  have h2 : (i 0).val < 2 := (i 0).isLt
  by_cases hi : (i 0).val = 0
  · exact (if_neg (by show ¬ (i 0).val = 1; omega)).trans ((if_pos hi).trans (if_pos hi).symm)
  · exact (if_pos (show (i 0).val = 1 by omega)).trans (if_neg hi).symm

end Half

/-! ## The staged row of blocks -/

/-- What quarter `s`'s staging holds on device `c`: the blocks received from the quarter's eight lanes side by side (of
its own lane, the device's own block). -/
def AS (xs : Dev nD → XBuf F) (c : Dev nD) (s : Fin 4) : ABuf F := fun i =>
  RB xs c (ix3 (lane s ⟨(i 1).val / 128, by have : (i 1).val < 1024 := (i 1).isLt; omega⟩ : Fin 32) (i 0)
    (⟨(i 1).val % 128, Nat.mod_lt _ (by decide)⟩ : Fin 128))

/-- One block of a pass: the device's own block, or the received one. -/
theorem block_eq (xs : Dev nD → XBuf F) (c : Dev nD) (s : Fin 4) (l : Fin 8) (own : FVec F S128x128 .f32) (got : FVec F S1x128x128 .f32)
    (k : BitVec 32) (hk : k = BitVec.ofNat 32 l.val)
    (ho : ∀ p q : Fin 128, own (ix2 p q) = RB xs c (ix3 (c : Fin 32) p q))
    (hg : lane s l ≠ c → ∀ p q : Fin 128, got (ix3 (0 : Fin 1) p q) = RB xs c (ix3 (lane s l : Fin 32) p q)) :
    Scalar.select (Scalar.cmpi .eq (Scalar.addi (Scalar.muli (qw s) 8#32) k) (Scalar.remsi (Scalar.divsi (Dev.word c) 1#32) 32#32)) own (shapeCast S128x128 got shapeCasts_S1x128x128_S128x128)
      = fun i : S128x128.Idx => RB xs c (ix3 (lane s l : Fin 32) (i 0) (i 1)) := by
  subst hk
  rw [own_eq]
  funext i
  by_cases h : lane s l = c
  · rw [if_pos h]
    show own i = _
    conv_lhs => rw [eq_ix2 i]
    rw [h]; exact ho _ _
  · rw [if_neg h]
    show shapeCast S128x128 got shapeCasts_S1x128x128_S128x128 i = _
    conv_lhs => rw [eq_ix2 i]
    exact (shapeCast_1ab_ab_apply got _ _ _).trans (hg h _ _)

theorem pay1_eq (xs : Dev nD → XBuf F) (c : Dev nD) (s : Fin 4) (own : FVec F S128x128 .f32) (g : Fin 8 → FVec F S1x128x128 .f32)
    (ho : ∀ p q : Fin 128, own (ix2 p q) = RB xs c (ix3 (c : Fin 32) p q))
    (hg : ∀ l, lane s l ≠ c → ∀ p q : Fin 128, g l (ix3 (0 : Fin 1) p q) = RB xs c (ix3 (lane s l : Fin 32) p q)) :
    k0_pay1 (F := F) (Scalar.remsi (Scalar.divsi (Dev.word c) 1#32) 32#32) (qw s) (k0_pay6 own)
      (k0_pay7 (Scalar.remsi (Scalar.divsi (Dev.word c) 1#32) 32#32) (qw s) own (g 0))
      (k0_pay8 (Scalar.remsi (Scalar.divsi (Dev.word c) 1#32) 32#32) (qw s) own (g 1))
      (k0_pay9 (Scalar.remsi (Scalar.divsi (Dev.word c) 1#32) 32#32) (qw s) own (g 2))
      (k0_pay10 (Scalar.remsi (Scalar.divsi (Dev.word c) 1#32) 32#32) (qw s) own (g 3))
      (Scalar.addi (Scalar.muli (qw s) 8#32) 4#32) (g 4) (g 5) (g 6) (g 7) = AS xs c s := by
  have hp6 : k0_pay6 own = own := shapeCast_self _ _
  unfold k0_pay1 k0_pay7 k0_pay8 k0_pay9 k0_pay10
  dsimp only
  rw [hp6, shapeCast_self]
  rw [block_eq xs c s 0 own (g 0) 0#32 rfl ho (hg 0), block_eq xs c s 1 own (g 1) 1#32 rfl ho (hg 1),
    block_eq xs c s 2 own (g 2) 2#32 rfl ho (hg 2), block_eq xs c s 3 own (g 3) 3#32 rfl ho (hg 3),
    block_eq xs c s 4 own (g 4) 4#32 rfl ho (hg 4), block_eq xs c s 5 own (g 5) 5#32 rfl ho (hg 5),
    block_eq xs c s 6 own (g 6) 6#32 rfl ho (hg 6), block_eq xs c s 7 own (g 7) 7#32 rfl ho (hg 7)]
  funext i
  have hi : (i 1).val < 1024 := (i 1).isLt
  exact concatenate_ofFn_apply (t := S128x1024) (s₁ := S128x128) 1
    (fun n : Fin 8 => fun i : S128x128.Idx => RB xs c (ix3 (lane s n : Fin 32) (i 0) (i 1)))
    concatenates_S128x128_S128x128_S128x128_S128x128_S128x128_S128x128_S128x128_S128x128_S128x1024_d1 rfl 128 rfl i
    ⟨(i 1).val / 128, by omega⟩ rfl (ix2 (i 0) (⟨(i 1).val % 128, Nat.mod_lt _ (by decide)⟩ : Fin 128)) rfl
    (fun b hb => by
      match b, hb with
      | ⟨0, _⟩, _ => rfl
      | ⟨1, _⟩, hb => exact absurd rfl hb)

/-- The device's own block as its staged `x` holds it. -/
theorem own_block (xs : Dev nD → XBuf F) (c : Dev nD) {off : Fin 2 → ℕ} (h : off = ![128 * c.val, 0])
    (inb : ∀ a, off a + S128x128.size a ≤ S4096x128.size a) (p q : Fin 128) :
    (xM.access (Rect.unit (s := S4096x128) off S128x128.size inb)).read (Elt F) (xs c) (ix2 p q) = RB xs c (ix3 (c : Fin 32) p q) := by
  subst h; rfl

/-- A received block as the receive buffer holds it. -/
theorem got_block (f : RBuf F) (j : Dev nD) {off : Fin 3 → ℕ} (h : off = ![j.val, 0, 0])
    (inb : ∀ a, off a + S1x128x128.size a ≤ S32x128x128.size a) (p q : Fin 128) :
    (rM.access (Rect.unit (s := S32x128x128) off S1x128x128.size inb)).read (Elt F) f (ix3 (0 : Fin 1) p q) = f (ix3 (j : Fin 32) p q) := by
  subst h
  refine congrArg f ?_
  funext a; fin_cases a
  · exact Fin.ext (show j.val + 1 * 0 = j.val by omega)
  · exact Fin.ext (show 0 + 1 * p.val = p.val by omega)
  · exact Fin.ext (show 0 + 1 * q.val = q.val by omega)

/-! ## The accumulation -/

/-- One step of a half of the accumulator: the first quarter's product, or the product added. -/
def yStep (k : Fin 4) (a : ABuf F) (w : WBuf F) (old : YHalf F) : YHalf F :=
  if k.val = 0 then k0_pay3 a w else k0_pay4 a w old

/-! ## The result -/

/-- The result: its left half from the accumulator's first half, its right half from the second. -/
def outB (y : YBuf F) (am : BBuf F) : OBuf F := fun i =>
  if h : (i 1).val < 4096 then
    k0_pay14 y am (fun j => y (ix3 (0 : Fin 2) (j 1) (j 2))) (ix2 (i 0) (⟨(i 1).val, h⟩ : Fin 4096))
  else k0_pay5 (k0_pay13 y am) (fun j => y (ix3 (1 : Fin 2) (j 1) (j 2)))
    (ix2 (i 0) (⟨(i 1).val - 4096, by have : (i 1).val < 8192 := (i 1).isLt; omega⟩ : Fin 4096))

theorem outHalf_emb (n : ℕ) (inb : ∀ a, (![0, n] : Fin 2 → ℕ) a + S128x4096.size a ≤ S128x8192.size a) (z : S128x4096.Idx) :
    (oM.access (Rect.unit (s := S128x8192) ![0, n] S128x4096.size inb)).emb z
      = (ix2 (z 0) (⟨n + (z 1).val, by have h : n + 4096 ≤ 8192 := inb 1; have : (z 1).val < 4096 := (z 1).isLt; omega⟩ : Fin 8192) : S128x8192.Idx) := by
  funext a; fin_cases a
  · exact Fin.ext (show 0 + 1 * (z 0).val = (z 0).val by omega)
  · exact Fin.ext (show n + 1 * (z 1).val = n + (z 1).val by omega)

theorem write_out_mem (n : ℕ) (inb : ∀ a, (![0, n] : Fin 2 → ℕ) a + S128x4096.size a ≤ S128x8192.size a) (f : OBuf F) (w : FVec F S128x4096 .f32)
    (i : S128x8192.Idx) (h : n ≤ (i 1).val ∧ (i 1).val - n < 4096) :
    (oM.access (Rect.unit (s := S128x8192) ![0, n] S128x4096.size inb)).write (Elt F) f w Finset.univ i
      = w (ix2 (i 0) (⟨(i 1).val - n, h.2⟩ : Fin 4096)) := by
  have hi : (oM.access (Rect.unit (s := S128x8192) ![0, n] S128x4096.size inb)).emb
      (ix2 (i 0) (⟨(i 1).val - n, h.2⟩ : Fin 4096) : S128x4096.Idx) = i := by
    refine (outHalf_emb n inb _).trans ?_
    conv_rhs => rw [eq_ix2 i]
    refine congrArg (ix2 (i 0)) (Fin.ext ?_)
    show n + ((i 1).val - n) = (i 1).val
    omega
  conv_lhs => rw [← hi]
  exact View.write_emb_of_mem _ _ (Finset.mem_univ _)

theorem write_out_not_mem (n : ℕ) (inb : ∀ a, (![0, n] : Fin 2 → ℕ) a + S128x4096.size a ≤ S128x8192.size a) (f : OBuf F) (w : FVec F S128x4096 .f32)
    (i : S128x8192.Idx) (h : ¬ (n ≤ (i 1).val ∧ (i 1).val - n < 4096)) :
    (oM.access (Rect.unit (s := S128x8192) ![0, n] S128x4096.size inb)).write (Elt F) f w Finset.univ i = f i := by
  refine View.write_of_not_mem _ _ _ fun hm => h ?_
  rw [View.setOn_univ] at hm
  obtain ⟨z, _, hz⟩ := Finset.mem_map.mp hm
  rw [← hz, outHalf_emb n inb]
  have : (z 1).val < 4096 := (z 1).isLt
  show n ≤ n + (z 1).val ∧ n + (z 1).val - n < 4096
  omega

/-- The two stores of the result leave `outB`, whatever was there. -/
theorem write_out (a b : YHalf F) (am : BBuf F) (f : OBuf F)
    (inb0 : ∀ a, (![0, 0] : Fin 2 → ℕ) a + S128x4096.size a ≤ S128x8192.size a)
    (inb1 : ∀ a, (![0, 4096] : Fin 2 → ℕ) a + S128x4096.size a ≤ S128x8192.size a) :
    (oM.access (Rect.unit (s := S128x8192) ![0, 4096] S128x4096.size inb1)).write (Elt F)
      ((oM.access (Rect.unit (s := S128x8192) ![0, 0] S128x4096.size inb0)).write (Elt F) f (k0_pay14 (yB a b) am a) Finset.univ)
      (k0_pay5 (k0_pay13 (yB a b) am) b) Finset.univ = outB (yB a b) am := by
  have ha : (fun j : S1x128x4096.Idx => yB a b (ix3 (0 : Fin 2) (j 1) (j 2))) = a := by
    funext j; exact (if_pos rfl).trans (congrArg a (half_eta j))
  have hb : (fun j : S1x128x4096.Idx => yB a b (ix3 (1 : Fin 2) (j 1) (j 2))) = b := by
    funext j; exact (if_neg (by show ¬ (1 : ℕ) = 0; omega)).trans (congrArg b (half_eta j))
  funext i
  have hi : (i 1).val < 8192 := (i 1).isLt
  unfold outB
  rw [ha, hb]
  by_cases h : (i 1).val < 4096
  · rw [dif_pos h, write_out_not_mem 4096 inb1 _ _ i (by omega), write_out_mem 0 inb0 _ _ i (by omega)]
    rfl
  · rw [dif_neg h, write_out_mem 4096 inb1 _ _ i (by omega)]

end Cert.A2A

end

end
-- ==== Proof.Head.lean ====
/-
The first part of the kernel's body: at the first grid point the barrier, the cleared maxima buffer and the blocks' sends;
at every point the look-up of the quarter that the pass works on.
-/
module

public import proofs.«01_k».proof.Proof.Loop
public import proofs.«01_k».proof.Proof.Values

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

omit [FloatOps F] in
theorem cs_split (c : Dev nD) (A : sProp 𝕄) (B : Dev nD → sProp 𝕄) :
    (bigSep Finset.univ fun j => cs c j A (B j)) = iprop(A ∗ bigSep (Finset.univ.erase c) B) := by
  rw [bigSep_univ_at _ c, cs_self]
  exact congrArg (fun X => iprop(A ∗ X)) (bigSep_congr fun j hj => cs_ne c j (Finset.mem_erase.mp hj).1 _ _)

/-- The barrier awaited: the slots of every peer's receive buffer. -/
theorem wait_bar (c : Dev nD) (O : CellTallies nD τ sig Unit) (hO : Above 2 O)
    {β : Type} {kk : PUnit → Prog (TpuEff nD τ sig (Elt F) Λ₀ .tc) β} {Q : β → sProp 𝕄} :
    iprop(ctx xs tx K ∗ atPos EB (bar c) 0 ∅ 0 ∗ cred (tallyAt (bar c) () 31) ∗ ow c O
        ∗ ((atPos EB (bar c) 1 ∅ 0 ∗ bigSep (Finset.univ.erase c) (barPay (F := F) c) ∗ ow c O)
        -∗ wp frame (wpE (defs₀ (F := F)) 𝒱₀ (c : Thread nD τ) none) Set.univ (kk ⟨⟩) Q))
      ⊢ wp frame (wpE (defs₀ (F := F)) 𝒱₀ (c : Thread nD τ) none) Set.univ (.op (.semWait barS 31) kk) Q := by
  unfold ow
  iintro ⟨#HC, Hat, Hc, ⟨%W, HO⟩, Hk⟩
  iapply (Rounds.wp_wait_rest_token 𝒱₀ EB (sched xs tx) (c : Thread nD τ) none (κ := K (bar c))
      (wpE_semWait_eq 𝒱₀ (c : Thread nD τ) none Set.univ) (Set.mem_univ _) () (O := O) (W := W) (R := 0) (m := 0) (T := ∅)
      (by rw [Nat.zero_add, expect_bar xs tx c])) $$ [Hat Hc HO]
  · isplitr; · iapply (ctx_bar xs tx K c); iexact HC
    isplitl [Hc]; · iexact Hc
    isplitl [HO]; · iexact HO
    isplitr; · iapply (mayWait c (.reg barS) O hO); iapply (ctx_lev xs tx K); iexact HC
    iexact Hat
  iintro ⟨HO, Hat, -, Hp⟩
  iapply Hk
  isplitl [Hat]; · iexact Hat
  isplitl [Hp]
  · rw [Finset.sdiff_empty, duties_bar]; iexact Hp
  · iexists _; iexact HO

/-! ## Buffers by rows -/

omit [FloatOps F] in
theorem x_rows (c : Dev nD) (f : XBuf F) : ((xM.view.loc (c : Thread nD τ)) ↦{fullShare} f : sProp 𝕄) = bigSep Finset.univ fun j => xPts c j f := by
  unfold xPts
  have h : (Finset.biUnion (β := Idx (xM.view.loc (c : Thread nD τ))) Finset.univ fun j : Dev nD => (xRow j).view.set) = Finset.univ := xRow_cover
  exact (congrArg (fun S => ((xM.view.loc (c : Thread nD τ)) ↦[S]{fullShare} f : sProp 𝕄)) h).symm.trans
    (pointsTo_biUnion (ℓ := xM.view.loc (c : Thread nD τ)) Finset.univ (fun j : Dev nD => (xRow j).view.set) (fun i _ j _ h => xRow_disjoint i j h))
omit [FloatOps F] in
theorem r_slots (c : Dev nD) (f : RBuf F) : ((rM.view.loc (c : Thread nD τ)) ↦{fullShare} f : sProp 𝕄) = bigSep Finset.univ fun j => rPts c j f := by
  unfold rPts
  have h : (Finset.biUnion (β := Idx (rM.view.loc (c : Thread nD τ))) Finset.univ fun j : Dev nD => (rSlot j).view.set) = Finset.univ := rSlot_cover
  exact (congrArg (fun S => ((rM.view.loc (c : Thread nD τ)) ↦[S]{fullShare} f : sProp 𝕄)) h).symm.trans
    (pointsTo_biUnion (ℓ := rM.view.loc (c : Thread nD τ)) Finset.univ (fun j : Dev nD => (rSlot j).view.set) (fun i _ j _ h => rSlot_disjoint i j h))
omit [FloatOps F] in
theorem b_rows (c : Dev nD) (f : BBuf F) : ((bM.view.loc (c : Thread nD τ)) ↦{fullShare} f : sProp 𝕄) = bigSep Finset.univ fun j => bPts c j f := by
  unfold bPts
  have h : (Finset.biUnion (β := Idx (bM.view.loc (c : Thread nD τ))) Finset.univ fun j : Dev nD => (bRow j).view.set) = Finset.univ := bRow_cover
  exact (congrArg (fun S => ((bM.view.loc (c : Thread nD τ)) ↦[S]{fullShare} f : sProp 𝕄)) h).symm.trans
    (pointsTo_biUnion (ℓ := bM.view.loc (c : Thread nD τ)) Finset.univ (fun j : Dev nD => (bRow j).view.set) (fun i _ j _ h => bRow_disjoint i j h))

omit [FloatOps F] in
theorem bsep {I : Type} (s : Finset I) (Φ Ψ : I → sProp 𝕄) : (bigSep s fun i => iprop(Φ i ∗ Ψ i)) = iprop(bigSep s Φ ∗ bigSep s Ψ) := bigSep_sep' s Φ Ψ
omit [FloatOps F] in
theorem semp (P : sProp 𝕄) : iprop(P ∗ emp) = P := Idealize.SL.BI.Entails.antisymm (BI.sep_emp).1 (BI.sep_emp).2
omit [FloatOps F] in
theorem bemp {I : Type} [DecidableEq I] (s : Finset I) : (bigSep s fun _ : I => (iprop(emp) : sProp 𝕄)) = iprop(emp) := by
  induction s using Finset.induction_on with
  | empty => exact bigSep_empty
  | insert a s ha ih => rw [bigSep_insert ha, ih]; exact semp _
omit [FloatOps F] in
theorem bmono {I : Type} (s : Finset I) {Φ Ψ : I → sProp 𝕄} (h : ∀ i ∈ s, Φ i ⊢ Ψ i) : bigSep s Φ ⊢ bigSep s Ψ := bigSep_mono h

theorem post1_eq (c : Dev nD) : bigSep Finset.univ (post1 (F := F) c) = iprop(∃ f, rPts (F := F) c c f) := by
  show (bigSep Finset.univ fun j => cs c j iprop(∃ f, rPts (F := F) c c f) iprop(emp)) = _
  rw [cs_split, bemp]; exact semp _

theorem pre2_of (c : Dev nD) :
    iprop((bigSep Finset.univ fun j => xPts c j (xs c)) ∗ (bigSep Finset.univ fun j => bPts c j (k0_pay15 (F := F)))
      ∗ (bigSep (Finset.univ.erase c) fun j => iprop(dutyTok EB (cel 0 c j) 0 j ∗ reached EB (cel 0 c j) 0 ∗ dutyTok EB (cel 1 j c) 0 c))
      ∗ bigSep (Finset.univ.erase c) (barPay (F := F) c))
      ⊢ bigSep Finset.univ (pre2 xs c) := by
  show _ ⊢ bigSep Finset.univ fun r => cs c r iprop(xPts c c (xs c) ∗ bPts c c (k0_pay15 (F := F)))
    iprop(dutyTok EB (cel 0 c r) 0 r ∗ reached EB (cel 0 c r) 0 ∗ dutyTok EB (cel 1 r c) 0 c ∗ xPts c r (xs c) ∗ barPay c r ∗ (∃ f, bPts (F := F) c r f))
  rw [cs_split, bigSep_univ_at (fun j => xPts c j (xs c)) c, bigSep_univ_at (fun j => bPts c j (k0_pay15 (F := F))) c]
  have h : iprop((bigSep (Finset.univ.erase c) fun j => iprop(dutyTok EB (cel 0 c j) 0 j ∗ reached EB (cel 0 c j) 0 ∗ dutyTok EB (cel 1 j c) 0 c))
      ∗ bigSep (Finset.univ.erase c) (barPay (F := F) c) ∗ (bigSep (Finset.univ.erase c) fun j => xPts c j (xs c)) ∗ bigSep (Finset.univ.erase c) fun j => bPts c j (k0_pay15 (F := F)))
      ⊢ bigSep (Finset.univ.erase c) fun r => iprop(dutyTok EB (cel 0 c r) 0 r ∗ reached EB (cel 0 c r) 0 ∗ dutyTok EB (cel 1 r c) 0 c ∗ xPts c r (xs c) ∗ barPay c r ∗ (∃ f, bPts (F := F) c r f)) := by
    rw [← bsep, ← bsep, ← bsep]
    refine bmono _ fun j _ => ?_
    iintro ⟨⟨H1, H2, H3⟩, H4, H5, H6⟩
    isplitl [H1]; · iexact H1
    isplitl [H2]; · iexact H2
    isplitl [H3]; · iexact H3
    isplitl [H5]; · iexact H5
    isplitl [H4]; · iexact H4
    iexists _; iexact H6
  iintro ⟨⟨Hx, Hxs⟩, ⟨Hb, Hbs⟩, Ht, Hp⟩
  isplitl [Hx Hb]
  · isplitl [Hx] <;> iassumption
  iapply h
  isplitl [Ht]; · iexact Ht
  isplitl [Hp]; · iexact Hp
  isplitl [Hxs] <;> iassumption

/-! ## The order table -/

/-- The quarters in the order in which device `c` takes them, as words. -/
def TT (c : Dev nD) : S4.Idx → BitVec 32 := fun x => qw (quarter c (x 0 : Fin 4))

/-- Device `c`'s order table. -/
def tbl (c : Dev nD) : sProp 𝕄 := (tb.view.loc (c : Thread nD τ)) ↦{fullShare} (TT c : S4.Idx → Elt F .i32)

theorem tbl_read (c : Dev nD) (i : grid0.Coords) (inb : ∀ a, k0_off6 i a + S1.size a ≤ S4.size a) (x : S1.Idx) :
    (tb.access (Rect.unit (s := S4) (k0_off6 i) S1.size inb)).read (Elt F) (TT c : S4.Idx → Elt F .i32) x = qw (quarter c (i 0)) := by
  have h := k0_off6_eq i
  have hx : (x 0).val < 1 := (x 0).isLt
  show qw (quarter c (⟨k0_off6 i 0 + 1 * (x 0).val, _⟩ : Fin 4)) = _
  refine congrArg (fun k => qw (quarter c k)) (Fin.ext ?_)
  show k0_off6 i 0 + 1 * (x 0).val = (i 0).val
  rw [h]
  show (i 0).val + 1 * (x 0).val = (i 0).val
  omega

section Body
variable (i : grid0.Coords) (arg4 : Memref sig .tc .vmem S1024x4096 .f32) (h4 : arg4.IsWhole) (c : Dev nD)

abbrev P5 := k0_part5 (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8

/-- The device's own number as the body computes it. -/
abbrev me (c : Dev nD) : BitVec 32 := Scalar.remsi (Scalar.divsi (Dev.word c) 1#32) 32#32

/-- What the body's first part does: from `X` it leaves `X'`, having looked up quarter `s`. -/
def HeadSpec (s : Fin 4) (X X' : sProp 𝕄) : Prop :=
  ∀ {β : Type} (kk : (Σ' (arg0 : BitVec 32) (arg1 : BitVec 32) (d0 : Dev nD) (v2 : BitVec 32) (v19 : BitVec 32) (v29 : BitVec 32) (v36 : Elt F .i32), k0_chk1 i d0 v36)
      → Prog (TpuEff nD τ sig (Elt F) Λ₀ .tc) β) (Q : β → sProp 𝕄),
    iprop(X ∗ (∀ (v19 : BitVec 32) (v29 : BitVec 32) (hw : k0_chk1 i c (qw s)), X'
        -∗ wp frame (wpE (defs₀ (F := F)) 𝒱₀ (c : Thread nD τ) none) Set.univ
          (kk ⟨BitVec.ofNat 32 (i 0).val, BitVec.ofNat 32 (i 1).val, c, me c, v19, v29, qw s, hw⟩) Q))
      ⊢ wp frame (wpE (defs₀ (F := F)) 𝒱₀ (c : Thread nD τ) none) Set.univ (P5 i arg4 h4 >>= kk) Q

/-- At every point but the first the first part only looks the quarter up. -/
theorem head_other (h1 : ¬ k0_cond1 i = 1#1) (X : sProp 𝕄) :
    HeadSpec (F := F) i arg4 h4 c (quarter c (i 0)) iprop(tbl (F := F) c ∗ X) iprop(tbl (F := F) c ∗ X) := by
  intro β kk Q
  unfold P5
  simp only [k0_part5_eq_skeleton]
  unfold k0_part5_skel
  simp only [dif_neg h1, smemLoad, smemLoadElt, Prog.lift, Prog.bind_op, Prog.bind_ret, Prog.pure_eq_ret, wp_deviceId]
  unfold tbl
  iintro ⟨⟨Ht, HX⟩, Hk⟩
  iapply (wp_load_rect 𝒱₀ (c : Thread nD τ) none Set.univ (m := tb) (r := Rect.unit (s := S4) (k0_off6 i) S1.size (k0_off6_inb i)) (f := TT c) (Finset.subset_univ _)) $$ Ht
  iintro Ht
  rw [tbl_read (F := F) c i]
  iapply (wp_assume 𝒱₀ (c : Thread nD τ) none Set.univ (chk1_qw i c (quarter c (i 0))))
  iapply Hk
  isplitl [Ht] <;> iassumption

/-- What device `c` starts the region's first point with. -/
def st0 (c : Dev nD) : sProp 𝕄 :=
  iprop(bigSep Finset.univ (pre1 (F := F) c) ∗ atPos EB (bar c) 0 ∅ 0 ∗ cred (tallyAt (bar c) () 31)
    ∗ (bigSep (Finset.univ.erase c) fun j => iprop(dutyTok EB (cel 0 c j) 0 j ∗ reached EB (cel 0 c j) 0 ∗ dutyTok EB (cel 1 j c) 0 c))
    ∗ ((xM.view.loc (c : Thread nD τ)) ↦{fullShare} xs c) ∗ (∃ f : BBuf F, (bM.view.loc (c : Thread nD τ)) ↦{fullShare} f)
    ∗ ow c (oA c + oR c + oB c))
/-- What it has when its blocks are under way. -/
def st1 (c : Dev nD) : sProp 𝕄 :=
  iprop(bigSep Finset.univ (post2 xs c) ∗ (∃ f, rPts (F := F) c c f) ∗ atPos EB (bar c) 1 ∅ 0 ∗ ow c (oA c))

theorem head_first (h1 : k0_cond1 i = 1#1) (X : sProp 𝕄) :
    HeadSpec (F := F) i arg4 h4 c (quarter c (i 0)) iprop(ctx xs tx K ∗ tbl (F := F) c ∗ st0 xs c ∗ X) iprop(tbl (F := F) c ∗ st1 xs c ∗ X) := by
  intro β kk Q
  unfold P5
  simp only [k0_part5_eq_skeleton]
  unfold k0_part5_skel
  simp only [dif_pos h1, smemLoad, smemLoadElt, Prog.lift, Prog.bind_assoc, Prog.bind_op, Prog.bind_ret, Prog.pure_eq_ret, wp_deviceId]
  unfold tbl st0 st1
  iintro ⟨⟨#HC, Ht, ⟨Hp1, Hat, Hcr, Htok, Hx, Hb, HO⟩, HX⟩, Hk⟩
  iapply (loop1 xs tx K i arg4 h4 c h1 (oA c + oR c))
  isplitr; · iexact HC
  isplitl [Hp1]; · iexact Hp1
  isplitl [HO]; · iexact HO
  rw [post1_eq]
  iintro ⟨Hr, HO⟩
  simp only [semWaitWord, Prog.lift, Prog.bind_op, Prog.bind_ret]
  iapply (wait_bar xs tx K c (oA c + oR c) ((above_oA c).mono (by omega) |>.add (above_oR c)))
  isplitr; · iexact HC
  isplitl [Hat]; · iexact Hat
  isplitl [Hcr]; · iexact Hcr
  isplitl [HO]; · iexact HO
  iintro ⟨Hat, Hbar, HO⟩
  icases Hb with ⟨%fb, Hb⟩
  iapply (wp_load 𝒱₀ (c : Thread nD τ) none Set.univ (m := bM) (Finset.subset_univ _)) $$ Hb
  iintro Hb
  iapply (wp_store 𝒱₀ (c : Thread nD τ) none Set.univ (m := bM) (r := Rect.unit (s := S32x128) ![0, 0] S32x128.size inb_S32x128_S32x128_0_0) (Mk := Finset.univ) (Finset.subset_univ _)) $$ Hb
  iintro Hb
  ihave Hb := (Entails.of_eq (congrArg (fun f => ((bM.view.loc (c : Thread nD τ)) ↦{fullShare} f : sProp 𝕄))
    (Memref.write_access_unit_zero_univ (Elt F) cc0_scratch4 (off := ![0, 0]) (by decide) inb_S32x128_S32x128_0_0 fb (k0_pay15 (F := F))))) $$ Hb
  ihave Hb := (Entails.of_eq (b_rows (F := F) c k0_pay15)) $$ Hb
  ihave Hx := (Entails.of_eq (x_rows (F := F) c (xs c))) $$ Hx
  ihave Hp2 := (pre2_of xs c) $$ [Hx Hb Htok Hbar]
  · isplitl [Hx]; · iexact Hx
    isplitl [Hb]; · iexact Hb
    isplitl [Htok] <;> iassumption
  iapply (loop2 xs tx K i arg4 h4 c _ h1 (oA c))
  isplitr; · iexact HC
  isplitl [Hp2]; · iexact Hp2
  isplitl [HO]; · iexact HO
  iintro ⟨Hp2, HO⟩
  iapply (wp_load_rect 𝒱₀ (c : Thread nD τ) none Set.univ (m := tb) (r := Rect.unit (s := S4) (k0_off6 i) S1.size (k0_off6_inb i)) (f := TT c) (Finset.subset_univ _)) $$ Ht
  iintro Ht
  rw [tbl_read (F := F) c i]
  iapply (wp_assume 𝒱₀ (c : Thread nD τ) none Set.univ (chk1_qw i c (quarter c (i 0))))
  iapply Hk
  isplitl [Ht]; · iexact Ht
  isplitl [Hp2 Hr Hat HO]
  · isplitl [Hp2]; · iexact Hp2
    isplitl [Hr]; · iexact Hr
    isplitl [Hat] <;> iassumption
  · iexact HX

end Body

end Cert.A2A

end

end
-- ==== Proof.Body.lean ====
/-
One grid point of the kernel's body: what it takes and what it leaves.
-/
module

public import proofs.«01_k».proof.Proof.Head

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

/-! ## A quarter's slots after they have been awaited -/

/-- What an arrival leaves beside the slot. -/
def rest (c j : Dev nD) : sProp 𝕄 := cs c j iprop(emp) iprop(atPos EB (cel 1 c j) 1 ∅ 0 ∗ ∃ f, bPts (F := F) j c f)
/-- A slot that holds its block (the device's own slot holds anything). -/
def slotV (c j : Dev nD) : sProp 𝕄 := iprop(∃ f, ⌜j ≠ c → f = RB xs c⌝ ∗ rPts c j f)

theorem got_split (c j : Dev nD) : got xs c j ⊢ iprop(slotV xs c j ∗ rest (F := F) c j) := by
  unfold got slotV rest
  by_cases h : j = c
  · subst h
    rw [cs_self, cs_self]
    iintro ⟨%f, H⟩
    isplitl [H]
    · iexists f
      isplitr
      · ipureintro; exact fun e => absurd rfl e
      · iexact H
    · iempintro
  · rw [cs_ne c j h, cs_ne c j h]
    iintro ⟨Ha, Hr, Hb⟩
    isplitl [Hr]
    · iexists _
      isplitr
      · ipureintro; exact fun _ => rfl
      · iexact Hr
    · isplitl [Ha] <;> iassumption

theorem slotV_drop (c j : Dev nD) : slotV xs c j ⊢ iprop(∃ f, rPts (F := F) c j f) := by
  unfold slotV
  iintro ⟨%f, -, H⟩
  iexists f; iexact H

/-- A pass's blocks before and after. -/
def pq (c : Dev nD) (s : Fin 4) : sProp 𝕄 := bigSep Finset.univ fun l : Fin 8 => pend (F := F) c (lane s l)
def dq (c : Dev nD) (s : Fin 4) : sProp 𝕄 :=
  iprop((bigSep Finset.univ fun l : Fin 8 => iprop(∃ f, rPts (F := F) c (lane s l) f)) ∗ bigSep Finset.univ fun l : Fin 8 => rest (F := F) c (lane s l))

theorem got_quarter (c : Dev nD) (s : Fin 4) :
    (bigSep Finset.univ fun l : Fin 8 => got xs c (lane s l))
      ⊢ iprop((slotV xs c (lane s 0) ∗ slotV xs c (lane s 1) ∗ slotV xs c (lane s 2) ∗ slotV xs c (lane s 3)
        ∗ slotV xs c (lane s 4) ∗ slotV xs c (lane s 5) ∗ slotV xs c (lane s 6) ∗ slotV xs c (lane s 7))
        ∗ bigSep Finset.univ fun l : Fin 8 => rest (F := F) c (lane s l)) := by
  refine (bmono _ fun l _ => got_split xs c (lane s l)).trans ?_
  rw [bsep]
  refine sep_mono_left (Entails.of_eq ?_)
  rw [bigSep_eq_bigSepL_of_eq [0, 1, 2, 3, 4, 5, 6, 7] (by decide) (by decide)]
  rfl

theorem dq_of (c : Dev nD) (s : Fin 4) :
    iprop((slotV xs c (lane s 0) ∗ slotV xs c (lane s 1) ∗ slotV xs c (lane s 2) ∗ slotV xs c (lane s 3)
        ∗ slotV xs c (lane s 4) ∗ slotV xs c (lane s 5) ∗ slotV xs c (lane s 6) ∗ slotV xs c (lane s 7))
        ∗ bigSep Finset.univ fun l : Fin 8 => rest (F := F) c (lane s l)) ⊢ dq (F := F) c s := by
  unfold dq
  refine sep_mono_left ?_
  refine Entails.trans (Entails.of_eq ?_) (bmono Finset.univ fun l _ => slotV_drop xs c (lane s l))
  rw [bigSep_eq_bigSepL_of_eq [0, 1, 2, 3, 4, 5, 6, 7] (by decide) (by decide)]
  rfl

/-! ## The body -/

section Body
variable (i : grid0.Coords) (arg4 : Memref sig .tc .vmem S1024x4096 .f32) (h4 : arg4.IsWhole) (c : Dev nD)

abbrev BD := cc0_body (F := F) i tb (Memref.isWhole_whole _) xM (Memref.isWhole_whole _) arg4 h4 oM (Memref.isWhole_whole _) rM (Memref.isWhole_whole _)
    aM (Memref.isWhole_whole _) yM (Memref.isWhole_whole _) tM (Memref.isWhole_whole _) bM (Memref.isWhole_whole _)
    cc0_scratch5 cc0_scratch6 cc0_scratch7 cc0_scratch8

def aP (c : Dev nD) (f : ABuf F) : sProp 𝕄 := (aM.view.loc (c : Thread nD τ)) ↦{fullShare} f
def yP (c : Dev nD) (f : YBuf F) : sProp 𝕄 := (yM.view.loc (c : Thread nD τ)) ↦{fullShare} f
def oP (c : Dev nD) (f : OBuf F) : sProp 𝕄 := (oM.view.loc (c : Thread nD τ)) ↦{fullShare} f
def wP (c : Dev nD) (fw : arg4.view.ty.Contents (Elt F)) : sProp 𝕄 := (arg4.view.loc (c : Thread nD τ)) ↦{fullShare} fw
/-- The weights' block as the body loads it. -/
def wV (fw : arg4.view.ty.Contents (Elt F)) : WBuf F :=
  arg4.view.readAt (Elt F) (Rect.unit (s := S1024x4096) ![0, 0] S1024x4096.size inb_S1024x4096_S1024x4096_0_0).toLoadRect fw

/-- A load of a received block. -/
theorem load_slot (j : Dev nD) {off : Fin 3 → ℕ} (ho : off = ![j.val, 0, 0]) (inb : ∀ a, off a + S1x128x128.size a ≤ S32x128x128.size a)
    (hl : rM.view.LoadsAt (Rect.unit (s := S32x128x128) off S1x128x128.size inb).toLoadRect)
    {β : Type} {kk : ((Rect.unit (s := S32x128x128) off S1x128x128.size inb).toLoadRect.shape.Idx → Elt F .f32) → Prog (TpuEff nD τ sig (Elt F) Λ₀ .tc) β} {Q : β → sProp 𝕄} :
    iprop(slotV xs c j ∗ (∀ g : S1x128x128.Idx → F .f32, ⌜j ≠ c → ∀ p q : Fin 128, g (ix3 (0 : Fin 1) p q) = RB xs c (ix3 (j : Fin 32) p q)⌝ -∗ slotV xs c j
        -∗ wp frame (wpE (defs₀ (F := F)) 𝒱₀ (c : Thread nD τ) none) Set.univ (kk g) Q))
      ⊢ wp frame (wpE (defs₀ (F := F)) 𝒱₀ (c : Thread nD τ) none) Set.univ
          (.op (.load rM (Rect.unit (s := S32x128x128) off S1x128x128.size inb).toLoadRect hl) kk) Q := by
  unfold slotV rPts
  iintro ⟨⟨%f, %hf, H⟩, Hk⟩
  iapply (wp_load_rect 𝒱₀ (c : Thread nD τ) none Set.univ (m := rM) (r := Rect.unit (s := S32x128x128) off S1x128x128.size inb) (f := f)
    (S := (rSlot j).view.set) (by subst ho; exact ((View.set_slice_whole _ _).trans (rSlot_set j).symm).subset)) $$ H
  iintro H
  iapply Hk $$ [] [H]
  · ipureintro
    intro hj p q
    rw [got_block f j ho, hf hj]
  · iexists f
    isplitr
    · ipureintro; exact hf
    · iexact H

theorem ld_a (f : ABuf F) : aM.view.readAt (Elt F) (Rect.unit (s := S128x1024) ![0, 0] S128x1024.size inb_S128x1024_S128x1024_0_0).toLoadRect f = f :=
  Memref.readAt_unit_zero (Elt F) cc0_scratch1 (off := ![0, 0]) (by decide) inb_S128x1024_S128x1024_0_0 f
theorem st_a (f w : ABuf F) : (aM.access (Rect.unit (s := S128x1024) ![0, 0] S128x1024.size inb_S128x1024_S128x1024_0_0)).write (Elt F) f w Finset.univ = w :=
  Memref.write_access_unit_zero_univ (Elt F) cc0_scratch1 (off := ![0, 0]) (by decide) inb_S128x1024_S128x1024_0_0 f w

theorem own_sub (c : Dev nD) {off : Fin 2 → ℕ} (h : off = ![128 * c.val, 0]) (inb : ∀ a, off a + S128x128.size a ≤ S4096x128.size a) :
    (xM.access (Rect.unit (s := S4096x128) off S128x128.size inb)).set ⊆ (xRow c).view.set := by
  subst h; exact ((View.set_slice_whole _ _).trans (xRow_set c).symm).subset

/-- A point of the first half: the quarter's blocks awaited and staged side by side, and their product into the first half. -/
theorem bodyN0 (s : Fin 4) (hn : (i 1).val = 0) (h8 : ¬ k0_cond8 i = 1#1) (X Y : sProp 𝕄) (fw : arg4.view.ty.Contents (Elt F)) (a b : YHalf F)
    (hh : HeadSpec (F := F) i arg4 h4 c s X iprop(xPts c c (xs c) ∗ ow c (oA c) ∗ pq (F := F) c s ∗ Y)) :
    iprop(ctx xs tx K ∗ X ∗ (∃ f, aP (F := F) c f) ∗ yP c (yB a b) ∗ wP arg4 c fw)
      ⊢ wp frame (wpE (defs₀ (F := F)) 𝒱₀ (c : Thread nD τ) none) Set.univ (BD i arg4 h4) fun _ =>
        iprop(xPts c c (xs c) ∗ ow c (oA c) ∗ dq (F := F) c s ∗ Y ∗ aP c (AS xs c s) ∗ yP c (yB (yStep (i 0) (AS xs c s) (wV arg4 fw) a) b) ∗ wP arg4 c fw) := by
  unfold BD
  simp only [cc0_body_eq_skeleton]
  unfold cc0_body_skel
  have k4 : k0_cond4 i = 1#1 := (cond4_iff i).mpr hn
  simp only [dif_pos k4, dif_neg h8]
  iintro ⟨#HC, HX, ⟨%fa, Ha⟩, Hy, Hw⟩
  iapply (hh _ _)
  isplitl [HX]; · iexact HX
  iintro %v19 %v29 %hw ⟨Hx, HO, Hq, HY⟩
  dsimp only
  simp only [k0_part2_eq_skeleton]
  unfold k0_part2_skel
  simp only [Prog.lift, Prog.bind_assoc, Prog.bind_op, Prog.bind_ret, Prog.pure_eq_ret]
  unfold pq
  iapply (loop3 xs tx K i arg4 h4 c _ s hw k4)
  isplitr; · iexact HC
  isplitl [Hq]; · iexact Hq
  isplitl [HO]; · iexact HO
  iintro ⟨Hq, HO⟩
  ihave Hq := (got_quarter xs c s) $$ Hq
  icases Hq with ⟨⟨S0, S1, S2, S3, S4, S5, S6, S7⟩, HR⟩
  unfold xPts
  iapply (wp_load_rect 𝒱₀ (c : Thread nD τ) none Set.univ (m := xM) (r := Rect.unit (s := S4096x128) (k0_off9 c) S128x128.size (k0_off9_inb i c k4)) (f := xs c)
    (S := (xRow c).view.set) (own_sub c (k0_off9_eq c) _)) $$ Hx
  iintro Hx
  iapply (load_slot xs c (lane s 0) (off10_eq s 0) (k0_off10_inb i c (qw s) hw k4 0))
  isplitl [S0]; · iexact S0
  iintro %g0 %e0 S0
  iapply (load_slot xs c (lane s 1) (off10_eq s 1) (k0_off10_inb i c (qw s) hw k4 1))
  isplitl [S1]; · iexact S1
  iintro %g1 %e1 S1
  iapply (load_slot xs c (lane s 2) (off10_eq s 2) (k0_off10_inb i c (qw s) hw k4 2))
  isplitl [S2]; · iexact S2
  iintro %g2 %e2 S2
  iapply (load_slot xs c (lane s 3) (off10_eq s 3) (k0_off10_inb i c (qw s) hw k4 3))
  isplitl [S3]; · iexact S3
  iintro %g3 %e3 S3
  iapply (load_slot xs c (lane s 4) (off10_eq s 4) (k0_off10_inb i c (qw s) hw k4 4))
  isplitl [S4]; · iexact S4
  iintro %g4 %e4 S4
  iapply (load_slot xs c (lane s 5) (off10_eq s 5) (k0_off10_inb i c (qw s) hw k4 5))
  isplitl [S5]; · iexact S5
  iintro %g5 %e5 S5
  iapply (load_slot xs c (lane s 6) (off10_eq s 6) (k0_off10_inb i c (qw s) hw k4 6))
  isplitl [S6]; · iexact S6
  iintro %g6 %e6 S6
  iapply (load_slot xs c (lane s 7) (off10_eq s 7) (k0_off10_inb i c (qw s) hw k4 7))
  isplitl [S7]; · iexact S7
  iintro %g7 %e7 S7
  ihave Hd := (dq_of xs c s) $$ [S0 S1 S2 S3 S4 S5 S6 S7 HR]
  · isplitr [HR]
    · isplitl [S0]; · iexact S0
      isplitl [S1]; · iexact S1
      isplitl [S2]; · iexact S2
      isplitl [S3]; · iexact S3
      isplitl [S4]; · iexact S4
      isplitl [S5]; · iexact S5
      isplitl [S6] <;> iassumption
    · iexact HR
  unfold aP
  iapply (wp_load 𝒱₀ (c : Thread nD τ) none Set.univ (m := aM) (Finset.subset_univ _)) $$ Ha
  iintro Ha
  iapply (wp_store 𝒱₀ (c : Thread nD τ) none Set.univ (m := aM) (r := Rect.unit (s := S128x1024) ![0, 0] S128x1024.size inb_S128x1024_S128x1024_0_0) (Mk := Finset.univ) (Finset.subset_univ _)) $$ Ha
  iintro Ha
  have hg : ∀ l : Fin 8, lane s l ≠ c → ∀ p q : Fin 128, (![g0, g1, g2, g3, g4, g5, g6, g7] : Fin 8 → FVec F S1x128x128 .f32) l (ix3 (0 : Fin 1) p q) = RB xs c (ix3 (lane s l : Fin 32) p q) := by
    intro l
    fin_cases l
    exacts [e0, e1, e2, e3, e4, e5, e6, e7]
  have hp1 : k0_pay1 (me c) (qw s) (k0_pay6 ((xM.access (Rect.unit (s := S4096x128) (k0_off9 c) S128x128.size (k0_off9_inb i c k4))).read (Elt F) (xs c)))
      (k0_pay7 (me c) (qw s) ((xM.access (Rect.unit (s := S4096x128) (k0_off9 c) S128x128.size (k0_off9_inb i c k4))).read (Elt F) (xs c)) g0)
      (k0_pay8 (me c) (qw s) ((xM.access (Rect.unit (s := S4096x128) (k0_off9 c) S128x128.size (k0_off9_inb i c k4))).read (Elt F) (xs c)) g1)
      (k0_pay9 (me c) (qw s) ((xM.access (Rect.unit (s := S4096x128) (k0_off9 c) S128x128.size (k0_off9_inb i c k4))).read (Elt F) (xs c)) g2)
      (k0_pay10 (me c) (qw s) ((xM.access (Rect.unit (s := S4096x128) (k0_off9 c) S128x128.size (k0_off9_inb i c k4))).read (Elt F) (xs c)) g3)
      (Scalar.addi (Scalar.muli (qw s) 8#32) 4#32) g4 g5 g6 g7 = AS xs c s := pay1_eq xs c s ((xM.access (Rect.unit (s := S4096x128) (k0_off9 c) S128x128.size (k0_off9_inb i c k4))).read (Elt F) (xs c))
    ![g0, g1, g2, g3, g4, g5, g6, g7] (own_block xs c (k0_off9_eq c) (k0_off9_inb i c k4)) hg
  ihave Ha := (Entails.of_eq (congrArg (fun f => ((aM.view.loc (c : Thread nD τ)) ↦{fullShare} f : sProp 𝕄)) ((st_a fa _).trans hp1))) $$ Ha
  iapply (wp_load 𝒱₀ (c : Thread nD τ) none Set.univ (m := aM) (f := AS xs c s) (Finset.subset_univ _)) $$ Ha
  iintro Ha
  rw [ld_a]
  unfold wP
  iapply (wp_load 𝒱₀ (c : Thread nD τ) none Set.univ (m := arg4) (f := fw) (Finset.subset_univ _)) $$ Hw
  iintro Hw
  unfold yP
  by_cases hk : (i 0).val = 0
  · have k6 : k0_cond6 i = 1#1 := (cond6_iff i).mpr hk
    have k7 : ¬ k0_cond7 i = 1#1 := fun e => (cond7_iff i).mp e hk
    have o11 : k0_off11 i = ![0, 0, 0] := (k0_off11_eq i).trans (by rw [hn])
    simp only [dif_pos k6, dif_neg k7]
    iapply (wp_load 𝒱₀ (c : Thread nD τ) none Set.univ (m := yM) (f := yB a b) (Finset.subset_univ _)) $$ Hy
    iintro Hy
    iapply (wp_store 𝒱₀ (c : Thread nD τ) none Set.univ (m := yM) (r := Rect.unit (s := S2x128x4096) (k0_off11 i) S1x128x4096.size (k0_off11_inb i k6)) (f := yB a b) (Mk := Finset.univ) (Finset.subset_univ _)) $$ Hy
    iintro Hy
    ihave Hy := (Entails.of_eq (congrArg (fun f => ((yM.view.loc (c : Thread nD τ)) ↦{fullShare} f : sProp 𝕄)) (write_half0 (k0_off11_inb i k6) o11 a b _))) $$ Hy
    rw [wp_ret]; imodintro
    isplitl [Hx]; · iexact Hx
    isplitl [HO]; · iexact HO
    isplitl [Hd]; · iexact Hd
    isplitl [HY]; · iexact HY
    isplitl [Ha]; · iexact Ha
    isplitl [Hy]
    · unfold yStep; rw [if_pos hk]; iexact Hy
    · iexact Hw
  · have k6 : ¬ k0_cond6 i = 1#1 := fun e => hk ((cond6_iff i).mp e)
    have k7 : k0_cond7 i = 1#1 := (cond7_iff i).mpr hk
    have o12 : k0_off12 i = ![0, 0, 0] := (k0_off12_eq i).trans (by rw [hn])
    simp only [dif_neg k6, dif_pos k7]
    iapply (wp_load 𝒱₀ (c : Thread nD τ) none Set.univ (m := yM) (f := yB a b) (Finset.subset_univ _)) $$ Hy
    iintro Hy
    rw [read_half0 (k0_off12_inb i k7) o12]
    iapply (wp_load 𝒱₀ (c : Thread nD τ) none Set.univ (m := yM) (f := yB a b) (Finset.subset_univ _)) $$ Hy
    iintro Hy
    iapply (wp_store 𝒱₀ (c : Thread nD τ) none Set.univ (m := yM) (r := Rect.unit (s := S2x128x4096) (k0_off12 i) S1x128x4096.size (k0_off12_inb i k7)) (f := yB a b) (Mk := Finset.univ) (Finset.subset_univ _)) $$ Hy
    iintro Hy
    ihave Hy := (Entails.of_eq (congrArg (fun f => ((yM.view.loc (c : Thread nD τ)) ↦{fullShare} f : sProp 𝕄)) (write_half0 (k0_off12_inb i k7) o12 a b _))) $$ Hy
    rw [wp_ret]; imodintro
    isplitl [Hx]; · iexact Hx
    isplitl [HO]; · iexact HO
    isplitl [Hd]; · iexact Hd
    isplitl [HY]; · iexact HY
    isplitl [Ha]; · iexact Ha
    isplitl [Hy]
    · unfold yStep; rw [if_neg hk]; iexact Hy
    · iexact Hw

/-- A point of the second half: the staged quarter's product into the second half. -/
theorem bodyN1 (s : Fin 4) (hn : (i 1).val = 1) (h8 : ¬ k0_cond8 i = 1#1) (X Y : sProp 𝕄) (fw : arg4.view.ty.Contents (Elt F)) (A : ABuf F) (a b : YHalf F)
    (hh : HeadSpec (F := F) i arg4 h4 c s X Y) :
    iprop(X ∗ aP c A ∗ yP c (yB a b) ∗ wP arg4 c fw)
      ⊢ wp frame (wpE (defs₀ (F := F)) 𝒱₀ (c : Thread nD τ) none) Set.univ (BD i arg4 h4) fun _ =>
        iprop(Y ∗ aP c A ∗ yP c (yB a (yStep (i 0) A (wV arg4 fw) b)) ∗ wP arg4 c fw) := by
  unfold BD
  simp only [cc0_body_eq_skeleton]
  unfold cc0_body_skel
  have k4 : ¬ k0_cond4 i = 1#1 := fun e => by have := (cond4_iff i).mp e; omega
  simp only [dif_neg k4, dif_neg h8]
  iintro ⟨HX, Ha, Hy, Hw⟩
  iapply (hh _ _)
  isplitl [HX]; · iexact HX
  iintro %v19 %v29 %hw HY
  dsimp only
  simp only [Prog.lift, Prog.bind_assoc, Prog.bind_op, Prog.bind_ret, Prog.pure_eq_ret]
  unfold aP
  iapply (wp_load 𝒱₀ (c : Thread nD τ) none Set.univ (m := aM) (f := A) (Finset.subset_univ _)) $$ Ha
  iintro Ha
  rw [ld_a]
  unfold wP
  iapply (wp_load 𝒱₀ (c : Thread nD τ) none Set.univ (m := arg4) (f := fw) (Finset.subset_univ _)) $$ Hw
  iintro Hw
  unfold yP
  by_cases hk : (i 0).val = 0
  · have k6 : k0_cond6 i = 1#1 := (cond6_iff i).mpr hk
    have k7 : ¬ k0_cond7 i = 1#1 := fun e => (cond7_iff i).mp e hk
    have o11 : k0_off11 i = ![1, 0, 0] := (k0_off11_eq i).trans (by rw [hn])
    simp only [dif_pos k6, dif_neg k7]
    iapply (wp_load 𝒱₀ (c : Thread nD τ) none Set.univ (m := yM) (f := yB a b) (Finset.subset_univ _)) $$ Hy
    iintro Hy
    iapply (wp_store 𝒱₀ (c : Thread nD τ) none Set.univ (m := yM) (r := Rect.unit (s := S2x128x4096) (k0_off11 i) S1x128x4096.size (k0_off11_inb i k6)) (f := yB a b) (Mk := Finset.univ) (Finset.subset_univ _)) $$ Hy
    iintro Hy
    ihave Hy := (Entails.of_eq (congrArg (fun f => ((yM.view.loc (c : Thread nD τ)) ↦{fullShare} f : sProp 𝕄)) (write_half1 (k0_off11_inb i k6) o11 a b _))) $$ Hy
    rw [wp_ret]; imodintro
    isplitl [HY]; · iexact HY
    isplitl [Ha]; · iexact Ha
    isplitl [Hy]
    · unfold yStep; rw [if_pos hk]; iexact Hy
    · iexact Hw
  · have k6 : ¬ k0_cond6 i = 1#1 := fun e => hk ((cond6_iff i).mp e)
    have k7 : k0_cond7 i = 1#1 := (cond7_iff i).mpr hk
    have o12 : k0_off12 i = ![1, 0, 0] := (k0_off12_eq i).trans (by rw [hn])
    simp only [dif_neg k6, dif_pos k7]
    iapply (wp_load 𝒱₀ (c : Thread nD τ) none Set.univ (m := yM) (f := yB a b) (Finset.subset_univ _)) $$ Hy
    iintro Hy
    rw [read_half1 (k0_off12_inb i k7) o12]
    iapply (wp_load 𝒱₀ (c : Thread nD τ) none Set.univ (m := yM) (f := yB a b) (Finset.subset_univ _)) $$ Hy
    iintro Hy
    iapply (wp_store 𝒱₀ (c : Thread nD τ) none Set.univ (m := yM) (r := Rect.unit (s := S2x128x4096) (k0_off12 i) S1x128x4096.size (k0_off12_inb i k7)) (f := yB a b) (Mk := Finset.univ) (Finset.subset_univ _)) $$ Hy
    iintro Hy
    ihave Hy := (Entails.of_eq (congrArg (fun f => ((yM.view.loc (c : Thread nD τ)) ↦{fullShare} f : sProp 𝕄)) (write_half1 (k0_off12_inb i k7) o12 a b _))) $$ Hy
    rw [wp_ret]; imodintro
    isplitl [HY]; · iexact HY
    isplitl [Ha]; · iexact Ha
    isplitl [Hy]
    · unfold yStep; rw [if_neg hk]; iexact Hy
    · iexact Hw

end Body

end Cert.A2A

end

end
-- ==== Proof.Last.lean ====
/-
The last point of the grid: the exchange of the maxima, the quantised result, and the sends drained.
-/
module

public import proofs.«01_k».proof.Proof.Body

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

omit [FloatOps F] in
/-- The device's own maximum dealt into one share per peer. -/
theorem t_deal (c : Dev nD) (f : TBuf F) : ((tM.view.loc (c : Thread nD τ)) ↦{fullShare} f : sProp 𝕄) = bigSep Finset.univ fun j => tPts c j f := by
  unfold tPts tShare
  have h : tM.view.set = Finset.univ := View.set_whole _
  rw [h]
  exact Transfers.pointsTo_deal (Finset.univ : Finset (Fin 32)) ⟨0, Finset.mem_univ _⟩ fullShare

/-- A device's own row of maxima stays at zero. -/
theorem b_own (c : Dev nD) : bPts (F := F) c c k0_pay15 = bPts c c (AB tx c) := by
  unfold bPts
  refine pointsTo_congr fun i hi => ?_
  obtain ⟨z, -, rfl⟩ := Finset.mem_map.mp hi
  obtain ⟨p, q, rfl⟩ : ∃ (p : Fin 1) (q : Fin 128), z = ix2 p q := ⟨z 0, z 1, eq_ix2 z⟩
  unfold AB
  rw [bRow_emb]
  exact (if_pos rfl).symm

/-! ## What the last point takes and leaves -/

def famT (c : Dev nD) : sProp 𝕄 := bigSep (Finset.univ.erase c) fun r =>
  iprop(dutyTok EB (cel 2 c r) 0 r ∗ reached EB (cel 2 c r) 0 ∗ dutyTok EB (cel 3 r c) 0 c)
def famP (c : Dev nD) : sProp 𝕄 := bigSep (Finset.univ.erase c) fun j => iprop(atPos EB (cel 3 c j) 0 ∅ 0 ∗ cred (tallyAt (cel 3 c j) () NA))
def famQ (c : Dev nD) : sProp 𝕄 := bigSep (Finset.univ.erase c) fun j => iprop(atPos EB (cel 0 c j) 0 ∅ 0 ∗ atPos EB (cel 2 c j) 0 ∅ 0)
def famS (c : Dev nD) : sProp 𝕄 := bigSep (Finset.univ.erase c) fun r => iprop(cred (tallyAt (cel 0 c r) () NX) ∗ reached EB (cel 3 r c) 0)

def fin0 (c : Dev nD) : sProp 𝕄 :=
  iprop(famT (F := F) c ∗ famP (F := F) c ∗ famQ (F := F) c ∗ famS (F := F) c ∗ bigSep Finset.univ (rest (F := F) c) ∗ xPts c c (xs c) ∗ bPts c c (k0_pay15 (F := F))
    ∗ (∃ f : TBuf F, (tM.view.loc (c : Thread nD τ)) ↦{fullShare} f) ∗ (∃ f, oP (F := F) c f) ∗ ow c (oA c))

/-- Every transfer cell of the device after its round. -/
def done (c : Dev nD) : sProp 𝕄 := bigSep (Finset.univ.erase c) fun j =>
  iprop(atPos EB (cel 0 c j) 1 ∅ 0 ∗ atPos EB (cel 1 c j) 1 ∅ 0 ∗ atPos EB (cel 2 c j) 1 ∅ 0 ∗ atPos EB (cel 3 c j) 1 ∅ 0)

def fin1 (c : Dev nD) (f : OBuf F) : sProp 𝕄 :=
  iprop(done (F := F) c ∗ ((xM.view.loc (c : Thread nD τ)) ↦{fullShare} xs c) ∗ (∃ f : BBuf F, (bM.view.loc (c : Thread nD τ)) ↦{fullShare} f)
    ∗ (∃ f : TBuf F, (tM.view.loc (c : Thread nD τ)) ↦{fullShare} f) ∗ oP c f ∗ ow c 0)

theorem pre4_of (c : Dev nD) :
    iprop(famT (F := F) c ∗ famS (F := F) c ∗ bigSep Finset.univ (rest (F := F) c) ∗ bigSep Finset.univ (fun j => tPts c j (tx c)))
      ⊢ iprop(bigSep Finset.univ (pre4 tx c) ∗ (bigSep (Finset.univ.erase c) fun j => atPos EB (cel 1 c j) 1 ∅ 0)
        ∗ (bigSep (Finset.univ.erase c) fun j => cred (tallyAt (cel 0 c j) () NX)) ∗ tPts c c (tx c)) := by
  have e1 : bigSep Finset.univ (rest (F := F) c) = iprop(emp ∗ bigSep (Finset.univ.erase c) fun j => iprop(atPos EB (cel 1 c j) 1 ∅ 0 ∗ ∃ f, bPts (F := F) j c f)) :=
    cs_split c iprop(emp) _
  have e2 : bigSep Finset.univ (pre4 tx c) = iprop(emp ∗ bigSep (Finset.univ.erase c) fun r => iprop(dutyTok EB (cel 2 c r) 0 r ∗ reached EB (cel 2 c r) 0 ∗ dutyTok EB (cel 3 r c) 0 c ∗ reached EB (cel 3 r c) 0 ∗ tPts c r (tx c) ∗ (∃ f, bPts (F := F) r c f))) :=
    cs_split c iprop(emp) _
  have h : iprop((bigSep (Finset.univ.erase c) fun r => iprop(dutyTok EB (cel 2 c r) 0 r ∗ reached EB (cel 2 c r) 0 ∗ dutyTok EB (cel 3 r c) 0 c))
      ∗ (bigSep (Finset.univ.erase c) fun r => iprop(cred (tallyAt (cel 0 c r) () NX) ∗ reached EB (cel 3 r c) 0))
      ∗ (bigSep (Finset.univ.erase c) fun j => iprop(atPos EB (cel 1 c j) 1 ∅ 0 ∗ ∃ f, bPts (F := F) j c f)) ∗ bigSep (Finset.univ.erase c) (fun j => tPts c j (tx c)))
      ⊢ bigSep (Finset.univ.erase c) fun r => iprop((dutyTok EB (cel 2 c r) 0 r ∗ reached EB (cel 2 c r) 0 ∗ dutyTok EB (cel 3 r c) 0 c ∗ reached EB (cel 3 r c) 0 ∗ tPts c r (tx c) ∗ (∃ f, bPts (F := F) r c f))
        ∗ (atPos EB (cel 1 c r) 1 ∅ 0) ∗ cred (tallyAt (cel 0 c r) () NX)) := by
    rw [← bsep, ← bsep, ← bsep]
    refine bmono _ fun j _ => ?_
    iintro ⟨⟨H1, H2, H3⟩, ⟨H4, H5⟩, ⟨H6, H7⟩, H8⟩
    isplitr [H4 H6]
    · isplitl [H1]; · iexact H1
      isplitl [H2]; · iexact H2
      isplitl [H3]; · iexact H3
      isplitl [H5]; · iexact H5
      isplitl [H8] <;> iassumption
    · isplitl [H6] <;> iassumption
  rw [e1, e2, bigSep_univ_at (fun j => tPts c j (tx c)) c]
  unfold famT famS
  iintro ⟨HT, HS, ⟨-, HR⟩, Ht, Hts⟩
  ihave H := h $$ [HT HS HR Hts]
  · isplitl [HT]; · iexact HT
    isplitl [HS]; · iexact HS
    isplitl [HR] <;> iassumption
  ihave H := (Entails.of_eq (bsep _ _ _)) $$ H
  icases H with ⟨Ha, H⟩
  ihave H := (Entails.of_eq (bsep _ _ _)) $$ H
  icases H with ⟨Hb, Hc⟩
  isplitl [Ha]
  · isplitr
    · iempintro
    · iexact Ha
  isplitl [Hb]; · iexact Hb
  isplitl [Hc] <;> iassumption

theorem post4_of (c : Dev nD) : bigSep Finset.univ (post4 (F := F) c) ⊢ bigSep (Finset.univ.erase c) fun r => cred (tallyAt (cel 2 c r) () NA) := by
  have e : bigSep Finset.univ (post4 (F := F) c) = iprop(emp ∗ bigSep (Finset.univ.erase c) fun r => cred (tallyAt (cel 2 c r) () NA)) := cs_split c iprop(emp) _
  rw [e]
  iintro ⟨-, H⟩
  iexact H

theorem pre5_of (c : Dev nD) : iprop(bPts c c (k0_pay15 (F := F)) ∗ famP (F := F) c) ⊢ bigSep Finset.univ (pre5 (F := F) c) :=
  Entails.of_eq (cs_split c (bPts c c (k0_pay15 (F := F))) fun j => iprop(atPos EB (cel 3 c j) 0 ∅ 0 ∗ cred (tallyAt (cel 3 c j) () NA))).symm

theorem post5_of (c : Dev nD) : bigSep Finset.univ (post5 tx c)
    ⊢ iprop(((bM.view.loc (c : Thread nD τ)) ↦{fullShare} AB tx c) ∗ bigSep (Finset.univ.erase c) fun j => atPos EB (cel 3 c j) 1 ∅ 0) := by
  have e : bigSep Finset.univ (post5 tx c) = iprop(bPts c c (k0_pay15 (F := F)) ∗ bigSep (Finset.univ.erase c) fun j => iprop(atPos EB (cel 3 c j) 1 ∅ 0 ∗ bPts c j (AB tx c))) := cs_split c _ _
  rw [e, bsep, b_own tx c, b_rows c (AB tx c), bigSep_univ_at (fun j => bPts c j (AB tx c)) c]
  iintro ⟨H1, H2, H3⟩
  isplitr [H2]
  · isplitl [H1] <;> iassumption
  · iexact H2

theorem pre6_of (c : Dev nD) :
    iprop(xPts c c (xs c) ∗ tPts c c (tx c) ∗ famQ (F := F) c ∗ (bigSep (Finset.univ.erase c) fun j => cred (tallyAt (cel 0 c j) () NX))
      ∗ bigSep (Finset.univ.erase c) fun r => cred (tallyAt (cel 2 c r) () NA)) ⊢ bigSep Finset.univ (pre6 xs tx c) := by
  have e : bigSep Finset.univ (pre6 xs tx c) = iprop((xPts c c (xs c) ∗ tPts c c (tx c)) ∗ bigSep (Finset.univ.erase c) fun j =>
    iprop((atPos EB (cel 0 c j) 0 ∅ 0 ∗ cred (tallyAt (cel 0 c j) () NX)) ∗ atPos EB (cel 2 c j) 0 ∅ 0 ∗ cred (tallyAt (cel 2 c j) () NA))) := cs_split c _ _
  have h : iprop((bigSep (Finset.univ.erase c) fun j => iprop(atPos EB (cel 0 c j) 0 ∅ 0 ∗ atPos EB (cel 2 c j) 0 ∅ 0))
      ∗ (bigSep (Finset.univ.erase c) fun j => cred (tallyAt (cel 0 c j) () NX)) ∗ bigSep (Finset.univ.erase c) fun r => (cred (tallyAt (cel 2 c r) () NA) : sProp 𝕄))
      ⊢ bigSep (Finset.univ.erase c) fun j =>
    iprop((atPos EB (cel 0 c j) 0 ∅ 0 ∗ cred (tallyAt (cel 0 c j) () NX)) ∗ atPos EB (cel 2 c j) 0 ∅ 0 ∗ cred (tallyAt (cel 2 c j) () NA)) := by
    rw [← bsep, ← bsep]
    refine bmono _ fun j _ => ?_
    iintro ⟨⟨H1, H2⟩, H3, H4⟩
    isplitl [H1 H3]
    · isplitl [H1] <;> iassumption
    · isplitl [H2] <;> iassumption
  rw [e]
  unfold famQ
  iintro ⟨Hx, Ht, HQ, Hc, Hd⟩
  isplitl [Hx Ht]
  · isplitl [Hx] <;> iassumption
  iapply h
  isplitl [HQ]; · iexact HQ
  isplitl [Hc] <;> iassumption

theorem post6_of (c : Dev nD) :
    iprop(bigSep Finset.univ (post6 xs tx c) ∗ (bigSep (Finset.univ.erase c) fun j => atPos EB (cel 1 c j) 1 ∅ 0) ∗ bigSep (Finset.univ.erase c) fun j => atPos EB (cel 3 c j) 1 ∅ 0)
      ⊢ iprop(done (F := F) c ∗ ((xM.view.loc (c : Thread nD τ)) ↦{fullShare} xs c) ∗ ((tM.view.loc (c : Thread nD τ)) ↦{fullShare} tx c)) := by
  have e : bigSep Finset.univ (post6 xs tx c) = iprop((xPts c c (xs c) ∗ tPts c c (tx c)) ∗ bigSep (Finset.univ.erase c) fun j =>
    iprop((atPos EB (cel 0 c j) 1 ∅ 0 ∗ xPts c j (xs c)) ∗ atPos EB (cel 2 c j) 1 ∅ 0 ∗ tPts c j (tx c))) := cs_split c _ _
  have h : iprop((bigSep (Finset.univ.erase c) fun j => iprop((atPos EB (cel 0 c j) 1 ∅ 0 ∗ xPts c j (xs c)) ∗ atPos EB (cel 2 c j) 1 ∅ 0 ∗ tPts c j (tx c)))
      ∗ (bigSep (Finset.univ.erase c) fun j => atPos EB (cel 1 c j) 1 ∅ 0) ∗ bigSep (Finset.univ.erase c) fun j => atPos EB (cel 3 c j) 1 ∅ 0)
      ⊢ bigSep (Finset.univ.erase c) fun j => iprop((atPos EB (cel 0 c j) 1 ∅ 0 ∗ atPos EB (cel 1 c j) 1 ∅ 0 ∗ atPos EB (cel 2 c j) 1 ∅ 0 ∗ atPos EB (cel 3 c j) 1 ∅ 0)
        ∗ xPts c j (xs c) ∗ tPts c j (tx c)) := by
    rw [← bsep, ← bsep]
    refine bmono _ fun j _ => ?_
    iintro ⟨⟨⟨H1, H2⟩, H3, H4⟩, H5, H6⟩
    isplitl [H1 H5 H3 H6]
    · isplitl [H1]; · iexact H1
      isplitl [H5]; · iexact H5
      isplitl [H3] <;> iassumption
    · isplitl [H2] <;> iassumption
  rw [e, x_rows c (xs c), t_deal c (tx c), bigSep_univ_at (fun j => xPts c j (xs c)) c, bigSep_univ_at (fun j => tPts c j (tx c)) c]
  unfold done
  iintro ⟨⟨⟨Hx, Ht⟩, H⟩, H1, H3⟩
  ihave H := h $$ [H H1 H3]
  · isplitl [H]; · iexact H
    isplitl [H1] <;> iassumption
  ihave H := (Entails.of_eq (bsep _ _ _)) $$ H
  icases H with ⟨Hd, H⟩
  ihave H := (Entails.of_eq (bsep _ _ _)) $$ H
  icases H with ⟨Hxs, Hts⟩
  isplitl [Hd]; · iexact Hd
  isplitl [Hx Hxs]
  · isplitl [Hx] <;> iassumption
  · isplitl [Ht] <;> iassumption

section Body
variable (i : grid0.Coords) (arg4 : Memref sig .tc .vmem S1024x4096 .f32) (h4 : arg4.IsWhole) (c : Dev nD)

theorem ld_y (f : YBuf F) : yM.view.readAt (Elt F) (Rect.unit (s := S2x128x4096) ![0, 0, 0] S2x128x4096.size inb_S2x128x4096_S2x128x4096_0_0_0).toLoadRect f = f :=
  Memref.readAt_unit_zero (Elt F) cc0_scratch2 (off := ![0, 0, 0]) (by decide) inb_S2x128x4096_S2x128x4096_0_0_0 f
theorem ld_b (f : BBuf F) : bM.view.readAt (Elt F) (Rect.unit (s := S32x128) ![0, 0] S32x128.size inb_S32x128_S32x128_0_0).toLoadRect f = f :=
  Memref.readAt_unit_zero (Elt F) cc0_scratch4 (off := ![0, 0]) (by decide) inb_S32x128_S32x128_0_0 f

/-- The last point. -/
theorem bodyLast (s : Fin 4) (hi0 : (i 0).val = 3) (hi1 : (i 1).val = 1) (X Y : sProp 𝕄) (fw : arg4.view.ty.Contents (Elt F)) (A : ABuf F) (a b : YHalf F)
    (hh : HeadSpec (F := F) i arg4 h4 c s X Y) (htx : tx c = k0_pay12 (yB a (k0_pay4 A (wV arg4 fw) b))) :
    iprop(ctx xs tx K ∗ X ∗ fin0 xs c ∗ aP c A ∗ yP c (yB a b) ∗ wP arg4 c fw)
      ⊢ wp frame (wpE (defs₀ (F := F)) 𝒱₀ (c : Thread nD τ) none) Set.univ (BD i arg4 h4) fun _ =>
        iprop(Y ∗ fin1 xs c (outB (yB a (k0_pay4 A (wV arg4 fw) b)) (AB tx c)) ∗ aP c A ∗ yP c (yB a (k0_pay4 A (wV arg4 fw) b)) ∗ wP arg4 c fw) := by
  unfold BD
  simp only [cc0_body_eq_skeleton]
  unfold cc0_body_skel
  have k4 : ¬ k0_cond4 i = 1#1 := fun e => by have := (cond4_iff i).mp e; omega
  have k6 : ¬ k0_cond6 i = 1#1 := fun e => by have := (cond6_iff i).mp e; omega
  have k7 : k0_cond7 i = 1#1 := (cond7_iff i).mpr (by omega)
  have k8 : k0_cond8 i = 1#1 := (cond8_iff i).mpr ⟨hi0, hi1⟩
  have o12 : k0_off12 i = ![1, 0, 0] := (k0_off12_eq i).trans (by rw [hi1])
  simp only [dif_neg k4, dif_neg k6, dif_pos k7, dif_pos k8]
  unfold fin0
  iintro ⟨#HC, HX, ⟨HT, HP, HQ, HS, HR, Hx, Hb, ⟨%ft, Ht⟩, ⟨%fo, Ho⟩, HO⟩, Ha, Hy, Hw⟩
  iapply (hh _ _)
  isplitl [HX]; · iexact HX
  iintro %v19 %v29 %hw HY
  dsimp only
  simp only [k0_part4_eq_skeleton]
  unfold k0_part4_skel
  simp only [Prog.lift, Prog.bind_assoc, Prog.bind_op, Prog.bind_ret, Prog.pure_eq_ret]
  unfold aP
  iapply (wp_load 𝒱₀ (c : Thread nD τ) none Set.univ (m := aM) (f := A) (Finset.subset_univ _)) $$ Ha
  iintro Ha
  rw [ld_a]
  unfold wP
  iapply (wp_load 𝒱₀ (c : Thread nD τ) none Set.univ (m := arg4) (f := fw) (Finset.subset_univ _)) $$ Hw
  iintro Hw
  have hwv : arg4.view.readAt (Elt F) (Rect.unit (s := S1024x4096) ![0, 0] S1024x4096.size inb_S1024x4096_S1024x4096_0_0).toLoadRect fw = wV arg4 fw := rfl
  rw [hwv]
  unfold yP
  iapply (wp_load 𝒱₀ (c : Thread nD τ) none Set.univ (m := yM) (f := yB a b) (Finset.subset_univ _)) $$ Hy
  iintro Hy
  rw [read_half1 (k0_off12_inb i k7) o12]
  iapply (wp_load 𝒱₀ (c : Thread nD τ) none Set.univ (m := yM) (f := yB a b) (Finset.subset_univ _)) $$ Hy
  iintro Hy
  iapply (wp_store 𝒱₀ (c : Thread nD τ) none Set.univ (m := yM) (r := Rect.unit (s := S2x128x4096) (k0_off12 i) S1x128x4096.size (k0_off12_inb i k7)) (f := yB a b) (Mk := Finset.univ) (Finset.subset_univ _)) $$ Hy
  iintro Hy
  ihave Hy := (Entails.of_eq (congrArg (fun f => ((yM.view.loc (c : Thread nD τ)) ↦{fullShare} f : sProp 𝕄)) (write_half1 (k0_off12_inb i k7) o12 a b (k0_pay4 A (wV arg4 fw) b)))) $$ Hy
  generalize k0_pay4 A (wV arg4 fw) b = b' at *
  -- the local maximum
  iapply (wp_load 𝒱₀ (c : Thread nD τ) none Set.univ (m := yM) (f := yB a b') (Finset.subset_univ _)) $$ Hy
  iintro Hy
  rw [ld_y]
  iapply (wp_load 𝒱₀ (c : Thread nD τ) none Set.univ (m := tM) (f := ft) (Finset.subset_univ _)) $$ Ht
  iintro Ht
  iapply (wp_store 𝒱₀ (c : Thread nD τ) none Set.univ (m := tM) (r := Rect.unit (s := S1x128) ![0, 0] S1x128.size inb_S1x128_S1x128_0_0) (f := ft) (Mk := Finset.univ) (Finset.subset_univ _)) $$ Ht
  iintro Ht
  ihave Ht := (Entails.of_eq (congrArg (fun f => ((tM.view.loc (c : Thread nD τ)) ↦{fullShare} f : sProp 𝕄))
    ((Memref.write_access_unit_zero_univ (Elt F) cc0_scratch3 (off := ![0, 0]) (by decide) inb_S1x128_S1x128_0_0 ft (k0_pay12 (yB a b'))).trans htx.symm))) $$ Ht
  ihave Ht := (Entails.of_eq (t_deal c (tx c))) $$ Ht
  ihave H4 := (pre4_of tx c) $$ [HT HS HR Ht]
  · isplitl [HT]; · iexact HT
    isplitl [HS]; · iexact HS
    isplitl [HR] <;> iassumption
  icases H4 with ⟨H4, H1, Hc0, Htc⟩
  iapply (loop4 xs tx K i arg4 h4 c _ _ _ k8 0)
  isplitr; · iexact HC
  isplitl [H4]; · iexact H4
  rw [zero_add]
  isplitl [HO]; · iexact HO
  iintro ⟨H4, HO⟩
  ihave Hc2 := (post4_of (F := F) c) $$ H4
  ihave H5 := (pre5_of (F := F) c) $$ [Hb HP]
  · isplitl [Hb] <;> iassumption
  iapply (loop5 xs tx K i arg4 h4 c _ _ _ k8)
  isplitr; · iexact HC
  isplitl [H5]; · iexact H5
  isplitl [HO]; · iexact HO
  iintro ⟨H5, HO⟩
  ihave H5 := (post5_of tx c) $$ H5
  icases H5 with ⟨Hb, H3⟩
  iapply (wp_load 𝒱₀ (c : Thread nD τ) none Set.univ (m := bM) (f := AB tx c) (Finset.subset_univ _)) $$ Hb
  iintro Hb
  rw [ld_b]
  iapply (wp_load 𝒱₀ (c : Thread nD τ) none Set.univ (m := yM) (f := yB a b') (Finset.subset_univ _)) $$ Hy
  iintro Hy
  rw [read_half0 inb_S2x128x4096_S1x128x4096_0_0_0 rfl]
  unfold oP
  iapply (wp_load 𝒱₀ (c : Thread nD τ) none Set.univ (m := oM) (f := fo) (Finset.subset_univ _)) $$ Ho
  iintro Ho
  iapply (wp_store 𝒱₀ (c : Thread nD τ) none Set.univ (m := oM) (r := Rect.unit (s := S128x8192) ![0, 0] S128x4096.size inb_S128x8192_S128x4096_0_0) (f := fo) (Mk := Finset.univ) (Finset.subset_univ _)) $$ Ho
  iintro Ho
  iapply (wp_load 𝒱₀ (c : Thread nD τ) none Set.univ (m := yM) (f := yB a b') (Finset.subset_univ _)) $$ Hy
  iintro Hy
  rw [read_half1 inb_S2x128x4096_S1x128x4096_1_0_0 rfl]
  iapply (wp_load 𝒱₀ (c : Thread nD τ) none Set.univ (m := oM) (Finset.subset_univ _)) $$ Ho
  iintro Ho
  iapply (wp_store 𝒱₀ (c : Thread nD τ) none Set.univ (m := oM) (r := Rect.unit (s := S128x8192) ![0, 4096] S128x4096.size inb_S128x8192_S128x4096_0_4096) (Mk := Finset.univ) (Finset.subset_univ _)) $$ Ho
  iintro Ho
  ihave Ho := (Entails.of_eq (congrArg (fun f => ((oM.view.loc (c : Thread nD τ)) ↦{fullShare} f : sProp 𝕄))
    (write_out a b' (AB tx c) fo inb_S128x8192_S128x4096_0_0 inb_S128x8192_S128x4096_0_4096))) $$ Ho
  ihave H6 := (pre6_of xs tx c) $$ [Hx Htc HQ Hc0 Hc2]
  · isplitl [Hx]; · iexact Hx
    isplitl [Htc]; · iexact Htc
    isplitl [HQ]; · iexact HQ
    isplitl [Hc0] <;> iassumption
  iapply (loop6 xs tx K i arg4 h4 c k8)
  isplitr; · iexact HC
  isplitl [H6]; · iexact H6
  isplitl [HO]; · iexact HO
  iintro ⟨H6, HO⟩
  ihave H6 := (post6_of xs tx c) $$ [H6 H1 H3]
  · isplitl [H6]; · iexact H6
    isplitl [H1] <;> iassumption
  icases H6 with ⟨Hd, Hx, Ht⟩
  rw [wp_ret]; imodintro
  unfold fin1 oP
  isplitl [HY]; · iexact HY
  isplitr [Ha Hy Hw]
  · isplitl [Hd]; · iexact Hd
    isplitl [Hx]; · iexact Hx
    isplitl [Hb]; · iexists _; iexact Hb
    isplitl [Ht]; · iexists _; iexact Ht
    isplitl [Ho] <;> iassumption
  isplitl [Ha]; · iexact Ha
  isplitl [Hy] <;> iassumption

end Body

end Cert.A2A

end

end
-- ==== Proof.Table.lean ====
/-
The order table as the pipeline reads it: on device `c` its `k`-th word names quarter `quarter c k`, so at grid
point `(k, n)` the weights' window stands at block `(quarter c k, n)`; when each window is fetched and written back.
-/
module

public import proofs.«01_k».proof.Proof.Last

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

/-- What the prefetched table holds on device `c`. -/
def tabs (c : Dev nD) : pre0.Contents (Elt F) := fun | 0 => (TT c : S4.Idx → Elt F .i32) | ⟨_ + 1, h⟩ => absurd h (Nat.not_lt.2 (Nat.le_add_left _ _))

theorem tr1_eq (c : Dev nD) (i : grid0.Coords) :
    cc0_transform_1 (F := F) k0_off1_inb numel1_S1 (tabs c) i = ![(quarter c (i 0)).val, (i 1).val] := by
  have h0 : (i 0).val < 4 := (i 0).isLt
  have h1 : (i 1).val < 2 := (i 1).isLt
  have e0 : ∀ n < 4, (Scalar.indexCast (BitVec.ofNat 32 n) : Index).toNat = n := by decide +kernel
  have key : (tabs c : pre0.Contents (Elt F)).at 0 (Rect.unit (s := S4) ![(Scalar.indexCast (BitVec.ofNat 32 (i 0).val) : Index).toNat] S1.size (k0_off1_inb i)) numel1_S1
      = qw (quarter c (i 0)) := by
    show qw (quarter c _) = _
    refine congrArg (fun k => qw (quarter c k)) (Fin.ext ?_)
    show (Scalar.indexCast (BitVec.ofNat 32 (i 0).val) : Index).toNat + 1 * 0 = _
    rw [e0 _ h0]; omega
  show ![((tabs c : pre0.Contents (Elt F)).at 0 (Rect.unit (s := S4) ![(Scalar.indexCast (BitVec.ofNat 32 (i 0).val) : Index).toNat] S1.size (k0_off1_inb i)) numel1_S1).toNat, (BitVec.ofNat 32 (i 1).val).toNat] = _
  rw [key]
  have e1 : (qw (quarter c (i 0))).toNat = (quarter c (i 0)).val := by
    have := (quarter c (i 0)).isLt
    show (BitVec.ofNat 32 _).toNat = _
    rw [BitVec.toNat_ofNat]; omega
  rw [e1, BitVec.toNat_ofNat, Nat.mod_eq_of_lt (by omega)]

theorem tabs_ok (c : Dev nD) : ok0 (F := F) (tabs c) := by
  intro i
  refine ⟨fun a => ?_, Or.inl rfl⟩
  rw [tr1_eq]
  have h0 := (quarter c (i 0)).isLt
  have h1 : (i 1).val < 2 := (i 1).isLt
  match a with
  | ⟨0, _⟩ => show ((quarter c (i 0)).val + 1) * 1024 ≤ 4096; omega
  | ⟨1, _⟩ => show ((i 1).val + 1) * 4096 ≤ 8192; omega

/-- The admissible table of device `c`. -/
def adm (c : Dev nD) : (pcfg0 (F := F)).Adm := ⟨tabs c, tabs_ok c⟩

/-- The pipeline at device `c`'s table. -/
abbrev cf (c : Dev nD) : Pipeline.Cfg sig Λ₀ := (pcfg0 (F := F)).at (adm c)

theorem grid_N : grid0.N = 8 := by decide +kernel

theorem cf_N (c : Dev nD) : (cf (F := F) c).N = 8 := grid_N

theorem co_eq : ∀ t : Fin 8, (grid0.coords t 0).val = t.val / 2 ∧ (grid0.coords t 1).val = t.val % 2 := by decide +kernel

theorem index1 (c : Dev nD) (t : Fin grid0.N) (h : t.val < 8) :
    ((cf (F := F) c).win 1).index t = ![(quarter c ⟨t.val / 2, by omega⟩).val, t.val % 2] := by
  show cc0_transform_1 (F := F) k0_off1_inb numel1_S1 (tabs c) (grid0.coords t) = _
  rw [tr1_eq]
  have := co_eq t
  have e : grid0.coords t 0 = (⟨t.val / 2, by omega⟩ : Fin 4) := Fin.ext this.1
  rw [e, this.2]

theorem fetch0 (c : Dev nD) (t : Fin grid0.N) : ((cf (F := F) c).win 0).fetch t = decide (t.val = 0) := by
  have ho : ((cf (F := F) c).win 0).isOut = false := rfl
  unfold Pipeline.Window.fetch
  rw [ho, Bool.not_false, Bool.true_and]
  have : ¬(∃ h : 0 < t.val, ((cf (F := F) c).win 0).index t ≠ ((cf (F := F) c).win 0).index ⟨t.val - 1, lt_of_le_of_lt (Nat.sub_le _ _) t.isLt⟩) := fun ⟨_, h⟩ => h rfl
  rw [decide_eq_false this, Bool.or_false]

theorem fetch1 (c : Dev nD) (t : Fin grid0.N) (h : t.val < 8) : ((cf (F := F) c).win 1).fetch t = true := by
  have ho : ((cf (F := F) c).win 1).isOut = false := rfl
  unfold Pipeline.Window.fetch
  rw [ho, Bool.not_false, Bool.true_and, Bool.or_eq_true]
  by_cases h0 : t.val = 0
  · left; exact decide_eq_true h0
  · right
    refine decide_eq_true ⟨by omega, fun e => ?_⟩
    rw [index1 c t h, index1 c _ (by show t.val - 1 < 8; omega)] at e
    have e1 := congrFun e 1
    have : t.val % 2 = (t.val - 1) % 2 := e1
    omega

theorem fetch2 (c : Dev nD) (t : Fin grid0.N) : ((cf (F := F) c).win 2).fetch t = false := rfl

theorem flush0 (c : Dev nD) (t : Fin grid0.N) : ((cf (F := F) c).win 0).flush t = false := rfl
theorem flush1 (c : Dev nD) (t : Fin grid0.N) : ((cf (F := F) c).win 1).flush t = false := rfl
theorem flush2 (c : Dev nD) (t : Fin grid0.N) : ((cf (F := F) c).win 2).flush t = decide (t.val = 7) := by
  have ho : ((cf (F := F) c).win 2).isOut = true := rfl
  unfold Pipeline.Window.flush
  rw [ho, Bool.true_and]
  have : ¬(∃ h : t.val + 1 < grid0.N, ((cf (F := F) c).win 2).index ⟨t.val + 1, h⟩ ≠ ((cf (F := F) c).win 2).index t) := fun ⟨_, h⟩ => h rfl
  rw [decide_eq_false this, Bool.or_false]
  have hN := grid_N
  exact decide_eq_decide.mpr (by show t.val + 1 = grid0.N ↔ _; omega)

theorem single0 (c : Dev nD) : ((cf (F := F) c).win 0).single = true := rfl
theorem single1 (c : Dev nD) : ((cf (F := F) c).win 1).single = false := rfl
theorem single2 (c : Dev nD) : ((cf (F := F) c).win 2).single = true := rfl

theorem slot0 (c : Dev nD) (t : ℕ) (h : t < grid0.N) : ((cf (F := F) c).win 0).slot t h = (0 : Fin 1) := Subsingleton.elim (α := Fin 1) _ _
theorem slot2 (c : Dev nD) (t : ℕ) (h : t < grid0.N) : ((cf (F := F) c).win 2).slot t h = (0 : Fin 1) := Subsingleton.elim (α := Fin 1) _ _
theorem slot1 (c : Dev nD) : ∀ (t : ℕ) (h : t < grid0.N), t < 8 → (((cf (F := F) c).win 1).slot t h).val = t % 2
  | 0, _, _ => rfl
  | t + 1, h, h8 => by
    have ih := slot1 c t (Nat.lt_of_succ_lt h) (by omega)
    have ho : ((cf (F := F) c).win 1).isOut = false := rfl
    have hb : ((cf (F := F) c).win 1).nbuf = 2 := rfl
    unfold Pipeline.Window.slot
    simp only [ho, Bool.false_eq_true, if_false, fetch1 c ⟨t + 1, h⟩ h8, if_true, ih]
    show (t % 2 + 1) % 2 = (t + 1) % 2
    omega

end Cert.A2A

end

end
-- ==== Proof.Trips.lean ====
/-
The pipeline's ten trips as straight lines of copies, waits and calls of the body.
-/
module

public import proofs.«01_k».proof.Proof.Table

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

open Idealize.ShloMosaic.Pipeline (kernel pipe entry)

/-- Programs of the pipeline's labels. -/
abbrev PP (F : FTy → Type) [FloatOps F] : Type 1 := Prog (TpuEff nD τ sig (Elt F) (Pipeline.Sig Λ₀ (Fin 1) fun p => (pcfgs (F := F) p).Adm) Proc.tc) PUnit

variable (c : Dev nD)

theorem prologue_eq : (cf (F := F) c).prologue = 1 := if_pos (decide_eq_true ⟨(0 : Fin 3), rfl⟩)
theorem epilogue_eq : (cf (F := F) c).epilogue = 1 := if_pos (decide_eq_true ⟨(2 : Fin 3), rfl⟩)
theorem tripCount_eq : (cf (F := F) c).tripCount = 10 := by
  unfold Pipeline.Cfg.tripCount; rw [prologue_eq, epilogue_eq, cf_N]

/-- Grid point `u`. -/
abbrev pt (u : ℕ) (h : u < 8 := by omega) : Fin grid0.N := ⟨u, by rw [grid_N]; exact h⟩

theorem at_some {t d u : ℕ} (hu : u < 8) (h : t = u + d) (f : Fin grid0.N → PP F → PP F) (k : PP F) :
    (cf (F := F) c).atPoint t d f k = f (pt u hu) k := by
  have hN := grid_N
  unfold Pipeline.Cfg.atPoint Pipeline.Cfg.point
  subst h
  rw [dif_pos ⟨by omega, by show u + d - d < grid0.N; omega⟩]
  show f ⟨u + d - d, _⟩ k = _
  exact congrArg (fun x => f x k) (Fin.ext (Nat.add_sub_cancel u d))

theorem at_none {t d : ℕ} (h : t < d ∨ 8 ≤ t - d) (f : Fin grid0.N → PP F → PP F) (k : PP F) :
    (cf (F := F) c).atPoint t d f k = k := by
  have hN := grid_N
  unfold Pipeline.Cfg.atPoint Pipeline.Cfg.point
  rw [dif_neg (by show ¬(d ≤ t ∧ t - d < grid0.N); omega)]

theorem each3 (p : Fin (cf (F := F) c).W → Bool) (f : Fin (cf (F := F) c).W → PP F → PP F) (k : PP F) :
    (cf (F := F) c).eachWin p f k = (if p (0 : Fin 3) then f (0 : Fin 3) (if p (1 : Fin 3) then f (1 : Fin 3) (if p (2 : Fin 3) then f (2 : Fin 3) k else k) else if p (2 : Fin 3) then f (2 : Fin 3) k else k)
      else if p (1 : Fin 3) then f (1 : Fin 3) (if p (2 : Fin 3) then f (2 : Fin 3) k else k) else if p (2 : Fin 3) then f (2 : Fin 3) k else k) := by
  have h : List.finRange 3 = [0, 1, 2] := by decide
  unfold Pipeline.Cfg.eachWin
  show (List.finRange 3).foldr _ _ = _
  rw [h]
  simp only [List.foldr]

theorem ws0 : ((pcfg0 (F := F)).win (adm c) (0 : Fin 3)).single = true := rfl
theorem ws1 : ((pcfg0 (F := F)).win (adm c) (1 : Fin 3)).single = false := rfl
theorem ws2 : ((pcfg0 (F := F)).win (adm c) (2 : Fin 3)).single = true := rfl
theorem wf0 (u : ℕ) (h : u < 8) : ((pcfg0 (F := F)).win (adm c) (0 : Fin 3)).fetch (pt u h) = decide (u = 0) := fetch0 c _
theorem wf1 (u : ℕ) (h : u < 8) : ((pcfg0 (F := F)).win (adm c) (1 : Fin 3)).fetch (pt u h) = true := fetch1 c _ h
theorem wf2 (u : ℕ) (h : u < 8) : ((pcfg0 (F := F)).win (adm c) (2 : Fin 3)).fetch (pt u h) = false := rfl
theorem wl0 (u : ℕ) (h : u < 8) : ((pcfg0 (F := F)).win (adm c) (0 : Fin 3)).flush (pt u h) = false := rfl
theorem wl1 (u : ℕ) (h : u < 8) : ((pcfg0 (F := F)).win (adm c) (1 : Fin 3)).flush (pt u h) = false := rfl
theorem wl2 (u : ℕ) (h : u < 8) : ((pcfg0 (F := F)).win (adm c) (2 : Fin 3)).flush (pt u h) = decide (u = 7) := flush2 c _

abbrev wn (w : Fin (cf (F := F) c).W) := (pcfg0 (F := F)).win (adm c) w

section
variable (f : Fin (cf (F := F) c).W → PP F → PP F) (k : PP F)

theorem late_0 : (cf (F := F) c).eachWin (fun w => (wn c w).single && (wn c w).fetch (pt 0)) f k = f (0 : Fin 3) k := by
  rw [each3, ws0, ws1, ws2, wf0, wf1, wf2]; rfl
theorem all_0 : (cf (F := F) c).eachWin (fun w => (wn c w).fetch (pt 0)) f k = f (0 : Fin 3) (f (1 : Fin 3) k) := by
  rw [each3, wf0, wf1, wf2]; rfl
theorem out_7 : (cf (F := F) c).eachWin (fun w => (wn c w).flush (pt 7)) f k = f (2 : Fin 3) k := by
  rw [each3, wl0, wl1, wl2]; rfl
theorem outS_7 : (cf (F := F) c).eachWin (fun w => (wn c w).single && (wn c w).flush (pt 7)) f k = f (2 : Fin 3) k := by
  rw [each3, ws0, ws1, ws2, wl0, wl1, wl2]; rfl

variable (u : ℕ) (h : u < 8)

theorem late_n (h0 : u ≠ 0) : (cf (F := F) c).eachWin (fun w => (wn c w).single && (wn c w).fetch (pt u h)) f k = k := by
  rw [each3, ws0, ws1, ws2, wf0, wf1, wf2, decide_eq_false h0]; rfl
theorem early : (cf (F := F) c).eachWin (fun w => !(wn c w).single && (wn c w).fetch (pt u h)) f k = f (1 : Fin 3) k := by
  rw [each3, ws0, ws1, ws2, wf0, wf1, wf2]; rfl
theorem all_n (h0 : u ≠ 0) : (cf (F := F) c).eachWin (fun w => (wn c w).fetch (pt u h)) f k = f (1 : Fin 3) k := by
  rw [each3, wf0, wf1, wf2, decide_eq_false h0]; rfl
theorem out_n (h7 : u ≠ 7) : (cf (F := F) c).eachWin (fun w => (wn c w).flush (pt u h)) f k = k := by
  rw [each3, wl0, wl1, wl2, decide_eq_false h7]; rfl
theorem outS_n (h7 : u ≠ 7) : (cf (F := F) c).eachWin (fun w => (wn c w).single && (wn c w).flush (pt u h)) f k = k := by
  rw [each3, ws0, ws1, ws2, wl0, wl1, wl2, decide_eq_false h7]; rfl
theorem outD : (cf (F := F) c).eachWin (fun w => !(wn c w).single && (wn c w).flush (pt u h)) f k = k := by
  rw [each3, ws0, ws1, ws2, wl0, wl1, wl2]; rfl
end

theorem fetchIn0 (t : Fin grid0.N) (k : PP F) : (cf (F := F) c).fetchIn 0 t k = .op ((cf (F := F) c).startIn 0 t) fun _ => k := rfl
theorem fetchIn1 (t : Fin grid0.N) (k : PP F) : (cf (F := F) c).fetchIn 1 t k = .op ((cf (F := F) c).startIn 1 t) fun _ => k := rfl

/-- Calls the body at point `u`, then goes on. -/
abbrev callBody (u : Fin grid0.N) (k : PP F) : PP F :=
  .op (.call (kernel (cf (F := F) c).body) ((cf (F := F) c).bodyArgs u ((cf (F := F) c).slots u))) fun _ => k

/-- Goes on with trip `l`. -/
abbrev goOn (l : ℕ) : PP F := .op (.call (pipe (0 : Fin 1)) (adm c, l)) fun _ => .ret ⟨⟩

/-- The pipeline's trip `l`. -/
abbrev itr (l : ℕ) : PP F := (cf (F := F) c).iter (P := Fin 1) (A := fun p => (pcfgs (F := F) p).Adm) (0 : Fin 1) (adm c) l

/-- Trip 0 only starts the fetch of the first block of weights. -/
theorem iter_0 : itr (F := F) c 0 = .op ((cf (F := F) c).startIn 1 (pt 0)) fun _ => goOn c 1 := by
  unfold itr Pipeline.Cfg.iter
  dsimp only
  rw [at_none c (by omega), at_some c (t := 0) (d := 0) (u := 0) (by omega) rfl, prologue_eq, at_none c (by omega), at_none c (by omega), tripCount_eq, if_pos (by omega), each3]
  rw [ws0, ws1, ws2, wf1, wf2]
  rfl

/-- Trip 1 fetches `x` and the second block of weights, and runs the first point. -/
theorem iter_1 : itr (F := F) c 1 =
    .op ((cf (F := F) c).startIn 0 (pt 0)) fun _ => .op ((cf (F := F) c).startIn 1 (pt 1)) fun _ =>
    .op ((cf (F := F) c).waitIn 0 (pt 0)) fun _ => .op ((cf (F := F) c).waitIn 1 (pt 0)) fun _ => callBody c (pt 0) (goOn c 2) := by
  unfold itr Pipeline.Cfg.iter
  dsimp only
  rw [at_some c (u := 0) (d := 1) (by omega) rfl, at_some c (u := 1) (d := 0) (by omega) rfl, prologue_eq, at_some c (u := 0) (d := 1) (by omega) rfl, at_none c (by omega), tripCount_eq, if_pos (by omega)]
  rw [late_0, early, all_0, out_n c _ _ 0 _ (by omega), outS_n c _ _ 0 _ (by omega)]
  rfl

/-- Trip `u + 1`, for the points between. -/
theorem iter_mid (u : ℕ) (h1 : 1 ≤ u) (h7 : u < 7) : itr (F := F) c (u + 1) =
    .op ((cf (F := F) c).startIn 1 (pt (u + 1))) fun _ => .op ((cf (F := F) c).waitIn 1 (pt u)) fun _ => callBody c (pt u) (goOn c (u + 2)) := by
  unfold itr Pipeline.Cfg.iter
  dsimp only
  rw [at_some c (u := u) (d := 1) (by omega) rfl, at_some c (u := u + 1) (d := 0) (by omega) rfl, prologue_eq, at_some c (u := u) (d := 1) (by omega) rfl]
  have hl : (cf (F := F) c).tripCount = 10 := tripCount_eq c
  by_cases h0 : u = 0
  · omega
  rw [at_some c (u := u - 1) (d := 1 + 1) (by omega) (by omega), hl, if_pos (by omega)]
  rw [late_n c _ _ u _ h0, early, all_n c _ _ u _ h0, out_n c _ _ u _ (by omega), outS_n c _ _ u _ (by omega), outD]
  rfl

/-- Trip 8 runs the last point and writes the result back. -/
theorem iter_8 : itr (F := F) c 8 =
    .op ((cf (F := F) c).waitIn 1 (pt 7)) fun _ => callBody c (pt 7) (.op ((cf (F := F) c).startOut 2 (pt 7)) fun _ => .op ((cf (F := F) c).waitOut 2 (pt 7)) fun _ => goOn c 9) := by
  unfold itr Pipeline.Cfg.iter
  dsimp only
  rw [at_some c (u := 7) (d := 1) (by omega) rfl, at_none c (d := 0) (by omega), prologue_eq, at_some c (u := 7) (d := 1) (by omega) rfl,
    at_some c (u := 6) (d := 1 + 1) (by omega) (by omega), tripCount_eq, if_pos (by omega)]
  rw [late_n c _ _ 7 _ (by omega), all_n c _ _ 7 _ (by omega), out_7, outS_7, outD]

/-- Trip 9 does nothing more. -/
theorem iter_9 : itr (F := F) c 9 = .ret ⟨⟩ := by
  unfold itr Pipeline.Cfg.iter
  dsimp only
  rw [at_none c (d := 1) (by omega), at_none c (d := 0) (by omega), prologue_eq, at_none c (d := 1) (by omega),
    at_some c (u := 7) (d := 1 + 1) (by omega) (by omega), tripCount_eq, if_neg (by omega)]
  rw [outD]

end Cert.A2A

end

end
-- ==== Proof.Fetch.lean ====
/-
The pipeline's own copies: a block of the weights into one of its two staging buffers, the device's `x` into its
buffer, the result's buffer out to the array.
-/
module

public import proofs.«01_k».proof.Proof.Trips

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

open Idealize.ShloMosaic.Pipeline (kernel pipe entry)

local notation "𝔻" => defs (F := F)
local notation "𝕍" => Variants.lift 𝒱₀

/-- The whole weights, on any device. -/
abbrev WAll (F : FTy → Type) : Type := S4096x8192.Idx → Elt F .f32

variable (c : Dev nD) (w : WAll F)

/-- The share of the weights that fetches into buffer `s` read along. -/
def qs (s : Fin 2) : PosShare TreeShare := if s.val = 0 then fullShare.left else fullShare.right

abbrev mW : Memref sig .tc .hbm S4096x8192 .f32 := Memref.whole main_arg1
abbrev mX : Memref sig .tc .hbm S4096x128 .f32 := Memref.whole main_arg0
abbrev mO : Memref sig .tc .hbm S128x8192 .f32 := Memref.whole main_v10

/-- What stays whole while buffer `s` is not being filled. -/
def back (s : Fin 2) : sProp 𝕄 :=
  iprop((mW.view.loc (c : Thread nD τ) ↦{qs s} w) ∗ semVal ((c : Thread nD τ), .dma (sem0_1 s)) 0)

/-- Buffer `s` idle, holding anything. -/
def hold (s : Fin 2) : sProp 𝕄 := iprop((∃ f, wP (stage0_1 s) c f) ∗ back c w s)

abbrev wnd1 : Pipeline.Window sig grid0 := (cf (F := F) c).win (1 : Fin 3)
abbrev wnd0 : Pipeline.Window sig grid0 := (cf (F := F) c).win (0 : Fin 3)
abbrev wnd2 : Pipeline.Window sig grid0 := (cf (F := F) c).win (2 : Fin 3)

/-- The block of weights of grid point `u`. -/
def WB (u : Fin grid0.N) : WBuf F := ((wnd1 (F := F) c).blk u).view.read (Elt F) w

/-- Buffer `s` being filled with grid point `u`'s block. -/
def fly (s : Fin 2) (u : Fin grid0.N) : sProp 𝕄 :=
  iprop(∃ fd : (stage0_1 s).view.ty.Contents (Elt F), Transfers.Flight (countersEmb (Val := Elt F)) (c : Thread nD τ) (.dma (sem0_1 s)) () ((wnd1 (F := F) c).stg u s).view.dmaCredit
      iprop((((wnd1 (F := F) c).stg u s).view.loc (c : Thread nD τ) ↦[Finset.univ]{fullShare}
          (((wnd1 (F := F) c).stg u s).view.write (Elt F) fd (((wnd1 (F := F) c).blk u).view.read (Elt F) w) Finset.univ))
        ∗ (((wnd1 (F := F) c).blk u).view.loc (c : Thread nD τ) ↦[((wnd1 (F := F) c).blk u).view.set]{qs s} w))
    ∗ (mW.view.loc (c : Thread nD τ) ↦[Finset.univ \ ((wnd1 (F := F) c).blk u).view.set]{qs s} w))

/-- A part of a buffer taken out. -/
theorem carve {sp : Space} {s : Shape} {e : EltTy} (m : Memref sig .tc sp s e) (S : Finset (Idx (m.view.loc (c : Thread nD τ)))) (q : PosShare TreeShare) (f : Buf (Elt F) (m.view.loc (c : Thread nD τ))) :
    ((m.view.loc (c : Thread nD τ)) ↦{q} f : sProp 𝕄) ⊣⊢ iprop(((m.view.loc (c : Thread nD τ)) ↦[S]{q} f) ∗ ((m.view.loc (c : Thread nD τ)) ↦[Finset.univ \ S]{q} f)) := by
  have h := pointsTo_union (Ix := Unit) (Name := ℕ) (U := UU) (Lvl := ℕ) (ℓ := m.view.loc (c : Thread nD τ)) (q := q) (f := f) (Finset.disjoint_sdiff (s := S) (t := Finset.univ))
  rw [Finset.union_sdiff_of_subset (Finset.subset_univ S)] at h
  exact h

theorem start1 (bd : Option (𝕍).V) (u : Fin grid0.N) (s : Fin 2) (hs : (cf (F := F) c).slots u (1 : Fin 3) = s)
    {k : PUnit → PP F} {Q : PUnit → sProp 𝕄} :
    (hold c w s : sProp 𝕄) ⊢ iprop((fly c w s u -∗ wp frame (wpE 𝔻 𝕍 (c : Thread nD τ) bd) Set.univ (k ⟨⟩) Q)
      -∗ wp frame (wpE 𝔻 𝕍 (c : Thread nD τ) bd) Set.univ (.op ((cf (F := F) c).startIn (1 : Fin 3) u) k) Q) := by
  subst hs
  unfold hold back wP
  iintro ⟨⟨%fd, Hd⟩, Hw, Hv⟩ Hk
  ihave Hw := (carve c mW ((wnd1 (F := F) c).blk u).view.set _ w).1 $$ Hw
  icases Hw with ⟨Hs, Hr⟩
  have hg := (Transfers.wp_dmaLocal (countersEmb (Val := Elt F)) 𝕍 (c : Thread nD τ) bd (defs := 𝔻) (Q := Q) (k := k)
    (src := (wnd1 (F := F) c).blk u) (dst := (wnd1 (F := F) c).stg u ((cf (F := F) c).slots u (1 : Fin 3))) (via := .same)
    (sm := .dma (sem0_1 ((cf (F := F) c).slots u (1 : Fin 3)))) (hsrc := (wnd1 (F := F) c).wordExact_blk u) (hdst := (wnd1 (F := F) c).wordExact_stg u _) (hsem := ⟨Or.inl rfl, trivial⟩)
    (q := qs ((cf (F := F) c).slots u (1 : Fin 3))) (fs := w) (Sd := Finset.univ) (fd := fd)
    () _ rfl (View.dmaCredit_pos _ (by show 0 < S1024x4096.numel; decide)) (Finset.subset_univ _))
  ihave Hg := hg $$ [Hs Hd Hv]
  · isplitl [Hs]; · iexact Hs
    isplitl [Hd]; · iexact Hd
    iexact Hv
  iapply Hg
  iintro Hf
  iapply Hk
  unfold fly
  iexists fd
  isplitl [Hf] <;> iassumption

/-- A whole write through a leading slice, read back through the same rectangle. -/
theorem readAt_slice_write {sp : Space} {s : Shape} {e : EltTy} (m : Memref sig .tc sp s e) {off off' size : Fin s.rank → ℕ} (ho : off' = off)
    (h : ∀ a, off a + size a ≤ s.size a) (h' : ∀ a, off' a + size a ≤ s.size a)
    (fd : m.view.ty.Contents (Elt F)) (v : (Rect.unit off size h).shape.Idx → Elt F e) :
    m.view.readAt (Elt F) (Rect.unit off' size h').toLoadRect ((m.slice (Rect.unit off size h) fun _ => rfl).view.write (Elt F) fd v Finset.univ) = v := by
  subst ho
  funext x
  exact congrFun (View.read_write_univ (v := (m.slice (Rect.unit off' size h) fun _ => rfl).view) fd v) x

/-- What a filled buffer holds, as the body loads it. -/
theorem wV_filled (u : Fin grid0.N) (s : Fin 2) (fd : (stage0_1 s).view.ty.Contents (Elt F)) (v : WBuf F) :
    wV (stage0_1 s) (((wnd1 (F := F) c).stg u s).view.write (Elt F) fd v Finset.univ) = v :=
  readAt_slice_write (stage0_1 s) (off := fun _ => 0) (off' := ![0, 0]) (size := S1024x4096.size) (funext fun a => by match a with | ⟨0, _⟩ => rfl | ⟨1, _⟩ => rfl)
    (fun a => by rw [Nat.zero_add]) inb_S1024x4096_S1024x4096_0_0 fd v

theorem wait1 (bd : Option (𝕍).V) (u : Fin grid0.N) (s : Fin 2) (hs : (cf (F := F) c).slots u (1 : Fin 3) = s)
    (O : CellTallies nD τ sig Unit) (hO : Above 1 O) {k : PUnit → PP F} {Q : PUnit → sProp 𝕄} :
    iprop(fly c w s u ∗ ow c O ∗ levAts L lv) ⊢ iprop((((∃ fw, ⌜wV (stage0_1 s) fw = WB c w u⌝ ∗ wP (stage0_1 s) c fw) ∗ back c w s ∗ ow c O) -∗ wp frame (wpE 𝔻 𝕍 (c : Thread nD τ) bd) Set.univ (k ⟨⟩) Q)
      -∗ wp frame (wpE 𝔻 𝕍 (c : Thread nD τ) bd) Set.univ (.op ((cf (F := F) c).waitIn (1 : Fin 3) u) k) Q) := by
  subst hs
  unfold fly ow
  iintro ⟨⟨%fd, Hf, Hr⟩, ⟨%W, HO⟩, Hl⟩ Hk
  have hm : (levAts L lv : sProp 𝕄) ⊢ MayWait (c : Thread nD τ) (.dma (sem0_1 ((cf (F := F) c).slots u (1 : Fin 3)))) () O :=
    mayWait c _ O (by
      have : ∀ s : Fin 2, lv ((c : Thread nD τ), .dma (sem0_1 s)) () = 0 := by intro s; match s with | 0 => rfl | 1 => rfl
      rw [this]; exact hO)
  ihave Hm := hm $$ Hl
  have hg := Transfers.wp_waitLocalO (countersEmb (Val := Elt F)) 𝕍 (c : Thread nD τ) bd (defs := 𝔻) (Q := Q) (k := k)
    (srcw := (wnd1 (F := F) c).blk u) (dstw := (wnd1 (F := F) c).stg u ((cf (F := F) c).slots u (1 : Fin 3)))
    (sem := sem0_1 ((cf (F := F) c).slots u (1 : Fin 3))) (hsrc := (wnd1 (F := F) c).wordExact_blk u) (hdst := (wnd1 (F := F) c).wordExact_stg u _)
    (O := O) (W := W) (N := _) (D := iprop((((wnd1 (F := F) c).stg u ((cf (F := F) c).slots u (1 : Fin 3))).view.loc (c : Thread nD τ) ↦[Finset.univ]{fullShare}
          (((wnd1 (F := F) c).stg u ((cf (F := F) c).slots u (1 : Fin 3))).view.write (Elt F) fd (((wnd1 (F := F) c).blk u).view.read (Elt F) w) Finset.univ))
        ∗ (((wnd1 (F := F) c).blk u).view.loc (c : Thread nD τ) ↦[((wnd1 (F := F) c).blk u).view.set]{qs ((cf (F := F) c).slots u (1 : Fin 3))} w))) () rfl
  ihave Hg := hg $$ [Hf HO Hm]
  · isplitl [Hf]; · iexact Hf
    isplitl [HO] <;> iassumption
  iapply Hg
  iintro ⟨⟨Hd, Hs⟩, Hv, HO⟩
  iapply Hk
  unfold back
  isplitl [Hd]
  · iexists _
    isplitr
    · ipureintro
      exact wV_filled c u ((cf (F := F) c).slots u (1 : Fin 3)) fd _
    · unfold wP; iexact Hd
  isplitl [Hs Hr Hv]
  · isplitl [Hs Hr]
    · iapply (carve c mW ((wnd1 (F := F) c).blk u).view.set _ w).2
      isplitl [Hs] <;> iassumption
    · iexact Hv
  · iexists _; iexact HO

/-! ### The device's `x` in, the result out -/

/-- A whole buffer copied over a whole buffer through leading slices that cover them. -/
theorem write_slice_whole (b : Ref sig .tc) {off : Fin b.ty.shape.rank → ℕ} (ho : off = fun _ => 0) (h : ∀ a, off a + b.ty.shape.size a ≤ b.ty.shape.size a)
    (fd v : b.ty.Contents (Elt F)) :
    ((Memref.whole b : Memref sig .tc _ _ _).slice (Rect.unit off b.ty.shape.size h) fun _ => rfl).view.write (Elt F) fd v Finset.univ = v :=
  Memref.write_access_unit_zero_univ (Elt F) b ho h fd v

theorem read_slice_whole (b : Ref sig .tc) {off : Fin b.ty.shape.rank → ℕ} (ho : off = fun _ => 0) (h : ∀ a, off a + b.ty.shape.size a ≤ b.ty.shape.size a)
    (f : b.ty.Contents (Elt F)) :
    ((Memref.whole b : Memref sig .tc _ _ _).slice (Rect.unit off b.ty.shape.size h) fun _ => rfl).view.read (Elt F) f = f :=
  Memref.read_access_unit_zero (Elt F) b ho h f

theorem zero_off {n : ℕ} (f : Fin n → ℕ) : (fun a => (fun _ => 0 : Fin n → ℕ) a * f a) = fun _ => 0 := funext fun _ => Nat.zero_mul _

theorem off00 : (![0, 0] : Fin 2 → ℕ) = fun _ => 0 := by funext a; match a with | ⟨0, _⟩ => rfl | ⟨1, _⟩ => rfl

theorem offx (u : Fin grid0.N) : (fun a => (wnd0 (F := F) c).kind.off ((wnd0 (F := F) c).index u a) ((wnd0 (F := F) c).size a)) = fun _ => 0 := by
  funext a
  match a with
  | ⟨0, _⟩ => exact Nat.zero_mul _
  | ⟨1, _⟩ => exact Nat.zero_mul _

theorem offo (u : Fin grid0.N) : (fun a => (wnd2 (F := F) c).kind.off ((wnd2 (F := F) c).index u a) ((wnd2 (F := F) c).size a)) = fun _ => 0 := by
  funext a
  match a with
  | ⟨0, _⟩ => exact Nat.zero_mul _
  | ⟨1, _⟩ => exact Nat.zero_mul _

/-- What a whole write of `x` leaves in buffer `s` of `x`'s window. -/
def xIn (s : Fin 1) (x : XBuf F) : (stage0_0 s).view.ty.Contents (Elt F) := match s with | 0 => x
/-- The result as buffer `s` of its window holds it. -/
def oIn (s : Fin 1) (o : OBuf F) : (stage0_2 s).view.ty.Contents (Elt F) := match s with | 0 => o

theorem x_filled (u : Fin grid0.N) (s : Fin 1) (fd : (stage0_0 s).view.ty.Contents (Elt F)) (x : XBuf F) :
    ((wnd0 (F := F) c).stg u s).view.write (Elt F) fd (((wnd0 (F := F) c).blk u).view.read (Elt F) x) Finset.univ = xIn s x := by
  have h1 : ((wnd0 (F := F) c).blk u).view.read (Elt F) x = x := read_slice_whole main_arg0 (offx c u) _ x
  rw [h1]
  match s with
  | 0 => exact write_slice_whole cc0_stg0_0 (off := fun _ => 0) rfl (fun a => by rw [Nat.zero_add]) fd x

theorem o_filled (u : Fin grid0.N) (s : Fin 1) (fd o : OBuf F) :
    ((wnd2 (F := F) c).blk u).view.write (Elt F) fd (((wnd2 (F := F) c).stg u s).view.read (Elt F) (oIn s o)) Finset.univ = o := by
  have h1 : ((wnd2 (F := F) c).stg u s).view.read (Elt F) (oIn s o) = o := by
    match s with
    | 0 => exact read_slice_whole cc0_stg2_0 (off := fun _ => 0) rfl (fun a => by rw [Nat.zero_add]) o
  rw [h1]
  exact write_slice_whole main_v10 (offo c u) _ fd o

/-- `x` in its array, its buffer idle. -/
def holdX (s : Fin 1) (x : XBuf F) : sProp 𝕄 :=
  iprop((∃ f : (stage0_0 s).view.ty.Contents (Elt F), ((stage0_0 s).view.loc (c : Thread nD τ)) ↦{fullShare} f) ∗ (mX.view.loc (c : Thread nD τ) ↦{fullShare} x) ∗ semVal ((c : Thread nD τ), .dma (sem0_0 s)) 0)
/-- `x` in its buffer as well. -/
def gotX (s : Fin 1) (x : XBuf F) : sProp 𝕄 :=
  iprop((((stage0_0 s).view.loc (c : Thread nD τ)) ↦{fullShare} xIn s x) ∗ (mX.view.loc (c : Thread nD τ) ↦{fullShare} x) ∗ semVal ((c : Thread nD τ), .dma (sem0_0 s)) 0)
/-- `x` on its way. -/
def flyX (u : Fin grid0.N) (s : Fin 1) (x : XBuf F) : sProp 𝕄 :=
  iprop(∃ fd : (stage0_0 s).view.ty.Contents (Elt F), Transfers.Flight (countersEmb (Val := Elt F)) (c : Thread nD τ) (.dma (sem0_0 s)) () ((wnd0 (F := F) c).stg u s).view.dmaCredit
      iprop((((wnd0 (F := F) c).stg u s).view.loc (c : Thread nD τ) ↦[Finset.univ]{fullShare}
          (((wnd0 (F := F) c).stg u s).view.write (Elt F) fd (((wnd0 (F := F) c).blk u).view.read (Elt F) x) Finset.univ))
        ∗ (((wnd0 (F := F) c).blk u).view.loc (c : Thread nD τ) ↦[((wnd0 (F := F) c).blk u).view.set]{fullShare} x))
    ∗ (mX.view.loc (c : Thread nD τ) ↦[Finset.univ \ ((wnd0 (F := F) c).blk u).view.set]{fullShare} x))

theorem startX (bd : Option (𝕍).V) (u : Fin grid0.N) (x : XBuf F) (s : Fin 1) (hs : (cf (F := F) c).slots u (0 : Fin 3) = s) {k : PUnit → PP F} {Q : PUnit → sProp 𝕄} :
    (holdX c s x : sProp 𝕄) ⊢ iprop((flyX c u s x -∗ wp frame (wpE 𝔻 𝕍 (c : Thread nD τ) bd) Set.univ (k ⟨⟩) Q)
      -∗ wp frame (wpE 𝔻 𝕍 (c : Thread nD τ) bd) Set.univ (.op ((cf (F := F) c).startIn (0 : Fin 3) u) k) Q) := by
  subst hs
  unfold holdX flyX
  iintro ⟨⟨%fd, Hd⟩, Hw, Hv⟩ Hk
  ihave Hw := (carve c mX ((wnd0 (F := F) c).blk u).view.set _ x).1 $$ Hw
  icases Hw with ⟨Hs, Hr⟩
  have hg := (Transfers.wp_dmaLocal (countersEmb (Val := Elt F)) 𝕍 (c : Thread nD τ) bd (defs := 𝔻) (Q := Q) (k := k)
    (src := (wnd0 (F := F) c).blk u) (dst := (wnd0 (F := F) c).stg u ((cf (F := F) c).slots u (0 : Fin 3))) (via := .same)
    (sm := .dma (sem0_0 ((cf (F := F) c).slots u (0 : Fin 3)))) (hsrc := (wnd0 (F := F) c).wordExact_blk _) (hdst := (wnd0 (F := F) c).wordExact_stg _ _) (hsem := ⟨Or.inl rfl, trivial⟩)
    (q := fullShare) (fs := x) (Sd := Finset.univ) (fd := fd)
    () _ rfl (View.dmaCredit_pos _ (by show 0 < S4096x128.numel; decide)) (Finset.subset_univ _))
  ihave Hg := hg $$ [Hd Hs Hv]
  · isplitl [Hs]; · iexact Hs
    isplitl [Hd]; · iexact Hd
    iexact Hv
  iapply Hg
  iintro Hf
  iapply Hk
  iexists fd
  isplitl [Hf] <;> iassumption

theorem waitX (bd : Option (𝕍).V) (u : Fin grid0.N) (x : XBuf F) (s : Fin 1) (hs : (cf (F := F) c).slots u (0 : Fin 3) = s)
    (O : CellTallies nD τ sig Unit) (hO : Above 1 O) {k : PUnit → PP F} {Q : PUnit → sProp 𝕄} :
    iprop(flyX c u s x ∗ ow c O ∗ levAts L lv) ⊢ iprop(((gotX c s x ∗ ow c O) -∗ wp frame (wpE 𝔻 𝕍 (c : Thread nD τ) bd) Set.univ (k ⟨⟩) Q)
      -∗ wp frame (wpE 𝔻 𝕍 (c : Thread nD τ) bd) Set.univ (.op ((cf (F := F) c).waitIn (0 : Fin 3) u) k) Q) := by
  subst hs
  unfold flyX ow gotX
  iintro ⟨⟨%fd, Hf, Hr⟩, ⟨%W, HO⟩, Hl⟩ Hk
  have hm : (levAts L lv : sProp 𝕄) ⊢ MayWait (c : Thread nD τ) (.dma (sem0_0 ((cf (F := F) c).slots u (0 : Fin 3)))) () O :=
    mayWait c _ O (by
      have : ∀ s : Fin 1, lv ((c : Thread nD τ), .dma (sem0_0 s)) () = 0 := by intro s; match s with | 0 => rfl
      rw [this]; exact hO)
  ihave Hm := hm $$ Hl
  have hg := Transfers.wp_waitLocalO (countersEmb (Val := Elt F)) 𝕍 (c : Thread nD τ) bd (defs := 𝔻) (Q := Q) (k := k)
    (srcw := (wnd0 (F := F) c).blk u) (dstw := (wnd0 (F := F) c).stg u ((cf (F := F) c).slots u (0 : Fin 3)))
    (sem := sem0_0 ((cf (F := F) c).slots u (0 : Fin 3))) (hsrc := (wnd0 (F := F) c).wordExact_blk _) (hdst := (wnd0 (F := F) c).wordExact_stg _ _)
    (O := O) (W := W) (N := _) (D := iprop((((wnd0 (F := F) c).stg u ((cf (F := F) c).slots u (0 : Fin 3))).view.loc (c : Thread nD τ) ↦[Finset.univ]{fullShare}
          (((wnd0 (F := F) c).stg u ((cf (F := F) c).slots u (0 : Fin 3))).view.write (Elt F) fd (((wnd0 (F := F) c).blk u).view.read (Elt F) x) Finset.univ))
        ∗ (((wnd0 (F := F) c).blk u).view.loc (c : Thread nD τ) ↦[((wnd0 (F := F) c).blk u).view.set]{fullShare} x))) () rfl
  ihave Hg := hg $$ [Hf HO Hm]
  · isplitl [Hf]; · iexact Hf
    isplitl [HO] <;> iassumption
  iapply Hg
  iintro ⟨⟨Hd, Hs⟩, Hv, HO⟩
  iapply Hk
  isplitl [Hd Hs Hv Hr]
  · isplitl [Hd]
    · have e : ((wnd0 (F := F) c).stg u ((cf (F := F) c).slots u (0 : Fin 3))).view.write (Elt F) fd (((wnd0 (F := F) c).blk u).view.read (Elt F) x) Finset.univ = xIn ((cf (F := F) c).slots u (0 : Fin 3)) x := x_filled c u _ fd x
      iapply (Entails.of_eq (congrArg (fun f => ((((stage0_0 ((cf (F := F) c).slots u (0 : Fin 3))).view.loc (c : Thread nD τ)) ↦{fullShare} f : sProp 𝕄))) e)) $$ Hd
    isplitl [Hs Hr]
    · iapply (carve c mX ((wnd0 (F := F) c).blk u).view.set _ x).2
      isplitl [Hs] <;> iassumption
    iexact Hv
  iexists _; iexact HO

/-- The result in its buffer, the array holding anything. -/
def holdO (s : Fin 1) (o : OBuf F) : sProp 𝕄 :=
  iprop((((stage0_2 s).view.loc (c : Thread nD τ)) ↦{fullShare} oIn s o) ∗ (∃ f : OBuf F, mO.view.loc (c : Thread nD τ) ↦{fullShare} f) ∗ semVal ((c : Thread nD τ), .dma (sem0_2 s)) 0)
/-- The result in the array as well. -/
def gotO (s : Fin 1) (o : OBuf F) : sProp 𝕄 :=
  iprop((((stage0_2 s).view.loc (c : Thread nD τ)) ↦{fullShare} oIn s o) ∗ (mO.view.loc (c : Thread nD τ) ↦{fullShare} o) ∗ semVal ((c : Thread nD τ), .dma (sem0_2 s)) 0)

/-- The result written back: the array takes the buffer's contents. -/
theorem copyOut (bd : Option (𝕍).V) (u : Fin grid0.N) (o : OBuf F) (s : Fin 1) (hs : (cf (F := F) c).slots u (2 : Fin 3) = s) (O : CellTallies nD τ sig Unit) (hO : Above 1 O) {k : PUnit → PP F} {Q : PUnit → sProp 𝕄} :
    iprop(holdO c s o ∗ ow c O ∗ levAts L lv)
    ⊢ iprop(((gotO c s o ∗ ow c O) -∗ wp frame (wpE 𝔻 𝕍 (c : Thread nD τ) bd) Set.univ (k ⟨⟩) Q)
      -∗ wp frame (wpE 𝔻 𝕍 (c : Thread nD τ) bd) Set.univ (.op ((cf (F := F) c).startOut (2 : Fin 3) u) fun _ => .op ((cf (F := F) c).waitOut (2 : Fin 3) u) k) Q) := by
  subst hs
  unfold holdO gotO ow
  iintro ⟨⟨Ho, ⟨%fd, Hd⟩, Hv⟩, ⟨%W, HO⟩, Hl⟩ Hk
  ihave Ho := (carve c (stage0_2 ((cf (F := F) c).slots u (2 : Fin 3))) ((wnd2 (F := F) c).stg u ((cf (F := F) c).slots u (2 : Fin 3))).view.set _ (oIn ((cf (F := F) c).slots u (2 : Fin 3)) o)).1 $$ Ho
  icases Ho with ⟨Ho, Hr⟩
  have hg := (Transfers.wp_dmaLocal (countersEmb (Val := Elt F)) 𝕍 (c : Thread nD τ) bd (defs := 𝔻) (Q := Q) (k := fun _ => .op ((cf (F := F) c).waitOut (2 : Fin 3) u) k)
    (src := (wnd2 (F := F) c).stg u ((cf (F := F) c).slots u (2 : Fin 3))) (dst := (wnd2 (F := F) c).blk u) (via := .same)
    (sm := .dma (sem0_2 ((cf (F := F) c).slots u (2 : Fin 3)))) (hsrc := (wnd2 (F := F) c).wordExact_stg _ _) (hdst := (wnd2 (F := F) c).wordExact_blk _) (hsem := ⟨Or.inl rfl, trivial⟩)
    (q := fullShare) (fs := oIn ((cf (F := F) c).slots u (2 : Fin 3)) o) (Sd := Finset.univ) (fd := fd)
    () _ rfl (View.dmaCredit_pos _ (by show 0 < S128x8192.numel; decide)) (Finset.subset_univ _))
  ihave Hg := hg $$ [Ho Hd Hv]
  · isplitl [Ho]; · iexact Ho
    isplitl [Hd]; · iexact Hd
    iexact Hv
  iapply Hg
  iintro Hf
  have hm : (levAts L lv : sProp 𝕄) ⊢ MayWait (c : Thread nD τ) (.dma (sem0_2 ((cf (F := F) c).slots u (2 : Fin 3)))) () O :=
    mayWait c _ O (by
      have : ∀ s : Fin 1, lv ((c : Thread nD τ), .dma (sem0_2 s)) () = 0 := by intro s; match s with | 0 => rfl
      rw [this]; exact hO)
  ihave Hm := hm $$ Hl
  have hw := Transfers.wp_waitLocalO (countersEmb (Val := Elt F)) 𝕍 (c : Thread nD τ) bd (defs := 𝔻) (Q := Q) (k := k)
    (srcw := (wnd2 (F := F) c).stg u ((cf (F := F) c).slots u (2 : Fin 3))) (dstw := (wnd2 (F := F) c).blk u)
    (sem := sem0_2 ((cf (F := F) c).slots u (2 : Fin 3))) (hsrc := (wnd2 (F := F) c).wordExact_stg _ _) (hdst := (wnd2 (F := F) c).wordExact_blk _)
    (O := O) (W := W) (N := _) (D := iprop((((wnd2 (F := F) c).blk u).view.loc (c : Thread nD τ) ↦[Finset.univ]{fullShare}
          (((wnd2 (F := F) c).blk u).view.write (Elt F) fd (((wnd2 (F := F) c).stg u ((cf (F := F) c).slots u (2 : Fin 3))).view.read (Elt F) (oIn ((cf (F := F) c).slots u (2 : Fin 3)) o)) Finset.univ))
        ∗ (((wnd2 (F := F) c).stg u ((cf (F := F) c).slots u (2 : Fin 3))).view.loc (c : Thread nD τ) ↦[((wnd2 (F := F) c).stg u ((cf (F := F) c).slots u (2 : Fin 3))).view.set]{fullShare} (oIn ((cf (F := F) c).slots u (2 : Fin 3)) o)))) () rfl
  ihave Hg := hw $$ [Hf HO Hm]
  · isplitl [Hf]; · iexact Hf
    isplitl [HO] <;> iassumption
  iapply Hg
  iintro ⟨⟨Hd, Hs⟩, Hv, HO⟩
  iapply Hk
  isplitl [Hs Hd Hv Hr]
  · isplitl [Hs Hr]
    · iapply (carve c (stage0_2 ((cf (F := F) c).slots u (2 : Fin 3))) ((wnd2 (F := F) c).stg u ((cf (F := F) c).slots u (2 : Fin 3))).view.set _ (oIn ((cf (F := F) c).slots u (2 : Fin 3)) o)).2
      isplitl [Hs] <;> iassumption
    isplitl [Hd]
    · have e : ((wnd2 (F := F) c).blk u).view.write (Elt F) fd (((wnd2 (F := F) c).stg u ((cf (F := F) c).slots u (2 : Fin 3))).view.read (Elt F) (oIn ((cf (F := F) c).slots u (2 : Fin 3)) o)) Finset.univ = o := o_filled c u _ fd o
      iapply (Entails.of_eq (congrArg (fun f => (mO.view.loc (c : Thread nD τ) ↦{fullShare} f : sProp 𝕄)) e)) $$ Hd
    iexact Hv
  iexists _; iexact HO

end Cert.A2A

end

end
-- ==== Proof.Chain.lean ====
/-
The pipeline's trips one after another: from a step of the body at every grid point to the whole loop.
-/
module

public import proofs.«01_k».proof.Proof.Fetch

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

open Idealize.ShloMosaic.Pipeline (kernel pipe entry)

local notation "𝔻" => defs (F := F)
local notation "𝕍" => Variants.lift 𝒱₀

variable (c : Dev nD) (w : WAll F)

/-- The body as the pipeline calls it at point `t` with the buffers `σ`. -/
theorem body_eq (t : Fin grid0.N) (σ : (w : Fin 3) → Fin (spec0 w).nbuf) :
    defs₀ (F := F) .tc (0 : Fin 1) (t, σ) = BD (grid0.coords t) (stage0_1 (σ (1 : Fin 3))) (hstage0_1 ((σ (1 : Fin 3)).cast nbuf0_1)) := by
  have key : ∀ (a : Fin 1) (ha : (stage0_0 a).IsWhole) (d : Fin 1) (hd : (stage0_2 d).IsWhole) (b : Fin 2) (hb : (stage0_1 b).IsWhole),
      cc0_body (F := F) (grid0.coords t) tb (Memref.isWhole_whole _) (stage0_0 a) ha (stage0_1 b) hb (stage0_2 d) hd rM (Memref.isWhole_whole _)
        aM (Memref.isWhole_whole _) yM (Memref.isWhole_whole _) tM (Memref.isWhole_whole _) bM (Memref.isWhole_whole _)
        cc0_scratch5 cc0_scratch6 cc0_scratch7 cc0_scratch8 = BD (grid0.coords t) (stage0_1 b) hb := by
    intro a ha d hd b hb
    match a, d with
    | 0, 0 => rfl
  exact key _ _ _ _ _ _

theorem callB (n : ℕ) (u : Fin grid0.N) (X Y : sProp 𝕄) (s : Fin 2) (hs : (cf (F := F) c).slots u (1 : Fin 3) = s)
    (hb : X ⊢ wp frame (wpE (defs₀ (F := F)) 𝒱₀ (c : Thread nD τ) none) Set.univ (BD (grid0.coords u) (stage0_1 s) (hstage0_1 (s.cast nbuf0_1))) fun _ => Y)
    (k : PP F) (Q : PUnit → sProp 𝕄) :
    X ⊢ iprop((Y -∗ wp frame (wpE 𝔻 𝕍 (c : Thread nD τ) (some (.inr n))) Set.univ k Q)
      -∗ wp frame (wpE 𝔻 𝕍 (c : Thread nD τ) (some (.inr n))) Set.univ (callBody c u k) Q) := by
  subst hs
  iintro H Hk
  iapply (wp_call 𝕍 (c : Thread nD τ) (some (.inr n)) Set.univ (defs := 𝔻) (Q := Q) (ℓ := kernel (cf (F := F) c).body)
    (a := (cf (F := F) c).bodyArgs u ((cf (F := F) c).slots u)) (k := fun _ => k) (Sum.inl none) (fun v hv => by cases hv; exact Sum.Lex.sep _ _))
  have e : 𝔻 .tc (kernel (cf (F := F) c).body) ((cf (F := F) c).bodyArgs u ((cf (F := F) c).slots u))
      = Pipeline.liftProg (BD (grid0.coords u) (stage0_1 ((cf (F := F) c).slots u (1 : Fin 3))) (hstage0_1 (((cf (F := F) c).slots u (1 : Fin 3)).cast nbuf0_1))) :=
    (Pipeline.defs_kernel pcfgs defs₀ .tc (0 : Fin 1) (u, (cf (F := F) c).slots u)).trans (congrArg _ (body_eq u ((cf (F := F) c).slots u)))
  have e' := hb.trans (Pipeline.wp_liftProg 𝔻 (Pipeline.defs_kernel pcfgs defs₀) 𝒱₀ (c : Thread nD τ) Set.univ none _ _)
  rw [← e] at e'
  iapply (wp_wand_r frame _ Set.univ)
  isplitl [H]
  · iapply e' $$ H
  · iintro %r HY
    iapply Hk $$ HY

theorem goOn_wp (l : ℕ) (hl : l < 10) (X Z : sProp 𝕄)
    (h : X ⊢ wp frame (wpE 𝔻 𝕍 (c : Thread nD τ) (some (.inr (10 - (l + 1))))) Set.univ (itr c (l + 1)) fun _ => Z) :
    X ⊢ wp frame (wpE 𝔻 𝕍 (c : Thread nD τ) (some (.inr (10 - l)))) Set.univ (goOn c (l + 1)) fun _ => Z := by
  iintro H
  iapply (wp_call 𝕍 (c : Thread nD τ) (some (.inr (10 - l))) Set.univ (defs := 𝔻) (Q := fun _ => Z) (ℓ := pipe (0 : Fin 1))
    (a := (adm c, l + 1)) (k := fun _ => .ret ⟨⟩) (Sum.inr (10 - (l + 1))) (fun v hv => by cases hv; exact Sum.Lex.inr (by omega)))
  iapply (wp_wand_r frame _ Set.univ)
  isplitl [H]
  · iapply h $$ H
  · iintro %r HZ
    rw [wp_ret]
    imodintro
    iexact HZ

/-- The weights' buffer of grid point `u`. -/
abbrev sl (u : ℕ) (h : u < 8 := by omega) : Fin 2 := (cf (F := F) c).slots (pt u h) (1 : Fin 3)

theorem sl_val (u : ℕ) (h : u < 8) : (sl (F := F) c u h).val = u % 2 := slot1 c u _ h
theorem sl_two (u : ℕ) (h : u + 2 < 8) : sl (F := F) c (u + 2) h = sl (F := F) c u (by omega) :=
  Fin.ext (by rw [sl_val, sl_val]; omega)
theorem sl_zero : sl (F := F) c 0 (by decide) = (0 : Fin 2) := Fin.ext (sl_val c 0 _)
theorem sl_one : sl (F := F) c 1 (by decide) = (1 : Fin 2) := Fin.ext (sl_val c 1 _)

/-- One step of the body at every grid point: from `PS u` to `PS (u + 1)`. -/
def BodySteps (PS : ℕ → sProp 𝕄) (O : ℕ → CellTallies nD τ sig Unit) : Prop :=
  ∀ (u : ℕ) (h : u < 8) (s : Fin 2) (fw : (stage0_1 s).view.ty.Contents (Elt F)), wV (stage0_1 s) fw = WB c w (pt u h) →
    iprop(PS u ∗ ow c (O u) ∗ wP (stage0_1 s) c fw)
      ⊢ wp frame (wpE (defs₀ (F := F)) 𝒱₀ (c : Thread nD τ) none) Set.univ (BD (grid0.coords (pt u h)) (stage0_1 s) (hstage0_1 (s.cast nbuf0_1)))
          fun _ => iprop(PS (u + 1) ∗ ow c (O (u + 1)) ∗ wP (stage0_1 s) c fw)

/-- Waiting for point `u`'s weights and running the body on them. -/
theorem waitBody {PS : ℕ → sProp 𝕄} {O : ℕ → CellTallies nD τ sig Unit} (hb : BodySteps c w PS O) (hO : ∀ u, Above 1 (O u)) (u : ℕ) (h : u < 8) (n : ℕ) (k : PP F) (Q : PUnit → sProp 𝕄) :
    iprop(fly c w (sl (F := F) c u h) (pt u h) ∗ PS u ∗ ow c (O u) ∗ levAts L lv)
    ⊢ iprop(((hold c w (sl (F := F) c u h) ∗ PS (u + 1) ∗ ow c (O (u + 1)) ∗ levAts L lv) -∗ wp frame (wpE 𝔻 𝕍 (c : Thread nD τ) (some (.inr n))) Set.univ k Q)
      -∗ wp frame (wpE 𝔻 𝕍 (c : Thread nD τ) (some (.inr n))) Set.univ (.op ((cf (F := F) c).waitIn (1 : Fin 3) (pt u h)) fun _ => callBody c (pt u h) k) Q) := by
  iintro ⟨Hf, HP, HO, #Hl⟩ Hk
  iapply (wait1 c w (some (.inr n)) (pt u h) (sl (F := F) c u h) rfl (O u) (hO u) (k := fun _ => callBody c (pt u h) k) (Q := Q)) $$ [Hf HO]
  · isplitl [Hf]; · iexact Hf
    isplitl [HO]; · iexact HO
    iexact Hl
  iintro ⟨⟨%fw, %hfw, Hw⟩, Hb, HO⟩
  have hc := callB c n (pt u h) _ _ (sl (F := F) c u h) rfl (hb u h _ fw hfw) k Q
  ihave Hc := hc $$ [HP HO Hw]
  · isplitl [HP]; · iexact HP
    isplitl [HO] <;> iassumption
  iapply Hc
  iintro ⟨HP, HO, Hw⟩
  iapply Hk
  isplitl [Hw Hb]
  · unfold hold
    isplitl [Hw]
    · iexists fw; iexact Hw
    · iexact Hb
  isplitl [HP]; · iexact HP
  isplitl [HO]; · iexact HO
  iexact Hl

theorem tripEnd (Z : sProp 𝕄) : Z ⊢ wp frame (wpE 𝔻 𝕍 (c : Thread nD τ) (some (.inr (10 - 9)))) Set.univ (itr c 9) fun _ => Z := by
  rw [iter_9, wp_ret]
  iintro H; imodintro; iexact H

/-- What the loop ends with. -/
def Fin9 (O : ℕ → CellTallies nD τ sig Unit) (P8 : sProp 𝕄) (o : OBuf F) : sProp 𝕄 :=
  iprop(hold c w (0 : Fin 2) ∗ hold c w (1 : Fin 2) ∗ gotO c (0 : Fin 1) o ∗ P8 ∗ ow c (O 8))

theorem tripLast {PS : ℕ → sProp 𝕄} {O : ℕ → CellTallies nD τ sig Unit} (hb : BodySteps c w PS O) (hO : ∀ u, Above 1 (O u)) (P8 : sProp 𝕄) (o : OBuf F) (ho : PS 8 ⊢ iprop(holdO c (0 : Fin 1) o ∗ P8)) :
    iprop(fly c w (sl (F := F) c 7) (pt 7) ∗ hold c w (sl (F := F) c 6) ∗ PS 7 ∗ ow c (O 7) ∗ levAts L lv)
      ⊢ wp frame (wpE 𝔻 𝕍 (c : Thread nD τ) (some (.inr (10 - 8)))) Set.univ (itr c 8) fun _ => Fin9 c w O P8 o := by
  have q7 : (7 : ℕ) < 8 := by omega
  rw [iter_8]
  iintro ⟨Hf, Hh, HP, HO, #Hl⟩
  iapply (waitBody c w hb hO 7 q7 (10 - 8) _ _) $$ [Hf HP HO]
  · isplitl [Hf]; · iexact Hf
    isplitl [HP]; · iexact HP
    isplitl [HO]; · iexact HO
    iexact Hl
  iintro ⟨Hh', HP, HO, -⟩
  ihave HP := ho $$ HP
  icases HP with ⟨Ho, HP⟩
  have hs2 : (cf (F := F) c).slots (pt 7) (2 : Fin 3) = (0 : Fin 1) := Subsingleton.elim (α := Fin 1) _ _
  iapply (copyOut c (some (.inr (10 - 8))) (pt 7 q7) o (0 : Fin 1) hs2 (O 8) (hO 8) (k := fun _ => goOn c 9)) $$ [Ho HO]
  · isplitl [Ho]; · iexact Ho
    isplitl [HO]; · iexact HO
    iexact Hl
  iintro ⟨Ho, HO⟩
  iapply (goOn_wp c 8 (by omega) _ _ (tripEnd c _))
  have e1 : sl (F := F) c 7 = (1 : Fin 2) := Fin.ext (sl_val c 7 _)
  have e0 : sl (F := F) c 6 = (0 : Fin 2) := Fin.ext (sl_val c 6 _)
  rw [e1, e0]
  unfold Fin9
  isplitl [Hh]; · iexact Hh
  isplitl [Hh']; · iexact Hh'
  isplitl [Ho]; · iexact Ho
  isplitl [HP] <;> iassumption

/-- A trip between. -/
theorem tripMid {PS : ℕ → sProp 𝕄} {O : ℕ → CellTallies nD τ sig Unit} (hb : BodySteps c w PS O) (hO : ∀ u, Above 1 (O u)) (u : ℕ) (h1 : 1 ≤ u) (h7 : u < 7) (Z : sProp 𝕄)
    (hn : iprop(fly c w (sl (F := F) c (u + 1) (by omega)) (pt (u + 1) (by omega)) ∗ hold c w (sl (F := F) c u (by omega)) ∗ PS (u + 1) ∗ ow c (O (u + 1)) ∗ levAts L lv)
      ⊢ wp frame (wpE 𝔻 𝕍 (c : Thread nD τ) (some (.inr (10 - (u + 2))))) Set.univ (itr c (u + 2)) fun _ => Z) :
    iprop(fly c w (sl (F := F) c u (by omega)) (pt u (by omega)) ∗ hold c w (sl (F := F) c (u + 1) (by omega)) ∗ PS u ∗ ow c (O u) ∗ levAts L lv)
      ⊢ wp frame (wpE 𝔻 𝕍 (c : Thread nD τ) (some (.inr (10 - (u + 1))))) Set.univ (itr c (u + 1)) fun _ => Z := by
  have q0 : u < 8 := by omega
  have q1 : u + 1 < 8 := by omega
  rw [iter_mid c u h1 h7]
  iintro ⟨Hf, Hh, HP, HO, #Hl⟩
  iapply (start1 c w (some (.inr (10 - (u + 1)))) (pt (u + 1) q1) _ rfl) $$ Hh
  iintro Hn
  iapply (waitBody c w hb hO u q0 (10 - (u + 1)) _ _) $$ [Hf HP HO]
  · isplitl [Hf]; · iexact Hf
    isplitl [HP]; · iexact HP
    isplitl [HO]; · iexact HO
    iexact Hl
  iintro ⟨Hh, HP, HO, -⟩
  iapply (goOn_wp c (u + 1) (by omega) _ _ hn)
  isplitl [Hn]; · iexact Hn
  isplitl [Hh]; · iexact Hh
  isplitl [HP]; · iexact HP
  isplitl [HO]; · iexact HO
  iexact Hl

theorem tripOne {PS : ℕ → sProp 𝕄} {O : ℕ → CellTallies nD τ sig Unit} (hb : BodySteps c w PS O) (hO : ∀ u, Above 1 (O u)) (x : XBuf F) (P0 Z : sProp 𝕄) (hx : iprop(gotX c (0 : Fin 1) x ∗ P0) ⊢ PS 0)
    (hn : iprop(fly c w (sl (F := F) c 1) (pt 1) ∗ hold c w (sl (F := F) c 0) ∗ PS 1 ∗ ow c (O 1) ∗ levAts L lv)
      ⊢ wp frame (wpE 𝔻 𝕍 (c : Thread nD τ) (some (.inr (10 - 2)))) Set.univ (itr c 2) fun _ => Z) :
    iprop(fly c w (sl (F := F) c 0) (pt 0) ∗ hold c w (sl (F := F) c 1) ∗ holdX c (0 : Fin 1) x ∗ P0 ∗ ow c (O 0) ∗ levAts L lv)
      ⊢ wp frame (wpE 𝔻 𝕍 (c : Thread nD τ) (some (.inr (10 - 1)))) Set.univ (itr c 1) fun _ => Z := by
  have q0 : (0 : ℕ) < 8 := by omega
  have q1 : (1 : ℕ) < 8 := by omega
  rw [iter_1]
  have hs0 : (cf (F := F) c).slots (pt 0) (0 : Fin 3) = (0 : Fin 1) := Subsingleton.elim (α := Fin 1) _ _
  iintro ⟨Hf, Hh, HX, HP, HO, #Hl⟩
  iapply (startX c (some (.inr (10 - 1))) (pt 0 q0) x (0 : Fin 1) hs0) $$ HX
  iintro HX
  iapply (start1 c w (some (.inr (10 - 1))) (pt 1 q1) _ rfl) $$ Hh
  iintro Hn
  iapply (waitX c (some (.inr (10 - 1))) (pt 0 q0) x (0 : Fin 1) hs0 (O 0) (hO 0)) $$ [HX HO]
  · isplitl [HX]; · iexact HX
    isplitl [HO]; · iexact HO
    iexact Hl
  iintro ⟨HX, HO⟩
  iapply (waitBody c w hb hO 0 q0 (10 - 1) _ _) $$ [Hf HX HP HO]
  · isplitl [Hf]; · iexact Hf
    isplitl [HX HP]
    · iapply hx
      isplitl [HX] <;> iassumption
    isplitl [HO]; · iexact HO
    iexact Hl
  iintro ⟨Hh, HP, HO, -⟩
  iapply (goOn_wp c 1 (by omega) _ _ hn)
  isplitl [Hn]; · iexact Hn
  isplitl [Hh]; · iexact Hh
  isplitl [HP]; · iexact HP
  isplitl [HO]; · iexact HO
  iexact Hl

/-- The whole loop. -/
theorem loop {PS : ℕ → sProp 𝕄} {O : ℕ → CellTallies nD τ sig Unit} (hb : BodySteps c w PS O) (hO : ∀ u, Above 1 (O u)) (x : XBuf F) (o : OBuf F) (P0 P8 : sProp 𝕄)
    (hx : iprop(gotX c (0 : Fin 1) x ∗ P0) ⊢ PS 0) (ho : PS 8 ⊢ iprop(holdO c (0 : Fin 1) o ∗ P8)) :
    iprop(hold c w (0 : Fin 2) ∗ hold c w (1 : Fin 2) ∗ holdX c (0 : Fin 1) x ∗ P0 ∗ ow c (O 0) ∗ levAts L lv)
      ⊢ wp frame (wpE 𝔻 𝕍 (c : Thread nD τ) (some (.inr 10))) Set.univ (itr c 0) fun _ => Fin9 c w O P8 o := by
  have t8 := tripLast c w hb hO P8 o ho
  have t7 := tripMid c w hb hO 6 (by omega) (by omega) _ t8
  have t6 := tripMid c w hb hO 5 (by omega) (by omega) _ (by rw [← sl_two c 5 (by omega)]; exact t7)
  have t5 := tripMid c w hb hO 4 (by omega) (by omega) _ (by rw [← sl_two c 4 (by omega)]; exact t6)
  have t4 := tripMid c w hb hO 3 (by omega) (by omega) _ (by rw [← sl_two c 3 (by omega)]; exact t5)
  have t3 := tripMid c w hb hO 2 (by omega) (by omega) _ (by rw [← sl_two c 2 (by omega)]; exact t4)
  have t2 := tripMid c w hb hO 1 (by omega) (by omega) _ (by rw [← sl_two c 1 (by omega)]; exact t3)
  have t1 := tripOne c w hb hO x P0 _ hx (by rw [← sl_two c 0 (by omega)]; exact t2)
  have q0 : (0 : ℕ) < 8 := by omega
  rw [iter_0]
  iintro ⟨H0, H1, HX, HP, HO, #Hl⟩
  iapply (start1 c w (some (.inr 10)) (pt 0 q0) (0 : Fin 2) (sl_zero c)) $$ H0
  iintro Hn
  iapply (goOn_wp c 0 (by omega) _ _ t1)
  rw [sl_zero, sl_one]
  isplitl [Hn]; · iexact Hn
  isplitl [H1]; · iexact H1
  isplitl [HX]; · iexact HX
  isplitl [HP]; · iexact HP
  isplitl [HO]; · iexact HO
  iexact Hl

end Cert.A2A

end

end
-- ==== Proof.Points.lean ====
/-
What a device has before every grid point, and the body's step from each point to the next.
-/
module

public import proofs.«01_k».proof.Proof.Chain

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

/-! ## Quarters and lanes name every device once -/

theorem quarter_lane_inj (c : Dev nD) : Function.Injective fun p : Fin 4 × Fin 8 => lane (quarter c p.1) p.2 := by
  rintro ⟨k, l⟩ ⟨k', l'⟩ h
  have h' : 8 * ((c.val / 8 + k.val) % 4) + l.val = 8 * ((c.val / 8 + k'.val) % 4) + l'.val := congrArg Fin.val h
  have hl := l.isLt; have hl' := l'.isLt; have hk := k.isLt; have hk' := k'.isLt
  have e1 : k = k' := Fin.ext (by omega)
  have e2 : l = l' := Fin.ext (by omega)
  rw [e1, e2]

/-- The quarters in a device's order, and their lanes. -/
def laneEquiv (c : Dev nD) : Fin 4 × Fin 8 ≃ Dev nD :=
  Equiv.ofBijective (fun p : Fin 4 × Fin 8 => lane (quarter c p.1) p.2)
    ((Fintype.bijective_iff_injective_and_card _).mpr ⟨quarter_lane_inj c, rfl⟩)

omit [FloatOps F] in
theorem by_quarter (c : Dev nD) (Φ : Dev nD → sProp 𝕄) :
    bigSep Finset.univ Φ = bigSep Finset.univ fun k : Fin 4 => bigSep Finset.univ fun l : Fin 8 => Φ (lane (quarter c k) l) := by
  rw [bigSep_univ_equiv (laneEquiv c) Φ, bigSep_univ_prod]
  rfl

/-! ## The accumulator -/

/-- The block of weights of grid point `u`. -/
def wbk (w : WAll F) (c : Dev nD) (u : ℕ) : WBuf F := WB c w (pt (u % 8) (Nat.mod_lt _ (by decide)))
theorem wbk_of (w : WAll F) (c : Dev nD) (u : ℕ) (h : u < 8) : wbk w c u = WB c w (pt u h) :=
  congrArg (WB c w) (Fin.ext (Nat.mod_eq_of_lt h))

/-- The quarter of pass `k`. -/
def qk (c : Dev nD) (k : ℕ) : Fin 4 := quarter c ⟨k % 4, Nat.mod_lt _ (by decide)⟩

/-- Half `n` of device `c`'s accumulator after pass `k`. -/
def acc (w : WAll F) (c : Dev nD) (n : ℕ) : ℕ → YHalf F
  | 0 => k0_pay3 (AS xs c (qk c 0)) (wbk w c n)
  | k + 1 => k0_pay4 (AS xs c (qk c (k + 1))) (wbk w c (2 * (k + 1) + n)) (acc w c n k)

theorem acc_step (w : WAll F) (c : Dev nD) (n k : ℕ) (kk : Fin 4) (hk : kk.val = k) (old : YHalf F) (ho : 0 < k → old = acc xs w c n (k - 1)) :
    yStep kk (AS xs c (qk c k)) (wbk w c (2 * k + n)) old = acc xs w c n k := by
  unfold yStep
  cases k with
  | zero => rw [if_pos hk]; show k0_pay3 _ (wbk w c (2 * 0 + n)) = k0_pay3 _ _; rw [Nat.mul_zero, Nat.zero_add]
  | succ k => rw [if_neg (by omega), ho (Nat.succ_pos k)]; rfl

/-- The accumulator at the end. -/
def yFin (w : WAll F) (c : Dev nD) : YBuf F := yB (acc xs w c 0 3) (acc xs w c 1 3)
/-- The maxima of every device's accumulator. -/
def txOf (ws : Dev nD → WAll F) (c : Dev nD) : TBuf F := k0_pay12 (yFin xs (ws c) c)
/-- The result of device `c`. -/
def outOf (ws : Dev nD → WAll F) (c : Dev nD) : OBuf F := outB (yFin xs (ws c) c) (AB (txOf xs ws) c)

/-! ## The first part of the body with more around -/

section
variable (i : grid0.Coords) (arg4 : Memref sig .tc .vmem S1024x4096 .f32) (h4 : arg4.IsWhole) (c : Dev nD)

theorem head_mono (s : Fin 4) {X X₁ X₁' X' : sProp 𝕄} (h : HeadSpec (F := F) i arg4 h4 c s X₁ X₁') (h1 : X ⊢ X₁) (h2 : X₁' ⊢ X') :
    HeadSpec (F := F) i arg4 h4 c s X X' := by
  intro β kk Q
  refine BIBase.Entails.trans ?_ (h kk Q)
  iintro ⟨HX, Hk⟩
  isplitl [HX]; · iapply h1 $$ HX
  iintro %v19 %v29 %hw HX'
  iapply Hk
  iapply h2 $$ HX'
end

/-! ## The states -/

/-- The receive positions of the device, before anything is awaited. -/
def famE (c : Dev nD) : sProp 𝕄 := bigSep (Finset.univ.erase c) fun j => iprop(atPos EB (cel 1 c j) 0 ∅ 0 ∗ cred (tallyAt (cel 1 c j) () NX))
/-- Every pass's blocks before point `u`. -/
def blocks (c : Dev nD) (u : ℕ) : sProp 𝕄 := bigSep Finset.univ fun k : Fin 4 => if 2 * k.val < u then dq (F := F) c (quarter c k) else pq (F := F) c (quarter c k)

/-- The blocks of the other passes. -/
def others (c : Dev nD) (u : ℕ) (k : Fin 4) : sProp 𝕄 :=
  bigSep (Finset.univ.erase k) fun k : Fin 4 => if 2 * k.val < u then dq (F := F) c (quarter c k) else pq (F := F) c (quarter c k)

theorem blocks_pend (c : Dev nD) (k : Fin 4) : blocks (F := F) c (2 * k.val) = iprop(pq c (quarter c k) ∗ others c (2 * k.val) k) := by
  unfold blocks others
  rw [bigSep_univ_at _ k, if_neg (Nat.lt_irrefl _)]
theorem blocks_done (c : Dev nD) (k : Fin 4) : blocks (F := F) c (2 * k.val + 1) = iprop(dq c (quarter c k) ∗ others c (2 * k.val) k) := by
  unfold blocks others
  rw [bigSep_univ_at _ k, if_pos (Nat.lt_succ_self _)]
  refine congrArg (fun X => iprop(dq c (quarter c k) ∗ X)) (bigSep_congr fun j hj => ?_)
  have hne : j.val ≠ k.val := fun e => (Finset.mem_erase.mp hj).1 (Fin.ext e)
  by_cases h : 2 * j.val < 2 * k.val
  · rw [if_pos h, if_pos (by omega)]
  · rw [if_neg h, if_neg (by omega)]
theorem blocks_even (c : Dev nD) (k : ℕ) : blocks (F := F) c (2 * k + 1) = blocks c (2 * k + 2) := by
  unfold blocks
  refine bigSep_congr fun j _ => ?_
  by_cases h : 2 * j.val < 2 * k + 1
  · rw [if_pos h, if_pos (by omega)]
  · rw [if_neg h, if_neg (by omega)]

theorem blocks_zero (c : Dev nD) : blocks (F := F) c 0 = iprop((∃ f, rPts (F := F) c c f) ∗ famE c) := by
  unfold blocks famE
  have h := cs_split (F := F) c iprop(∃ f, rPts (F := F) c c f) fun j => iprop(atPos EB (cel 1 c j) 0 ∅ 0 ∗ cred (tallyAt (cel 1 c j) () NX))
  rw [← h]
  refine Eq.trans (bigSep_congr fun k _ => if_neg (Nat.not_lt_zero _)) ?_
  exact (by_quarter c fun j => pend (F := F) c j).symm

theorem blocks_seven (c : Dev nD) : blocks (F := F) c 7 = iprop((bigSep Finset.univ fun j => iprop(∃ f, rPts (F := F) c j f)) ∗ bigSep Finset.univ fun j => rest (F := F) c j) := by
  unfold blocks
  refine Eq.trans (bigSep_congr (Ψ := fun k : Fin 4 => dq (F := F) c (quarter c k)) fun k _ => if_pos (by have := k.isLt; omega)) ?_
  unfold dq
  rw [bsep, by_quarter c fun j => iprop(∃ f, rPts (F := F) c j f), by_quarter c fun j => rest (F := F) c j]

/-- What stays with the device from the first point to the last. -/
def core (R : sProp 𝕄) (c : Dev nD) : sProp 𝕄 :=
  iprop(R ∗ atPos EB (bar c) 1 ∅ 0 ∗ famS (F := F) c ∗ bPts c c (k0_pay15 (F := F)) ∗ famT (F := F) c ∗ famP (F := F) c ∗ famQ (F := F) c
    ∗ (∃ f : TBuf F, (tM.view.loc (c : Thread nD τ)) ↦{fullShare} f) ∗ ∃ f, oP (F := F) c f)

/-- Before the first point. -/
def first0 (R : sProp 𝕄) (c : Dev nD) : sProp 𝕄 :=
  iprop(R ∗ (bigSep Finset.univ (pre1 (F := F) c) ∗ atPos EB (bar c) 0 ∅ 0 ∗ cred (tallyAt (bar c) () 31)
    ∗ (bigSep (Finset.univ.erase c) fun j => iprop(dutyTok EB (cel 0 c j) 0 j ∗ reached EB (cel 0 c j) 0 ∗ dutyTok EB (cel 1 j c) 0 c))
    ∗ ((xM.view.loc (c : Thread nD τ)) ↦{fullShare} xs c) ∗ (∃ f : BBuf F, (bM.view.loc (c : Thread nD τ)) ↦{fullShare} f))
    ∗ famE (F := F) c ∗ famT (F := F) c ∗ famP (F := F) c ∗ famQ (F := F) c
    ∗ (∃ f : TBuf F, (tM.view.loc (c : Thread nD τ)) ↦{fullShare} f) ∗ (∃ f, oP (F := F) c f) ∗ (∃ f, aP (F := F) c f) ∗ ∃ f, yP (F := F) c f)

/-- The staged row before point `u`. -/
def stg (c : Dev nD) (u : ℕ) : sProp 𝕄 := if u % 2 = 1 then aP c (AS xs c (qk c (u / 2))) else iprop(∃ f, aP (F := F) c f)
/-- The accumulator before point `u`. -/
def accP (w : WAll F) (c : Dev nD) (u : ℕ) : sProp 𝕄 :=
  iprop(∃ a b : YHalf F, ⌜(0 < u → a = acc xs w c 0 ((u - 1) / 2)) ∧ (1 < u → b = acc xs w c 1 ((u - 2) / 2))⌝ ∗ yP c (yB a b))

/-- Between the first point and the last. -/
def mid (R : sProp 𝕄) (w : WAll F) (c : Dev nD) (u : ℕ) : sProp 𝕄 :=
  iprop(core R c ∗ xPts c c (xs c) ∗ blocks (F := F) c u ∗ stg xs c u ∗ accP xs w c u)

/-- After the last point. -/
def last8 (R : sProp 𝕄) (c : Dev nD) (o : OBuf F) : sProp 𝕄 :=
  iprop(R ∗ atPos EB (bar c) 1 ∅ 0 ∗ (bigSep Finset.univ fun j => iprop(∃ f, rPts (F := F) c j f)) ∗ done (F := F) c ∗ ((xM.view.loc (c : Thread nD τ)) ↦{fullShare} xs c)
    ∗ (∃ f : BBuf F, (bM.view.loc (c : Thread nD τ)) ↦{fullShare} f) ∗ (∃ f : TBuf F, (tM.view.loc (c : Thread nD τ)) ↦{fullShare} f) ∗ oP c o
    ∗ (∃ f, aP (F := F) c f) ∗ ∃ f, yP (F := F) c f)

def PSx (R : sProp 𝕄) (w : WAll F) (c : Dev nD) (o : OBuf F) (u : ℕ) : sProp 𝕄 :=
  if u = 0 then first0 xs R c else if u < 8 then mid xs R w c u else last8 xs R c o

def PS (R : sProp 𝕄) (w : WAll F) (c : Dev nD) (o : OBuf F) (u : ℕ) : sProp 𝕄 :=
  iprop(ctx xs tx K ∗ tbl (F := F) c ∗ PSx xs R w c o u)

/-- What the device owes before point `u`. -/
def OO (c : Dev nD) (u : ℕ) : CellTallies nD τ sig Unit := if u = 0 then oA c + oR c + oB c else if u < 8 then oA c else 0

theorem OO_above (c : Dev nD) (u : ℕ) : Above 1 (OO c u) := by
  unfold OO
  split
  · exact above_O₀ c
  · split
    · exact (above_oA c).mono (by decide)
    · exact Above.zero 1

/-! ## The steps -/

section Step
variable (i : grid0.Coords) (arg4 : Memref sig .tc .vmem S1024x4096 .f32) (h4 : arg4.IsWhole) (c : Dev nD) (w : WAll F)
  (fw : arg4.view.ty.Contents (Elt F))

local notation "WP" => wp frame (wpE (defs₀ (F := F)) 𝒱₀ (c : Thread nD τ) none) Set.univ (BD i arg4 h4)

/-- The first point. -/
theorem step_first (R : sProp 𝕄) (hi0 : (i 0).val = 0) (hi1 : (i 1).val = 0) (hw : wV arg4 fw = wbk w c 0) :
    iprop((ctx xs tx K ∗ tbl (F := F) c ∗ first0 xs R c) ∗ ow c (oA c + oR c + oB c) ∗ wP arg4 c fw)
      ⊢ WP fun _ => iprop((ctx xs tx K ∗ tbl (F := F) c ∗ mid xs R w c 1) ∗ ow c (oA c) ∗ wP arg4 c fw) := by
  have hq : quarter c (i 0) = qk c 0 := congrArg (quarter c) (Fin.ext hi0)
  have h0 : qk c 0 = quarter c (0 : Fin 4) := rfl
  have h1 : k0_cond1 i = 1#1 := (cond1_iff i).mpr ⟨hi0, hi1⟩
  have h8 : ¬ k0_cond8 i = 1#1 := fun e => by have := (cond8_iff i).mp e; omega
  have e0 := blocks_pend (F := F) c 0
  have e1 := blocks_done (F := F) c 0
  have z0 : 2 * (0 : Fin 4).val = 0 := rfl
  rw [z0, blocks_zero] at e0
  rw [z0] at e1
  have hh0 : HeadSpec (F := F) i arg4 h4 c _ _ _ := head_first xs tx K i arg4 h4 c h1 (famE (F := F) c)
  rw [hq] at hh0
  have hh : HeadSpec (F := F) i arg4 h4 c (qk c 0) iprop(ctx xs tx K ∗ tbl (F := F) c ∗ st0 xs c ∗ famE (F := F) c)
      iprop(xPts c c (xs c) ∗ ow c (oA c) ∗ pq (F := F) c (qk c 0) ∗ (tbl (F := F) c ∗ others c 0 0 ∗ famS (F := F) c ∗ bPts c c (k0_pay15 (F := F)) ∗ atPos EB (bar c) 1 ∅ 0)) := by
    refine head_mono i arg4 h4 c _ hh0 (Entails.refl _) ?_
    unfold st1
    have hp : bigSep Finset.univ (post2 xs c) = iprop((xPts c c (xs c) ∗ bPts c c (k0_pay15 (F := F))) ∗ famS c) := cs_split c _ _
    rw [hp]
    iintro ⟨Ht, ⟨⟨⟨Hx, Hb⟩, HS⟩, Hr, Hat, HO⟩, HE⟩
    ihave Hq := (Entails.of_eq e0) $$ [Hr HE]
    · isplitl [Hr] <;> iassumption
    rw [← h0]
    icases Hq with ⟨Hq, Ho⟩
    isplitl [Hx]; · iexact Hx
    isplitl [HO]; · iexact HO
    isplitl [Hq]; · iexact Hq
    isplitl [Ht]; · iexact Ht
    isplitl [Ho]; · iexact Ho
    isplitl [HS]; · iexact HS
    isplitl [Hb] <;> iassumption
  unfold first0
  iintro ⟨⟨#HC, Ht, HR, ⟨S1, S2, S3, S4, S5, S6⟩, HE, HT, HP, HQ, HtM, HoM, HaM, ⟨%f, Hy⟩⟩, HO, Hw⟩
  obtain ⟨a, b, rfl⟩ := yB_eta f
  have hb := bodyN0 xs tx K i arg4 h4 c (qk c 0) hi1 h8 _ _ fw a b hh
  iapply (wp_wand_r frame _ Set.univ)
  isplitl [Ht S1 S2 S3 S4 S5 S6 HE HO HaM Hy Hw]
  · iapply hb
    isplitr; · iexact HC
    isplitl [Ht S1 S2 S3 S4 S5 S6 HE HO]
    · isplitr; · iexact HC
      isplitl [Ht]; · iexact Ht
      isplitr [HE]
      · unfold st0
        isplitl [S1]; · iexact S1
        isplitl [S2]; · iexact S2
        isplitl [S3]; · iexact S3
        isplitl [S4]; · iexact S4
        isplitl [S5]; · iexact S5
        isplitl [S6] <;> iassumption
      · iexact HE
    isplitl [HaM]; · iexact HaM
    isplitl [Hy] <;> iassumption
  iintro %r ⟨Hx, HO, Hd, ⟨Ht, Ho, HS, Hb, Hat⟩, Ha, Hy, Hw⟩
  isplitr [HO Hw]
  · isplitr; · iexact HC
    isplitl [Ht]; · iexact Ht
    unfold mid core stg accP
    isplitl [HR Hat HS Hb HT HP HQ HtM HoM]
    · isplitl [HR]; · iexact HR
      isplitl [Hat]; · iexact Hat
      isplitl [HS]; · iexact HS
      isplitl [Hb]; · iexact Hb
      isplitl [HT]; · iexact HT
      isplitl [HP]; · iexact HP
      isplitl [HQ]; · iexact HQ
      isplitl [HtM] <;> iassumption
    isplitl [Hx]; · iexact Hx
    isplitl [Hd Ho]
    · iapply (Entails.of_eq e1.symm)
      rw [← h0]
      isplitl [Hd] <;> iassumption
    isplitl [Ha]
    · rw [if_pos (by decide)]; iexact Ha
    iexists (yStep (i 0) (AS xs c (qk c 0)) (wV arg4 fw) a), b
    isplitr
    · ipureintro
      refine ⟨fun _ => ?_, fun h => absurd h (by decide)⟩
      rw [hw]
      exact acc_step xs w c 0 0 (i 0) hi0 a (fun h => absurd h (by decide))
    · iexact Hy
  · isplitl [HO] <;> iassumption

/-- A later point of the first half. -/
theorem step_even (R : sProp 𝕄) (k : Fin 4) (hk : 0 < k.val) (hi0 : (i 0).val = k.val) (hi1 : (i 1).val = 0) (hw : wV arg4 fw = wbk w c (2 * k.val)) :
    iprop((ctx xs tx K ∗ tbl (F := F) c ∗ mid xs R w c (2 * k.val)) ∗ ow c (oA c) ∗ wP arg4 c fw)
      ⊢ WP fun _ => iprop((ctx xs tx K ∗ tbl (F := F) c ∗ mid xs R w c (2 * k.val + 1)) ∗ ow c (oA c) ∗ wP arg4 c fw) := by
  have hik : i 0 = k := Fin.ext hi0
  have hkk : k.val % 4 = k.val := Nat.mod_eq_of_lt k.isLt
  have hqk : qk c k.val = quarter c k := congrArg (quarter c) (Fin.ext hkk)
  have h1 : ¬ k0_cond1 i = 1#1 := fun e => by have := (cond1_iff i).mp e; omega
  have h8 : ¬ k0_cond8 i = 1#1 := fun e => by have := (cond8_iff i).mp e; omega
  have hh0 : HeadSpec (F := F) i arg4 h4 c _ _ _ := head_other i arg4 h4 c h1 iprop(xPts c c (xs c) ∗ ow c (oA c) ∗ pq (F := F) c (quarter c k) ∗ others (F := F) c (2 * k.val) k)
  rw [hik] at hh0
  have hh : HeadSpec (F := F) i arg4 h4 c (quarter c k) iprop(tbl (F := F) c ∗ (xPts c c (xs c) ∗ ow c (oA c) ∗ pq (F := F) c (quarter c k) ∗ others (F := F) c (2 * k.val) k))
      iprop(xPts c c (xs c) ∗ ow c (oA c) ∗ pq (F := F) c (quarter c k) ∗ (tbl (F := F) c ∗ others (F := F) c (2 * k.val) k)) := by
    refine head_mono i arg4 h4 c _ hh0 (Entails.refl _) ?_
    iintro ⟨Ht, Hx, HO, Hq, Ho⟩
    isplitl [Hx]; · iexact Hx
    isplitl [HO]; · iexact HO
    isplitl [Hq]; · iexact Hq
    isplitl [Ht] <;> iassumption
  unfold mid
  rw [blocks_pend, blocks_done]
  have hdiv : (2 * k.val + 1) / 2 = k.val := by omega
  unfold stg accP
  rw [if_neg (by omega), if_pos (by omega), hdiv, hqk]
  iintro ⟨⟨#HC, Ht, Hcore, Hx, ⟨Hq, Ho⟩, Ha, ⟨%a, %b, %hab, Hy⟩⟩, HO, Hw⟩
  have hb := bodyN0 xs tx K i arg4 h4 c (quarter c k) hi1 h8 _ _ fw a b hh
  iapply (wp_wand_r frame _ Set.univ)
  isplitl [Ht Hx Hq Ho Ha Hy HO Hw]
  · iapply hb
    isplitr; · iexact HC
    isplitl [Ht Hx HO Hq Ho]
    · isplitl [Ht]; · iexact Ht
      isplitl [Hx]; · iexact Hx
      isplitl [HO]; · iexact HO
      isplitl [Hq] <;> iassumption
    isplitl [Ha]
    · iexact Ha
    isplitl [Hy] <;> iassumption
  iintro %r ⟨Hx, HO, Hd, ⟨Ht, Ho⟩, Ha, Hy, Hw⟩
  isplitr [HO Hw]
  · isplitr; · iexact HC
    isplitl [Ht]; · iexact Ht
    isplitl [Hcore]; · iexact Hcore
    isplitl [Hx]; · iexact Hx
    isplitl [Hd Ho]
    · isplitl [Hd] <;> iassumption
    isplitl [Ha]; · iexact Ha
    iexists (yStep (i 0) (AS xs c (quarter c k)) (wV arg4 fw) a), b
    isplitr
    · ipureintro
      refine ⟨fun _ => ?_, fun h => ?_⟩
      · rw [hw, ← hqk, show (2 * k.val + 1 - 1) / 2 = k.val by omega]
        refine acc_step xs w c 0 k.val (i 0) hi0 a (fun h => ?_)
        rw [hab.1 (by omega), show (2 * k.val - 1) / 2 = k.val - 1 by omega]
      · rw [hab.2 (by omega), show (2 * k.val - 2) / 2 = k.val - 1 by omega, show (2 * k.val + 1 - 2) / 2 = k.val - 1 by omega]
    · iexact Hy
  · isplitl [HO] <;> iassumption

/-- A point of the second half before the last. -/
theorem step_odd (R : sProp 𝕄) (k : Fin 4) (hk : k.val < 3) (hi0 : (i 0).val = k.val) (hi1 : (i 1).val = 1) (hw : wV arg4 fw = wbk w c (2 * k.val + 1)) :
    iprop((ctx xs tx K ∗ tbl (F := F) c ∗ mid xs R w c (2 * k.val + 1)) ∗ ow c (oA c) ∗ wP arg4 c fw)
      ⊢ WP fun _ => iprop((ctx xs tx K ∗ tbl (F := F) c ∗ mid xs R w c (2 * k.val + 2)) ∗ ow c (oA c) ∗ wP arg4 c fw) := by
  have hik : i 0 = k := Fin.ext hi0
  have hkk : k.val % 4 = k.val := Nat.mod_eq_of_lt k.isLt
  have hqk : qk c k.val = quarter c k := congrArg (quarter c) (Fin.ext hkk)
  have h1 : ¬ k0_cond1 i = 1#1 := fun e => by have := (cond1_iff i).mp e; omega
  have h8 : ¬ k0_cond8 i = 1#1 := fun e => by have := (cond8_iff i).mp e; omega
  have hh : HeadSpec (F := F) i arg4 h4 c _ _ _ := head_other i arg4 h4 c h1 (iprop(emp) : sProp 𝕄)
  rw [hik] at hh
  have hdiv : (2 * k.val + 1) / 2 = k.val := by omega
  unfold mid
  rw [← blocks_even]
  unfold stg accP
  rw [if_pos (by omega), if_neg (by omega), hdiv, hqk]
  iintro ⟨⟨#HC, Ht, Hcore, Hx, Hq, Ha, ⟨%a, %b, %hab, Hy⟩⟩, HO, Hw⟩
  have hb := bodyN1 i arg4 h4 c (quarter c k) hi1 h8 _ _ fw (AS xs c (quarter c k)) a b hh
  iapply (wp_wand_r frame _ Set.univ)
  isplitl [Ht Ha Hy Hw]
  · iapply hb
    isplitl [Ht]
    · isplitl [Ht]; · iexact Ht
      iempintro
    isplitl [Ha]; · iexact Ha
    isplitl [Hy] <;> iassumption
  iintro %r ⟨⟨Ht, -⟩, Ha, Hy, Hw⟩
  isplitr [HO Hw]
  · isplitr; · iexact HC
    isplitl [Ht]; · iexact Ht
    isplitl [Hcore]; · iexact Hcore
    isplitl [Hx]; · iexact Hx
    isplitl [Hq]; · iexact Hq
    isplitl [Ha]; · iexists _; iexact Ha
    iexists a, (yStep (i 0) (AS xs c (quarter c k)) (wV arg4 fw) b)
    isplitr
    · ipureintro
      refine ⟨fun _ => ?_, fun h => ?_⟩
      · rw [hab.1 (by omega), show (2 * k.val + 1 - 1) / 2 = k.val by omega, show (2 * k.val + 2 - 1) / 2 = k.val by omega]
      · rw [hw, ← hqk, show (2 * k.val + 2 - 2) / 2 = k.val by omega]
        refine acc_step xs w c 1 k.val (i 0) hi0 b (fun h => ?_)
        rw [hab.2 (by omega), show (2 * k.val + 1 - 2) / 2 = k.val - 1 by omega]
    · iexact Hy
  · isplitl [HO] <;> iassumption

/-- The last point. -/
theorem step_last (R : sProp 𝕄) (hi0 : (i 0).val = 3) (hi1 : (i 1).val = 1) (hw : wV arg4 fw = wbk w c 7) (htx : tx c = k0_pay12 (yFin xs w c)) :
    iprop((ctx xs tx K ∗ tbl (F := F) c ∗ mid xs R w c 7) ∗ ow c (oA c) ∗ wP arg4 c fw)
      ⊢ WP fun _ => iprop((ctx xs tx K ∗ tbl (F := F) c ∗ last8 xs R c (outB (yFin xs w c) (AB tx c))) ∗ ow c 0 ∗ wP arg4 c fw) := by
  have hik : i 0 = (3 : Fin 4) := Fin.ext hi0
  have h1 : ¬ k0_cond1 i = 1#1 := fun e => by have := (cond1_iff i).mp e; omega
  have hh : HeadSpec (F := F) i arg4 h4 c _ _ _ := head_other i arg4 h4 c h1 (iprop(emp) : sProp 𝕄)
  unfold mid core
  rw [blocks_seven]
  unfold stg accP
  rw [if_pos (by decide)]
  iintro ⟨⟨#HC, Ht, ⟨HR, Hat, HS, Hb, HT, HP, HQ, HtM, HoM⟩, Hx, ⟨Hr, Hrest⟩, Ha, ⟨%a, %b, %hab, Hy⟩⟩, HO, Hw⟩
  have ea : a = acc xs w c 0 3 := hab.1 (by decide)
  have eb : k0_pay4 (AS xs c (qk c (7 / 2))) (wV arg4 fw) b = acc xs w c 1 3 := by
    rw [hw, hab.2 (by decide)]; rfl
  have hb := bodyLast xs tx K i arg4 h4 c (quarter c (i 0)) hi0 hi1 _ _ fw (AS xs c (qk c (7 / 2))) a b hh (by rw [eb, ea]; exact htx)
  rw [eb, ea] at hb
  subst ea
  iapply (wp_wand_r frame _ Set.univ)
  isplitl [Ht HS Hb HT HP HQ HtM HoM Hx Hrest Ha Hy HO Hw]
  · iapply hb
    isplitr; · iexact HC
    isplitl [Ht]
    · isplitl [Ht]; · iexact Ht
      iempintro
    isplitl [HS Hb HT HP HQ HtM HoM Hx Hrest HO]
    · unfold fin0
      isplitl [HT]; · iexact HT
      isplitl [HP]; · iexact HP
      isplitl [HQ]; · iexact HQ
      isplitl [HS]; · iexact HS
      isplitl [Hrest]; · iexact Hrest
      isplitl [Hx]; · iexact Hx
      isplitl [Hb]; · iexact Hb
      isplitl [HtM]; · iexact HtM
      isplitl [HoM] <;> iassumption
    isplitl [Ha]; · iexact Ha
    isplitl [Hy] <;> iassumption
  unfold fin1
  iintro %r ⟨⟨Ht, -⟩, ⟨Hd, HxM, HbM, HtM, Ho, HO⟩, Ha, Hy, Hw⟩
  isplitr [HO Hw]
  · isplitr; · iexact HC
    isplitl [Ht]; · iexact Ht
    unfold last8
    isplitl [HR]; · iexact HR
    isplitl [Hat]; · iexact Hat
    isplitl [Hr]; · iexact Hr
    isplitl [Hd]; · iexact Hd
    isplitl [HxM]; · iexact HxM
    isplitl [HbM]; · iexact HbM
    isplitl [HtM]; · iexact HtM
    isplitl [Ho]; · iexact Ho
    isplitl [Ha]
    · iexists _; iexact Ha
    · iexists _; iexact Hy
  · isplitl [HO] <;> iassumption

end Step

/-- The body's step at every point. -/
theorem steps (c : Dev nD) (R : sProp 𝕄) (w : WAll F) (htx : tx c = k0_pay12 (yFin xs w c)) :
    BodySteps c w (PS xs tx K R w c (outB (yFin xs w c) (AB tx c))) (OO c) := by
  intro u hu s fw hfw
  obtain ⟨hc0, hc1⟩ := co_eq ⟨u, hu⟩
  have hc0 : (grid0.coords (pt u hu) 0).val = u / 2 := hc0
  have hc1 : (grid0.coords (pt u hu) 1).val = u % 2 := hc1
  rw [← wbk_of] at hfw
  generalize grid0.coords (pt u hu) = i at hc0 hc1
  unfold PS PSx OO
  by_cases h0 : u = 0
  · subst h0
    exact step_first xs tx K i (stage0_1 s) _ c w fw R hc0 hc1 hfw
  · rw [if_neg h0, if_pos hu, if_neg h0, if_pos hu, if_neg (Nat.succ_ne_zero u), if_neg (Nat.succ_ne_zero u)]
    by_cases h7 : u = 7
    · subst h7
      exact step_last xs tx K i (stage0_1 s) _ c w fw R hc0 hc1 hfw htx
    · rw [if_pos (show u + 1 < 8 by omega), if_pos (show u + 1 < 8 by omega)]
      rcases Nat.even_or_odd' u with ⟨k, hk | hk⟩
      · subst hk
        exact step_even xs tx K i (stage0_1 s) _ c w fw R ⟨k, by omega⟩ (by show 0 < k; omega) (hc0.trans (by show 2 * k / 2 = k; omega)) (hc1.trans (by omega)) hfw
      · subst hk
        exact step_odd xs tx K i (stage0_1 s) _ c w fw R ⟨k, by omega⟩ (by show k < 3; omega) (hc0.trans (by show (2 * k + 1) / 2 = k; omega)) (hc1.trans (by omega)) hfw

end Cert.A2A

end

end
-- ==== Proof.Parts.lean ====
/-
What a call of the kernel finds in the scoped storage of its device, cut into what the body uses, and put together again.
-/
module

public import proofs.«01_k».proof.Proof.Points

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

/-! ## The semaphores -/

set_option backward.proofsInPublic true in
/-- The staging semaphores. -/
def stageSem : Fin 4 ↪ SemLoc sig where
  toFun i := .dma ⟨i.val, Nat.lt_of_lt_of_le i.isLt (by decide)⟩
  inj' := by decide +kernel

set_option backward.proofsInPublic true in
/-- The semaphores of the remote copies. -/
def talkSem : Fin 4 × Dev nD ↪ SemLoc sig where
  toFun x := .dma (semIx x.1 x.2)
  inj' := by decide +kernel

theorem sem_set : (Finset.univ.filter fun sm : SemLoc sig => sm.isScoped .tc) = Finset.univ.map stageSem ∪ Finset.univ.map talkSem := by
  decide +kernel
theorem sem_disjoint : Disjoint (Finset.univ.map stageSem) (Finset.univ.map talkSem) := by decide +kernel

omit [FloatOps F] in
theorem sems_eq (c : Dev nD) : (scopedSems0 (c : Thread nD τ) : sProp 𝕄)
    = iprop((semVal ((c : Thread nD τ), .dma (sem0_0 (0 : Fin 1))) 0 ∗ semVal ((c : Thread nD τ), .dma (sem0_1 (0 : Fin 2))) 0
        ∗ semVal ((c : Thread nD τ), .dma (sem0_1 (1 : Fin 2))) 0 ∗ semVal ((c : Thread nD τ), .dma (sem0_2 (0 : Fin 1))) 0)
      ∗ bigSep Finset.univ fun x : Fin 4 × Dev nD => semVal (cel x.1 c x.2) 0) := by
  rw [scopedSems0_tc, sem_set, bigSep_union sem_disjoint, bigSep_map, bigSep_map, bigSep_univ_eq_bigSepL [0, 1, 2, 3] (by decide) (by decide)]
  rfl

/-! ## The buffers -/

omit [FloatOps F] in
theorem bufs_eq (c : Dev nD) : (scopedBufs (c : Thread nD τ) : sProp 𝕄)
    = iprop((∃ f : (stage0_0 (0 : Fin 1)).view.ty.Contents (Elt F), ((stage0_0 (0 : Fin 1)).view.loc (c : Thread nD τ)) ↦{fullShare} f)
      ∗ (∃ f, wP (F := F) (stage0_1 (0 : Fin 2)) c f) ∗ (∃ f, wP (F := F) (stage0_1 (1 : Fin 2)) c f)
      ∗ (∃ f, oP (F := F) c f) ∗ (∃ f : RBuf F, (rM.view.loc (c : Thread nD τ)) ↦{fullShare} f)
      ∗ (∃ f, aP (F := F) c f) ∗ (∃ f, yP (F := F) c f)
      ∗ (∃ f : TBuf F, (tM.view.loc (c : Thread nD τ)) ↦{fullShare} f) ∗ (∃ f : BBuf F, (bM.view.loc (c : Thread nD τ)) ↦{fullShare} f)) := by
  rw [scopedBufs_tc, bigSep_eq_bigSepL_of_eq [cc0_stg0_0, cc0_stg1_0, cc0_stg1_1, cc0_stg2_0, cc0_scratch0, cc0_scratch1, cc0_scratch2, cc0_scratch3, cc0_scratch4] (by decide) (by decide)]
  rfl

/-- The receive buffer from its slots. -/
theorem r_join (c : Dev nD) : (bigSep Finset.univ fun j => iprop(∃ f, rPts (F := F) c j f))
    ⊢ iprop(∃ f : RBuf F, (rM.view.loc (c : Thread nD τ)) ↦{fullShare} f) := by
  haveI : Nonempty (RBuf F) := ⟨fun _ => (k0_pay15 (F := F) : BBuf F) (ix2 0 0)⟩
  refine BIBase.Entails.trans (BI.bigSep_exists_pi Finset.univ fun j f => rPts (F := F) c j f) ?_
  have h := pointsTo_biUnion_join (Val := Elt F) (Ix := Unit) (Name := ℕ) (U := UU) (Lvl := ℕ) (ℓ := rM.view.loc (c : Thread nD τ)) (q := fullShare) Finset.univ (fun j : Dev nD => (rSlot j).view.set)
  have hc : (Finset.biUnion (β := Idx (rM.view.loc (c : Thread nD τ))) Finset.univ fun j : Dev nD => (rSlot j).view.set) = Finset.univ := rSlot_cover
  iintro ⟨%fs, H⟩
  ihave H := (h fs (fs 0) fun i _ j _ h => rSlot_disjoint i j h) $$ [H]
  · unfold rPts; iexact H
  icases H with ⟨%g, -, H⟩
  iexists g
  rw [hc]
  iexact H
omit [FloatOps F] in
theorem r_cut (c : Dev nD) : (iprop(∃ f : RBuf F, (rM.view.loc (c : Thread nD τ)) ↦{fullShare} f) : sProp 𝕄)
    ⊢ bigSep Finset.univ fun j => iprop(∃ f, rPts (F := F) c j f) := by
  iintro ⟨%f, H⟩
  ihave H := (Entails.of_eq (r_slots c f)) $$ H
  iapply (bmono (F := F) Finset.univ (Φ := fun j => rPts c j f) (Ψ := fun j => iprop(∃ f, rPts (F := F) c j f)) fun j _ => by iintro H; iexists f; iexact H) $$ H

/-! ## The cells of the remote copies -/

omit [FloatOps F] in
theorem cells4 (c : Dev nD) (Φ : Fin 4 × Dev nD → sProp 𝕄) : bigSep Finset.univ Φ
    = iprop((Φ (0, c) ∗ Φ (1, c) ∗ Φ (2, c) ∗ Φ (3, c))
      ∗ bigSep (Finset.univ.erase c) fun j => iprop(Φ (0, j) ∗ Φ (1, j) ∗ Φ (2, j) ∗ Φ (3, j))) := by
  rw [bsep, bsep, bsep, bigSep_univ_prod, bigSep_univ_eq_bigSepL [0, 1, 2, 3] (by decide) (by decide)]
  show iprop((bigSep Finset.univ fun j => Φ (0, j)) ∗ (bigSep Finset.univ fun j => Φ (1, j)) ∗ (bigSep Finset.univ fun j => Φ (2, j)) ∗ bigSep Finset.univ fun j => Φ (3, j)) = _
  rw [bigSep_univ_at (fun j => Φ (0, j)) c, bigSep_univ_at (fun j => Φ (1, j)) c, bigSep_univ_at (fun j => Φ (2, j)) c, bigSep_univ_at (fun j => Φ (3, j)) c]
  refine BI.equiv_iff.mp ⟨?_, ?_⟩
  · show iprop((Φ (0, c) ∗ bigSep (Finset.univ.erase c) fun j => Φ (0, j)) ∗ (Φ (1, c) ∗ bigSep (Finset.univ.erase c) fun j => Φ (1, j)) ∗ (Φ (2, c) ∗ bigSep (Finset.univ.erase c) fun j => Φ (2, j)) ∗ (Φ (3, c) ∗ bigSep (Finset.univ.erase c) fun j => Φ (3, j))) ⊢ _
    iintro ⟨⟨A0, B0⟩, ⟨A1, B1⟩, ⟨A2, B2⟩, A3, B3⟩
    isplitl [A0 A1 A2 A3]
    · isplitl [A0]; · iexact A0
      isplitl [A1]; · iexact A1
      isplitl [A2] <;> iassumption
    · isplitl [B0]; · iexact B0
      isplitl [B1]; · iexact B1
      isplitl [B2] <;> iassumption
  · show _ ⊢ iprop((Φ (0, c) ∗ bigSep (Finset.univ.erase c) fun j => Φ (0, j)) ∗ (Φ (1, c) ∗ bigSep (Finset.univ.erase c) fun j => Φ (1, j)) ∗ (Φ (2, c) ∗ bigSep (Finset.univ.erase c) fun j => Φ (2, j)) ∗ (Φ (3, c) ∗ bigSep (Finset.univ.erase c) fun j => Φ (3, j)))
    iintro ⟨⟨A0, A1, A2, A3⟩, B0, B1, B2, B3⟩
    isplitl [A0 B0]; · isplitl [A0] <;> iassumption
    isplitl [A1 B1]; · isplitl [A1] <;> iassumption
    isplitl [A2 B2]; · isplitl [A2] <;> iassumption
    isplitl [A3] <;> iassumption

/-- The round that a cell of device `c` has reached at the end. -/
def endR (c : Dev nD) (x : Fin 4 × Dev nD) : ℕ := if x.2 = c then 0 else 1

theorem endR_none (c : Dev nD) (x : Fin 4 × Dev nD) (r : ℕ) (h : endR c x ≤ r) : (sched xs tx).duties (cel x.1 c x.2) r = ∅ := by
  unfold endR at h
  by_cases e : x.2 = c
  · rw [e]; exact duties_own xs tx x.1 c r
  · rw [if_neg e] at h; exact duties_later xs tx _ r h

/-- The positions of the cells that nothing is copied on. -/
def idle (c : Dev nD) : sProp 𝕄 :=
  iprop(atPos EB (cel 0 c c) 0 ∅ 0 ∗ atPos EB (cel 1 c c) 0 ∅ 0 ∗ atPos EB (cel 2 c c) 0 ∅ 0 ∗ atPos EB (cel 3 c c) 0 ∅ 0)

/-- What stands open on the cells of one peer at the entry. -/
def fresh1 (c j : Dev nD) : sProp 𝕄 :=
  iprop((atPos EB (cel 0 c j) 0 ∅ 0 ∗ reached EB (cel 0 c j) 0) ∗ (atPos EB (cel 1 c j) 0 ∅ 0 ∗ reached EB (cel 1 c j) 0)
    ∗ (atPos EB (cel 2 c j) 0 ∅ 0 ∗ reached EB (cel 2 c j) 0) ∗ atPos EB (cel 3 c j) 0 ∅ 0 ∗ reached EB (cel 3 c j) 0)

/-- Every cell of the device put in order at the entry. -/
theorem open_own (c : Dev nD) : iprop(ctx xs tx K ∗ (bigSep Finset.univ fun x : Fin 4 × Dev nD => openTok EB (cel x.1 c x.2)) ∗ bigSep Finset.univ fun x : Fin 4 × Dev nD => semVal (cel x.1 c x.2) 0)
    ⊢ (|={Set.univ}=> iprop(idle (F := F) c ∗ bigSep (Finset.univ.erase c) fun j => fresh1 (F := F) c j) : sProp 𝕄) := by
  iintro ⟨#HC, Ho, Hs⟩
  imod (cells_open EB (sched xs tx) Finset.univ (fun x : Fin 4 × Dev nD => cel x.1 c x.2) (fun x => K (cel x.1 c x.2)) (Es := Set.univ) (fun _ _ => Set.mem_univ _)) $$ [Ho Hs] with H
  · isplitl [Ho]
    · iapply (Entails.of_eq (bsep _ _ _).symm)
      isplitr
      · iapply (bigSep_intro_persistent (R := ctx xs tx K) (S := Finset.univ) (Φ := fun x : Fin 4 × Dev nD => cellInv EB (sched xs tx) (K (cel x.1 c x.2)) (cel x.1 c x.2)) fun x _ => ctx_cel xs tx K x.1 c x.2) $$ HC
      · iexact Ho
    · iexact Hs
  imodintro
  ihave H := (Entails.of_eq (cells4 c _)) $$ H
  icases H with ⟨⟨⟨A0, -⟩, ⟨A1, -⟩, ⟨A2, -⟩, A3, -⟩, H⟩
  isplitl [A0 A1 A2 A3]
  · unfold idle
    isplitl [A0]; · iexact A0
    isplitl [A1]; · iexact A1
    isplitl [A2] <;> iassumption
  · unfold fresh1
    iexact H

/-- Every cell of the device closed at the exit. -/
theorem close_own (c : Dev nD) : iprop(ctx xs tx K ∗ idle (F := F) c ∗ done (F := F) c)
    ⊢ (|={Set.univ}=> bigSep Finset.univ fun x : Fin 4 × Dev nD => semVal (cel x.1 c x.2) 0 : sProp 𝕄) := by
  have e := cells4 (F := F) c fun x => atPos EB (cel x.1 c x.2) (endR c x) ∅ 0
  have e0 : ∀ k : Fin 4, endR c (k, c) = 0 := fun k => if_pos rfl
  have e1 : (bigSep (Finset.univ.erase c) fun j => iprop(atPos EB (cel 0 c j) (endR c (0, j)) ∅ 0 ∗ atPos EB (cel 1 c j) (endR c (1, j)) ∅ 0 ∗ atPos EB (cel 2 c j) (endR c (2, j)) ∅ 0 ∗ atPos EB (cel 3 c j) (endR c (3, j)) ∅ 0)) = done (F := F) c := by
    refine bigSep_congr fun j hj => ?_
    have hn : ∀ k : Fin 4, endR c (k, j) = 1 := fun k => if_neg (Finset.mem_erase.mp hj).1
    rw [hn, hn, hn, hn]
  simp only [e0] at e
  rw [e1] at e
  iintro ⟨#HC, Hi, Hd⟩
  iapply (cells_close EB (sched xs tx) Finset.univ (fun x : Fin 4 × Dev nD => cel x.1 c x.2) (fun x => K (cel x.1 c x.2)) (Es := Set.univ) (fun _ _ => Set.mem_univ _)
    (fun _ _ h => h) (endR c) fun x _ r hr => endR_none xs tx c x r hr)
  iapply (Entails.of_eq (bsep _ _ _).symm)
  isplitr
  · iapply (bigSep_intro_persistent (R := ctx xs tx K) (S := Finset.univ) (Φ := fun x : Fin 4 × Dev nD => cellInv EB (sched xs tx) (K (cel x.1 c x.2)) (cel x.1 c x.2)) fun x _ => ctx_cel xs tx K x.1 c x.2) $$ HC
  · iapply (Entails.of_eq e.symm)
    unfold idle
    isplitl [Hi] <;> iassumption

end Cert.A2A

end

end
-- ==== Proof.Region.lean ====
/-
The call of the kernel: from the state before it to the state after it, on one device.
-/
module

public import proofs.«01_k».proof.Proof.Parts

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

open Idealize.ShloMosaic.Pipeline (kernel pipe entry)

local notation "𝔻" => defs (F := F)
local notation "𝕍" => Variants.lift 𝒱₀

/-! ## What a device is given at launch -/

/-- The tokens of what device `c` does for device `j`. -/
def tok1 (c j : Dev nD) : sProp 𝕄 :=
  iprop(dutyTok EB (bar j) 0 c ∗ dutyTok EB (cel 0 c j) 0 j ∗ dutyTok EB (cel 1 j c) 0 c ∗ dutyTok EB (cel 2 c j) 0 j ∗ dutyTok EB (cel 3 j c) 0 c)
def toks (c : Dev nD) : sProp 𝕄 := bigSep (Finset.univ.erase c) (tok1 (F := F) c)
/-- The credits of what device `j` sends to device `c`. -/
def crd1 (c j : Dev nD) : sProp 𝕄 := iprop(cred (tallyAt (cel 1 c j) () NX) ∗ cred (tallyAt (cel 3 c j) () NA))
def crds (c : Dev nD) : sProp 𝕄 := bigSep (Finset.univ.erase c) (crd1 (F := F) c)
def opens (c : Dev nD) : sProp 𝕄 := bigSep Finset.univ fun x : Fin 4 × Dev nD => openTok EB (cel x.1 c x.2)

/-- What device `c` enters the kernel with besides its buffers. -/
def kit (c : Dev nD) : sProp 𝕄 :=
  iprop(opens (F := F) c ∗ atPos EB (bar c) 0 ∅ 0 ∗ cred (tallyAt (bar c) () 31) ∗ toks (F := F) c ∗ crds (F := F) c ∗ ow c (O₀ c))

omit [FloatOps F] in
theorem deal1 (c j : Dev nD) : iprop((∃ f, rPts (F := F) c j f) ∗ fresh1 (F := F) c j ∗ tok1 (F := F) c j ∗ crd1 (F := F) c j)
    ⊢ iprop(((∃ f, rPts (F := F) c j f) ∗ dutyTok EB (bar j) 0 c ∗ reached EB (cel 1 c j) 0 ∗ reached EB (cel 3 c j) 0)
      ∗ (dutyTok EB (cel 0 c j) 0 j ∗ reached EB (cel 0 c j) 0 ∗ dutyTok EB (cel 1 j c) 0 c)
      ∗ (atPos EB (cel 1 c j) 0 ∅ 0 ∗ cred (tallyAt (cel 1 c j) () NX))
      ∗ (dutyTok EB (cel 2 c j) 0 j ∗ reached EB (cel 2 c j) 0 ∗ dutyTok EB (cel 3 j c) 0 c)
      ∗ (atPos EB (cel 3 c j) 0 ∅ 0 ∗ cred (tallyAt (cel 3 c j) () NA))
      ∗ atPos EB (cel 0 c j) 0 ∅ 0 ∗ atPos EB (cel 2 c j) 0 ∅ 0) := by
  unfold fresh1 tok1 crd1
  iintro ⟨Hr, ⟨⟨A0, R0⟩, ⟨A1, R1⟩, ⟨A2, R2⟩, A3, R3⟩, ⟨TB, T0, T1, T2, T3⟩, C1, C3⟩
  isplitl [Hr TB R1 R3]
  · isplitl [Hr]; · iexact Hr
    isplitl [TB]; · iexact TB
    isplitl [R1] <;> iassumption
  isplitl [T0 R0 T1]
  · isplitl [T0]; · iexact T0
    isplitl [R0] <;> iassumption
  isplitl [A1 C1]; · isplitl [A1] <;> iassumption
  isplitl [T2 R2 T3]
  · isplitl [T2]; · iexact T2
    isplitl [R2] <;> iassumption
  isplitl [A3 C3]; · isplitl [A3] <;> iassumption
  isplitl [A0] <;> iassumption

omit [FloatOps F] in
theorem dealt (c : Dev nD) : iprop((bigSep Finset.univ fun j => iprop(∃ f, rPts (F := F) c j f)) ∗ (bigSep (Finset.univ.erase c) (fresh1 (F := F) c)) ∗ toks (F := F) c ∗ crds (F := F) c)
    ⊢ iprop(bigSep Finset.univ (pre1 (F := F) c)
      ∗ (bigSep (Finset.univ.erase c) fun j => iprop(dutyTok EB (cel 0 c j) 0 j ∗ reached EB (cel 0 c j) 0 ∗ dutyTok EB (cel 1 j c) 0 c))
      ∗ famE (F := F) c ∗ famT (F := F) c ∗ famP (F := F) c ∗ famQ (F := F) c) := by
  have e : bigSep Finset.univ (pre1 (F := F) c) = _ := cs_split c iprop(∃ f, rPts (F := F) c c f) _
  have h := bmono (F := F) (Finset.univ.erase c) fun j _ => deal1 (F := F) c j
  rw [bsep, bsep, bsep] at h
  rw [e, bigSep_univ_at _ c]
  unfold toks crds famE famT famP famQ
  iintro ⟨⟨H0, Hr⟩, Hf, Ht, Hc⟩
  ihave H := h $$ [Hr Hf Ht Hc]
  · isplitl [Hr]; · iexact Hr
    isplitl [Hf]; · iexact Hf
    isplitl [Ht] <;> iassumption
  ihave H := (Entails.of_eq (bsep _ _ _)) $$ H
  icases H with ⟨P, H⟩
  ihave H := (Entails.of_eq (bsep _ _ _)) $$ H
  icases H with ⟨T, H⟩
  ihave H := (Entails.of_eq (bsep _ _ _)) $$ H
  icases H with ⟨E, H⟩
  ihave H := (Entails.of_eq (bsep _ _ _)) $$ H
  icases H with ⟨FT, H⟩
  ihave H := (Entails.of_eq (bsep _ _ _)) $$ H
  icases H with ⟨FP, FQ⟩
  isplitl [H0 P]; · isplitl [H0] <;> iassumption
  isplitl [T]; · iexact T
  isplitl [E]; · iexact E
  isplitl [FT]; · iexact FT
  isplitl [FP] <;> iassumption

/-- What rides along through the loop, besides `x` and its buffer and the table. -/
def P0r (R : sProp 𝕄) (c : Dev nD) : sProp 𝕄 :=
  iprop(ctx xs tx K ∗ R
    ∗ (bigSep Finset.univ (pre1 (F := F) c)
      ∗ (bigSep (Finset.univ.erase c) fun j => iprop(dutyTok EB (cel 0 c j) 0 j ∗ reached EB (cel 0 c j) 0 ∗ dutyTok EB (cel 1 j c) 0 c))
      ∗ famE (F := F) c ∗ famT (F := F) c ∗ famP (F := F) c ∗ famQ (F := F) c)
    ∗ atPos EB (bar c) 0 ∅ 0 ∗ cred (tallyAt (bar c) () 31) ∗ (∃ f : BBuf F, (bM.view.loc (c : Thread nD τ)) ↦{fullShare} f)
    ∗ (∃ f : TBuf F, (tM.view.loc (c : Thread nD τ)) ↦{fullShare} f) ∗ (∃ f, oP (F := F) c f) ∗ (∃ f, aP (F := F) c f) ∗ ∃ f, yP (F := F) c f)

/-- That and the table. -/
def P0 (R : sProp 𝕄) (c : Dev nD) : sProp 𝕄 := iprop(tbl (F := F) c ∗ P0r xs tx K R c)

/-- The array of the result and the staging semaphores of `x` and of the result. -/
def arrs (c : Dev nD) : sProp 𝕄 :=
  iprop((mX.view.loc (c : Thread nD τ) ↦{fullShare} xs c) ∗ semVal ((c : Thread nD τ), .dma (sem0_0 (0 : Fin 1))) 0
    ∗ (∃ f : OBuf F, mO.view.loc (c : Thread nD τ) ↦{fullShare} f) ∗ semVal ((c : Thread nD τ), .dma (sem0_2 (0 : Fin 1))) 0)

def P8 (R : sProp 𝕄) (c : Dev nD) : sProp 𝕄 :=
  iprop(R ∗ (mX.view.loc (c : Thread nD τ) ↦{fullShare} xs c) ∗ semVal ((c : Thread nD τ), .dma (sem0_0 (0 : Fin 1))) 0
    ∗ tbl (F := F) c ∗ atPos EB (bar c) 1 ∅ 0 ∗ (bigSep Finset.univ fun j => iprop(∃ f, rPts (F := F) c j f)) ∗ done (F := F) c
    ∗ ((xM.view.loc (c : Thread nD τ)) ↦{fullShare} xs c)
    ∗ (∃ f : BBuf F, (bM.view.loc (c : Thread nD τ)) ↦{fullShare} f) ∗ (∃ f : TBuf F, (tM.view.loc (c : Thread nD τ)) ↦{fullShare} f)
    ∗ (∃ f, aP (F := F) c f) ∗ ∃ f, yP (F := F) c f)

theorem loop_in (R : sProp 𝕄) (w : WAll F) (c : Dev nD) (o : OBuf F) :
    iprop(gotX c (0 : Fin 1) (xs c) ∗ P0 xs tx K iprop(R ∗ (∃ f : OBuf F, mO.view.loc (c : Thread nD τ) ↦{fullShare} f) ∗ semVal ((c : Thread nD τ), .dma (sem0_2 (0 : Fin 1))) 0) c)
      ⊢ PS xs tx K iprop(R ∗ arrs xs c) w c o 0 := by
  have e : PSx xs iprop(R ∗ arrs xs c) w c o 0 = first0 xs iprop(R ∗ arrs xs c) c := if_pos rfl
  unfold PS
  rw [e]
  unfold gotX P0 P0r first0 arrs
  iintro ⟨⟨Hx, HX, HsX⟩, Ht, HC, ⟨HR, HO, HsO⟩, ⟨HP, HT, E, FT, FP, FQ⟩, Hat, Hcr, Hb, HtM, Ho, Ha, Hy⟩
  isplitl [HC]; · iexact HC
  isplitl [Ht]; · iexact Ht
  isplitl [HR HX HsX HO HsO]
  · isplitl [HR]; · iexact HR
    isplitl [HX]; · iexact HX
    isplitl [HsX]; · iexact HsX
    isplitl [HO] <;> iassumption
  isplitl [HP Hat Hcr HT Hx Hb]
  · isplitl [HP]; · iexact HP
    isplitl [Hat]; · iexact Hat
    isplitl [Hcr]; · iexact Hcr
    isplitl [HT]; · iexact HT
    isplitl [Hx]; · iexact Hx
    iexact Hb
  isplitl [E]; · iexact E
  isplitl [FT]; · iexact FT
  isplitl [FP]; · iexact FP
  isplitl [FQ]; · iexact FQ
  isplitl [HtM]; · iexact HtM
  isplitl [Ho]; · iexact Ho
  isplitl [Ha] <;> iassumption

theorem loop_out (R : sProp 𝕄) (w : WAll F) (c : Dev nD) (o : OBuf F) :
    PS xs tx K iprop(R ∗ arrs xs c) w c o 8 ⊢ iprop(holdO c (0 : Fin 1) o ∗ P8 xs R c) := by
  have e : PSx xs iprop(R ∗ arrs xs c) w c o 8 = last8 xs iprop(R ∗ arrs xs c) c o := by
    unfold PSx; rw [if_neg (by omega), if_neg (by omega)]
  unfold PS
  rw [e]
  unfold holdO P8 last8 arrs
  iintro ⟨-, Ht, ⟨HR, HX, HsX, HO, HsO⟩, Hat, Hr, Hd, Hx, Hb, HtM, Ho, Ha, Hy⟩
  isplitl [Ho HO HsO]
  · isplitl [Ho]; · iapply (show oP c o ⊢ (((stage0_2 (0 : Fin 1)).view.loc (c : Thread nD τ)) ↦{fullShare} oIn (0 : Fin 1) o : sProp 𝕄) from Entails.refl _) $$ Ho
    isplitl [HO] <;> iassumption
  isplitl [HR]; · iexact HR
  isplitl [HX]; · iexact HX
  isplitl [HsX]; · iexact HsX
  isplitl [Ht]; · iexact Ht
  isplitl [Hat]; · iexact Hat
  isplitl [Hr]; · iexact Hr
  isplitl [Hd]; · iexact Hd
  isplitl [Hx]; · iexact Hx
  isplitl [Hb]; · iexact Hb
  isplitl [HtM]; · iexact HtM
  isplitl [Ha] <;> iassumption

/-- The loop of the pipeline on device `c`, from its first trip. -/
theorem loop_run (c : Dev nD) (R : sProp 𝕄) (ws : Dev nD → WAll F) :
    iprop(hold c (ws c) (0 : Fin 2) ∗ hold c (ws c) (1 : Fin 2) ∗ holdX c (0 : Fin 1) (xs c)
        ∗ P0 xs (txOf xs ws) K iprop(R ∗ (∃ f : OBuf F, mO.view.loc (c : Thread nD τ) ↦{fullShare} f) ∗ semVal ((c : Thread nD τ), .dma (sem0_2 (0 : Fin 1))) 0) c
        ∗ ow c (O₀ c) ∗ levAts L lv)
      ⊢ wp frame (wpE 𝔻 𝕍 (c : Thread nD τ) (some (.inr 10))) Set.univ (itr c 0) fun _ => iprop(hold c (ws c) (0 : Fin 2) ∗ hold c (ws c) (1 : Fin 2) ∗ gotO c (0 : Fin 1) (outOf xs ws c) ∗ P8 xs R c ∗ ow c 0) := by
  have e0 : OO c 0 = O₀ c := if_pos rfl
  have e8 : OO c 8 = 0 := by unfold OO; rw [if_neg (by omega), if_neg (by omega)]
  have h := loop c (ws c) (steps xs (txOf xs ws) K c iprop(R ∗ arrs xs c) (ws c) rfl) (OO_above c) (xs c) (outOf xs ws c) _ _
    (loop_in xs (txOf xs ws) K R (ws c) c _) (loop_out xs (txOf xs ws) K R (ws c) c _)
  rw [e0] at h
  unfold Fin9 at h
  rw [e8] at h
  exact h

/-- What the loop takes besides the table. -/
def XX (c : Dev nD) (R : sProp 𝕄) (ws : Dev nD → WAll F) : sProp 𝕄 :=
  iprop(hold c (ws c) (0 : Fin 2) ∗ hold c (ws c) (1 : Fin 2) ∗ holdX c (0 : Fin 1) (xs c)
        ∗ P0r xs (txOf xs ws) K iprop(R ∗ (∃ f : OBuf F, mO.view.loc (c : Thread nD τ) ↦{fullShare} f) ∗ semVal ((c : Thread nD τ), .dma (sem0_2 (0 : Fin 1))) 0) c
        ∗ ow c (O₀ c) ∗ levAts L lv)

theorem loop_from (c : Dev nD) (R : sProp 𝕄) (ws : Dev nD → WAll F) :
    iprop(tbl (F := F) c ∗ XX xs K c R ws)
      ⊢ wp frame (wpE 𝔻 𝕍 (c : Thread nD τ) (some (.inr 10))) Set.univ (itr c 0) fun _ => iprop(hold c (ws c) (0 : Fin 2) ∗ hold c (ws c) (1 : Fin 2) ∗ gotO c (0 : Fin 1) (outOf xs ws c) ∗ P8 xs R c ∗ ow c 0) := by
  refine BIBase.Entails.trans ?_ (loop_run xs K c R ws)
  unfold XX P0
  iintro ⟨Ht, H0, H1, HX, HP, HO, Hl⟩
  isplitl [H0]; · iexact H0
  isplitl [H1]; · iexact H1
  isplitl [HX]; · iexact HX
  isplitl [Ht HP]; · isplitl [Ht] <;> iassumption
  isplitl [HO] <;> iassumption

end Cert.A2A

end

end
-- ==== Proof.Call.lean ====
/-
The call of the kernel from the host's program.
-/
module

public import proofs.«01_k».proof.Proof.Region

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

open Idealize.ShloMosaic.Pipeline (kernel pipe entry prefHeld)

local notation "𝔻" => defs (F := F)
local notation "𝕍" => Variants.lift 𝒱₀

variable (c : Dev nD)

/-- The table as the pipeline holds it. -/
theorem tbl_held : (prefHeld pre0 c (fun _ => fullShare) (adm (F := F) c).1 : sProp 𝕄) = tbl (F := F) c := by
  unfold prefHeld
  rw [bigSep_univ_eq_bigSepL [(0 : Fin 1)] (by decide) (by decide)]
  rfl

/-- The region runs its loop once it has read the table. -/
theorem prun_wp (X Z : sProp 𝕄) (h : iprop(tbl (F := F) c ∗ X) ⊢ wp frame (wpE 𝔻 𝕍 (c : Thread nD τ) (some (.inr 10))) Set.univ (itr c 0) fun _ => Z) :
    iprop(tbl (F := F) c ∗ X) ⊢ wp frame (wpE 𝔻 𝕍 (c : Thread nD τ) (some (.inr 11))) Set.univ (Pipeline.prun pcfgs (0 : Fin 1)) fun _ => Z := by
  have hN : (cf (F := F) c).N = 8 := cf_N c
  iintro ⟨Ht, HX⟩
  unfold Pipeline.prun
  ihave Ht := (Entails.of_eq (tbl_held c).symm) $$ Ht
  iapply (Pipeline.Prefetch.wp_readAll 𝕍 (some (.inr 11)) Set.univ pre0 c (fun _ => fullShare) (adm (F := F) c).1 _) $$ Ht
  iintro Ht
  ihave Ht := (Entails.of_eq (tbl_held c)) $$ Ht
  iapply (wp_assume 𝕍 _ (some (.inr 11)) Set.univ (adm (F := F) c).2)
  have e : (cf (F := F) c).runAt (nD := nD) (τ := τ) (Val := Elt F) (0 : Fin 1) (adm c) = (Prog.op (.call (pipe (0 : Fin 1)) ((adm c, (0 : ℕ)) : (pcfgs (F := F) (0 : Fin 1)).Adm × ℕ)) fun _ => .ret ⟨⟩ : PP F) := by
    unfold Pipeline.Cfg.runAt
    rw [if_neg (by rw [hN]; omega), dif_neg (by rw [hN]; omega)]
  have key : iprop(tbl (F := F) c ∗ X) ⊢ wp frame (wpE 𝔻 𝕍 (c : Thread nD τ) (some (.inr 11))) Set.univ ((cf (F := F) c).runAt (nD := nD) (τ := τ) (Val := Elt F) (0 : Fin 1) (adm c)) fun _ => Z := by
    rw [e]
    iintro H
    iapply (wp_call 𝕍 (c : Thread nD τ) (some (.inr 11)) Set.univ (defs := 𝔻) (Q := fun _ => Z) (ℓ := pipe (0 : Fin 1))
      (a := (adm c, (0 : ℕ))) (k := fun _ => .ret ⟨⟩) (Sum.inr 10) (fun v hv => by cases hv; exact Sum.Lex.inr (by omega)))
    iapply (wp_wand_r frame _ Set.univ)
    isplitl [H]
    · iapply h $$ H
    · iintro %r HZ
      rw [wp_ret]
      imodintro
      iexact HZ
  iapply key
  isplitl [Ht] <;> iassumption

/-- What the call takes besides the scoped storage. -/
def before (ws : Dev nD → WAll F) : sProp 𝕄 :=
  iprop(ctx xs (txOf xs ws) K ∗ kit (F := F) c ∗ tbl (F := F) c ∗ (mX.view.loc (c : Thread nD τ) ↦{fullShare} xs c)
    ∗ (mW.view.loc (c : Thread nD τ) ↦{fullShare} ws c) ∗ ∃ f : OBuf F, mO.view.loc (c : Thread nD τ) ↦{fullShare} f)
/-- What it leaves. -/
def leaves (ws : Dev nD → WAll F) : sProp 𝕄 :=
  iprop(semVal (bar c) 0 ∗ tbl (F := F) c ∗ (mX.view.loc (c : Thread nD τ) ↦{fullShare} xs c)
    ∗ (mW.view.loc (c : Thread nD τ) ↦{fullShare} ws c) ∗ (mO.view.loc (c : Thread nD τ) ↦{fullShare} outOf xs ws c) ∗ ow c 0)

omit [FloatOps F] in
theorem w_halves (w : WAll F) : (mW.view.loc (c : Thread nD τ) ↦{fullShare} w : sProp 𝕄)
    ⊣⊢ iprop((mW.view.loc (c : Thread nD τ) ↦{qs 0} w) ∗ mW.view.loc (c : Thread nD τ) ↦{qs 1} w) :=
  pointsTo_share (PosShare.mem_left_op_right fullShare)

/-- The kernel's region from its storage to its storage. -/
theorem region_wp (ws : Dev nD → WAll F) :
    iprop(before xs K c ws ∗ scopedSems0 (c : Thread nD τ) ∗ scopedBufs (c : Thread nD τ))
      ⊢ wp frame (wpE 𝔻 𝕍 (c : Thread nD τ) (some (.inr 11))) Set.univ (Pipeline.prun pcfgs (0 : Fin 1)) fun _ =>
          iprop(leaves xs c ws ∗ scopedSems0 (c : Thread nD τ) ∗ scopedBufs (c : Thread nD τ)) := by
  have hp := prun_wp c _ _ (loop_from xs K c (idle (F := F) c) ws)
  rw [sems_eq, bufs_eq]
  unfold before kit
  iintro ⟨⟨#HC, ⟨Hop, Hat, Hcr, Ht, Hc, HO⟩, Htb, HX, HW, Hout⟩, ⟨⟨S0, S1, S2, S3⟩, HS⟩, B0, B1, B2, Bo, Br, Ba, By, Bt, Bb⟩
  iapply (fupd_wp frame (wpE 𝔻 𝕍 (c : Thread nD τ) (some (.inr 11))) Set.univ _ _)
  imod (open_own xs (txOf xs ws) K c) $$ [Hop HS] with ⟨Hi, Hf⟩
  · isplitr; · iexact HC
    isplitl [Hop]; · unfold opens; iexact Hop
    iexact HS
  imodintro
  ihave HW := (w_halves c (ws c)).1 $$ HW
  icases HW with ⟨W0, W1⟩
  ihave Hr := (r_cut c) $$ Br
  ihave HD := (dealt c) $$ [Hr Hf Ht Hc]
  · isplitl [Hr]; · iexact Hr
    isplitl [Hf]; · iexact Hf
    isplitl [Ht] <;> iassumption
  ihave Hlev := (ctx_lev xs (txOf xs ws) K) $$ HC
  iapply (wp_fupd frame (wpE 𝔻 𝕍 (c : Thread nD τ) (some (.inr 11))) Set.univ _ _)
  iapply (wp_wand_r frame _ Set.univ)
  isplitl [W0 W1 S0 S1 S2 S3 B0 B1 B2 HX HD Hat Hcr HO Htb Hout Bo Ba By Bt Bb Hi]
  · iapply hp
    isplitl [Htb]; · iexact Htb
    unfold XX hold back holdX P0r
    isplitl [B1 W0 S1]
    · isplitl [B1]; · iexact B1
      isplitl [W0] <;> iassumption
    isplitl [B2 W1 S2]
    · isplitl [B2]; · iexact B2
      isplitl [W1] <;> iassumption
    isplitl [B0 HX S0]
    · isplitl [B0]; · iexact B0
      isplitl [HX] <;> iassumption
    isplitr [HO]
    · isplitr; · iexact HC
      isplitl [Hi Hout S3]
      · isplitl [Hi]; · iexact Hi
        isplitl [Hout] <;> iassumption
      isplitl [HD]; · iexact HD
      isplitl [Hat]; · iexact Hat
      isplitl [Hcr]; · iexact Hcr
      isplitl [Bb]; · iexact Bb
      isplitl [Bt]; · iexact Bt
      isplitl [Bo]; · iexact Bo
      isplitl [Ba] <;> iassumption
    · isplitl [HO]; · iexact HO
      iexact Hlev
  · iintro %r ⟨H0, H1, HO, H8, How⟩
    unfold hold back gotO P8 leaves
    icases H0 with ⟨B1, W0, S1⟩
    icases H1 with ⟨B2, W1, S2⟩
    icases HO with ⟨Bo, Hout, S3⟩
    icases H8 with ⟨Hi, HX, S0, Htb, Hat, Hr, Hd, Bx, Bb, Bt, Ba, By⟩
    imod (close_own xs (txOf xs ws) K c) $$ [Hi Hd] with HS
    · isplitr; · iexact HC
      isplitl [Hi] <;> iassumption
    ihave #Hbi := (ctx_bar xs (txOf xs ws) K c) $$ HC
    imod (Rounds.cell_close EB (sched xs (txOf xs ws)) (Set.mem_univ (K (bar c))) (fun h => h) (R := 0 + 1) (duties_later xs (txOf xs ws) (bar c))) $$ [Hat] with Hz
    · isplitr
      · iexact Hbi
      · iexact Hat
    imodintro
    isplitl [Hz Htb HX W0 W1 Hout How]
    · isplitl [Hz]; · iexact Hz
      isplitl [Htb]; · iexact Htb
      isplitl [HX]; · iexact HX
      isplitl [W0 W1]
      · iapply (w_halves c (ws c)).2
        isplitl [W0] <;> iassumption
      isplitl [Hout] <;> iassumption
    isplitl [S0 S1 S2 S3 HS]
    · isplitr [HS]
      · isplitl [S0]; · iexact S0
        isplitl [S1]; · iexact S1
        isplitl [S2] <;> iassumption
      · iexact HS
    isplitl [Bx]; · iexists xs c; iexact Bx
    isplitl [B1]; · iexact B1
    isplitl [B2]; · iexact B2
    isplitl [Bo]; · iexists outOf xs ws c; iapply (show (((stage0_2 (0 : Fin 1)).view.loc (c : Thread nD τ)) ↦{fullShare} oIn (0 : Fin 1) (outOf xs ws c) : sProp 𝕄) ⊢ oP c (outOf xs ws c) from Entails.refl _) $$ Bo
    isplitl [Hr]; · iapply (r_join c) $$ Hr
    isplitl [Ba]; · iexact Ba
    isplitl [By]; · iexact By
    isplitl [Bt] <;> iassumption

/-- The call: from the boundary of the host's program to that boundary. -/
theorem call_wp (ws : Dev nD → WAll F) {β : Type} (k : PUnit → Prog (TpuEff nD τ sig (Elt F) (Pipeline.Sig Λ₀ (Fin 1) fun p => (pcfgs (F := F) p).Adm) Proc.tc) β) (Q : β → sProp 𝕄) :
    iprop((iprop(boundary (c : Thread nD τ) ∗ leaves xs c ws) -∗ wp frame (wpE 𝔻 𝕍 (c : Thread nD τ) none) Set.univ (k ⟨⟩) Q)
        ∗ boundary (c : Thread nD τ) ∗ before xs K c ws)
      ⊢ wp frame (wpE 𝔻 𝕍 (c : Thread nD τ) none) Set.univ (.op (.customCall (entry (0 : Fin 1)) ()) k) Q := by
  unfold boundary
  iintro ⟨Hk, ⟨Hsc, Hss, Hop⟩, Hb⟩
  have hr := region_wp xs K c ws
  have e : 𝔻 .tc (entry (0 : Fin 1)) () = Pipeline.prun pcfgs (0 : Fin 1) := rfl
  rw [← e] at hr
  iapply (wp_customCall 𝕍 (c : Thread nD τ) none Set.univ (ℓ := entry (0 : Fin 1)) (a := ()) (k := k) (Q := Q) (Sum.inr 11 : (𝕍).V) (fun u hu => by cases hu)) $$ Hsc
  iintro Hsc
  iapply (wp_wand_r frame _ Set.univ)
  isplitl [Hb Hss Hsc]
  · iapply hr
    isplitl [Hb]; · iexact Hb
    isplitl [Hss] <;> iassumption
  · iintro %r ⟨Hl, Hss, Hsc⟩
    iapply (Entails.of_eq (kernelExitSpec_apply (c : Thread nD τ) _).symm)
    isplitl [Hss]; · iexact Hss
    iintro Hss
    isplitl [Hsc]; · iexact Hsc
    iintro Hsc
    iapply Hk
    isplitr [Hl]
    · isplitl [Hsc]; · iexact Hsc
      isplitl [Hss] <;> iassumption
    · iexact Hl

end Cert.A2A

end

end
-- ==== Proof.Order.lean ====
/-
The table of quarters that the host computes from the device's index.
-/
module

public import proofs.«01_k».proof.Proof.Call
public import Idealize.ShloMosaic.Lib.StableHlo.RunRead
public import proofs.«01_k».proof.Proof.Gen.KernelIdeal.Regions

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

variable (m : (ℓ : Loc nD τ sig) → Buf (Elt F) ℓ)

/-- The quarter of the device, as the host rounds the quotient down. -/
def hostQuarter (w : BitVec 32) : IVec S_ 32 :=
  let a : IVec S_ 32 := Host.remui (Host.divui (constantI S_ 32 w) (constantI S_ 32 1#32)) (constantI S_ 32 32#32)
  let b : IVec S_ 32 := constantI S_ 32 8#32
  select
    (andi (cmpi CmpIPredicate.ne (signi a) (signi b)) (cmpi CmpIPredicate.ne (Host.remsi a b) (constantI S_ 32 0#32)))
    (subi (Host.divsi a b) (constantI S_ 32 1#32)) (Host.divsi a b)

/-- The host's remainder by four, of the sign of the divisor. -/
def hostMod (v : IVec S4 32) : IVec S4 32 :=
  let d : IVec S_ 32 :=
    select (cmpi CmpIPredicate.eq (constantI S_ 32 4#32) (constantI S_ 32 0#32)) (constantI S_ 32 1#32) (constantI S_ 32 4#32)
  let r : IVec S4 32 := Host.remsi v (broadcastInDim S4 ![] bcast_S_S4 d)
  let z : IVec S4 32 := broadcastInDim S4 ![] bcast_S_S4 (constantI S_ 32 0#32)
  select
    (andi
      (cmpi CmpIPredicate.ne (cmpi CmpIPredicate.slt r z)
        (broadcastInDim S4 ![] bcast_S_S4 (cmpi CmpIPredicate.slt d (constantI S_ 32 0#32))))
      (cmpi CmpIPredicate.ne r z))
    (addi r (broadcastInDim S4 ![] bcast_S_S4 d)) r

/-- The host's table, entry by entry. -/
theorem host_eq : ∀ (c : Dev nD) (x : S4.Idx),
    hostMod (addi (broadcastInDim S4 ![] bcast_S_S4 (hostQuarter (Dev.word c))) (iotaInDim S4 32 0)) x = TT c x := by
  decide +kernel

/-- The table in memory when the kernel is called. -/
theorem table_eq (c : Dev nD) : V4 m c main_v9 = (TT c : S4.Idx → Elt F .i32) := by
  unfold V4 V3 V2 V1
  after_reads_simp
  simp only [StableHlo.TRef.ofBuf_toBuf]
  simp only [StableHlo.TRef.of, StableHlo.TRef.ofBuf, StableHlo.TRef.toBuf, cast_eq, eq_mpr_eq_cast]
  exact funext fun x => host_eq c x

end Cert.A2A

end

end
-- ==== Proof.Deal.lean ====
/-
What the launch deals each device: the cells of the protocol, the tokens of what it does for the others, the credits of what
they send to it.
-/
module

public import proofs.«01_k».proof.Proof.Order

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (tx : Dev nD → TBuf F) (K : GSem nD τ sig → ℕ)

/-! ## The cells and the tokens -/

set_option backward.proofsInPublic true in
def barE : Dev nD ↪ GSem nD τ sig where
  toFun := bar
  inj' a b h := congrArg (fun g : GSem nD τ sig => g.1.1) h

/-- A device's transfer semaphores. -/
def celE : Dev nD × (Fin 4 × Dev nD) ↪ GSem nD τ sig where
  toFun x := cel x.2.1 x.1 x.2.2
  inj' a b h := by
    have h1 : a.1 = b.1 := congrArg (fun g : GSem nD τ sig => g.1.1) h
    have h2 : talkSem a.2 = talkSem b.2 := congrArg (fun g : GSem nD τ sig => g.2) h
    exact Prod.ext h1 (talkSem.injective h2)

def barCells : Finset (GSem nD τ sig) := Finset.univ.map barE
def celCells : Finset (GSem nD τ sig) := Finset.univ.map celE

theorem cells_disjoint : Disjoint barCells celCells := by
  rw [Finset.disjoint_left]
  intro g h h'
  obtain ⟨c, -, rfl⟩ := Finset.mem_map.mp h
  obtain ⟨x, -, hx⟩ := Finset.mem_map.mp h'
  have := congrArg (fun g : GSem nD τ sig => g.2) hx
  cases this

/-- What device `c` does for device `j`: its signal, its block's leaving and arriving, its maximum's. -/
def tokAt (c j : Dev nD) : Fin 5 → GSem nD τ sig × ℕ × Dev nD
  | 0 => (bar j, 0, c)
  | 1 => (cel 0 c j, 0, j)
  | 2 => (cel 1 j c, 0, c)
  | 3 => (cel 2 c j, 0, j)
  | 4 => (cel 3 j c, 0, c)

/-- Which of the five a token is, and for whom: read off its cell. -/
theorem tokAt_inj : Function.Injective fun x : Dev nD × Dev nD × Fin 5 => tokAt x.1 x.2.1 x.2.2 := by
  have hs : ∀ (k k' : Fin 4) (j j' : Dev nD), (SemLoc.dma (semIx k j) : SemLoc sig) = .dma (semIx k' j') → k = k' ∧ j = j' := fun k k' j j' h =>
    Prod.mk.inj (talkSem.injective (a₁ := (k, j)) (a₂ := (k', j')) h)
  have hd {g g' : GSem nD τ sig × ℕ × Dev nD} (h : g = g') : g.1.1.1 = g'.1.1.1 ∧ g.1.2 = g'.1.2 ∧ g.2.2 = g'.2.2 := by subst h; exact ⟨rfl, rfl, rfl⟩
  rintro ⟨c, j, k⟩ ⟨c', j', k'⟩ h
  have h := hd h
  fin_cases k <;> fin_cases k' <;> obtain ⟨h1, h2, h3⟩ := h
  all_goals first
    | (exfalso; cases h2; done)
    | (have h1 : j = j' := h1; have h3 : c = c' := h3; subst h1 h3; rfl)
    | (have h1 : c = c' := h1; have h3 : j = j' := h3; subst h1 h3; rfl)
    | (exfalso; have h4 := (hs _ _ _ _ h2).1; exact absurd h4 (by decide))

def tokE : Dev nD × Dev nD × Fin 5 ↪ GSem nD τ sig × ℕ × Dev nD := ⟨_, tokAt_inj⟩
def allToks : Finset (GSem nD τ sig × ℕ × Dev nD) := Finset.univ.map tokE

omit [FloatOps F] in
theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem toks_dealt : (bigSep allToks fun x => (dutyTok EB x.1 x.2.1 x.2.2 : sProp 𝕄)) ⊢ bigSep Finset.univ (toks (F := F)) := by
  unfold allToks
  rw [bigSep_map, bigSep_univ_prod]
  refine bmono (F := F) _ fun c _ => ?_
  rw [bigSep_univ_prod]
  unfold toks
  refine BIBase.Entails.trans (bmono (F := F) _ (Ψ := tok1 (F := F) c) fun j _ => ?_) (bigSep_subset (Finset.erase_subset _ _))
  rw [fin5]
  unfold tok1
  exact Entails.of_eq rfl

/-! ## The credits -/

/-- What the others owe device `c`. -/
def dues (c : Dev nD) : CellTallies nD τ sig Unit := (∑ j, tA j c) + (∑ j, tR j c) + ∑ j, tB j c

theorem dues_sum : (∑ d, O₀ d) = ∑ d, dues d := by
  unfold O₀ dues oA oR oB
  simp only [Finset.sum_add_distrib]
  rw [Finset.sum_comm, Finset.sum_comm (f := fun c j => tR c j), Finset.sum_comm (f := fun c j => tB c j)]

/-- Tallies on a device's own cells. -/
def OnlyAt (c : Dev nD) (T : CellTallies nD τ sig Unit) : Prop := ∀ g, T g ≠ 0 → g.1 = (c : Thread nD τ)
theorem OnlyAt.zero (c : Dev nD) : OnlyAt c 0 := fun g h => absurd rfl h
theorem OnlyAt.add {c : Dev nD} {T T' : CellTallies nD τ sig Unit} (h : OnlyAt c T) (h' : OnlyAt c T') : OnlyAt c (T + T') := fun g hg => by
  by_cases h0 : T g = 0
  · refine h' g fun h1 => hg ?_
    rw [Pi.add_apply, h0, h1, add_zero]
  · exact h g h0
theorem OnlyAt.sum {c : Dev nD} (s : Finset (Dev nD)) (f : Dev nD → CellTallies nD τ sig Unit) (h : ∀ j, OnlyAt c (f j)) : OnlyAt c (∑ j ∈ s, f j) := by
  induction s using Finset.induction_on with
  | empty => rw [Finset.sum_empty]; exact .zero c
  | insert a s ha ih => rw [Finset.sum_insert ha]; exact (h a).add ih
theorem OnlyAt.at (c : Dev nD) (sm : SemLoc sig) (n : ℕ) : OnlyAt c (tallyAt ((c : Thread nD τ), sm) () n) := fun g hg => by
  by_contra h
  refine hg (tallyAt_ne_cell (fun e => h ?_) () n)
  rw [e]
theorem onlyAt_dues (c : Dev nD) : OnlyAt c (dues c) := by
  unfold dues
  refine ((OnlyAt.sum _ _ fun j => ?_).add (OnlyAt.sum _ _ fun j => ?_)).add (OnlyAt.sum _ _ fun j => ?_)
  · unfold tA; split; exacts [.zero c, .at c _ _]
  · unfold tR; split; exacts [.zero c, .at c _ _]
  · unfold tB; split; exacts [.zero c, .at c _ _]

theorem sum_tB (c : Dev nD) : (∑ j, tB j c) = tallyAt (bar c) () 31 := by
  have h : ∀ s : Finset (Dev nD), (∑ j ∈ s, (tallyAt (bar c) () 1 : CellTallies nD τ sig Unit)) = tallyAt (bar c) () s.card := fun s => by
    induction s using Finset.induction_on with
    | empty => rw [Finset.sum_empty, Finset.card_empty, tallyAt_zero]
    | insert a s ha ih => rw [Finset.sum_insert ha, ih, tallyAt_add, Finset.card_insert_of_notMem ha, Nat.add_comm]
  rw [← Finset.add_sum_erase _ _ (Finset.mem_univ c), show tB c c = 0 from if_pos rfl, zero_add,
    Finset.sum_congr rfl fun j hj => show tB j c = _ from if_neg fun e => (Finset.mem_erase.mp hj).1 e.symm, h,
    Finset.card_erase_of_mem (Finset.mem_univ c)]
  rfl

omit [FloatOps F] in
theorem creds (c : Dev nD) : (Pipeline.launchCred O₀ c : sProp 𝕄) ⊢ iprop(cred (tallyAt (bar c) () 31) ∗ crds (F := F) c) := by
  rw [Pipeline.launchCred_of_sum O₀ dues dues_sum onlyAt_dues c]
  unfold dues
  rw [sum_tB]
  have hA : (cred (∑ j, tA j c) : sProp 𝕄) ⊢ bigSep (Finset.univ.erase c) fun j => cred (tallyAt (cel 3 c j) () NA) := by
    rw [Pipeline.cred_finsetSum]
    refine BIBase.Entails.trans (bigSep_subset (Finset.erase_subset c _)) (bmono (F := F) _ fun j hj => ?_)
    rw [show tA j c = _ from if_neg fun e => (Finset.mem_erase.mp hj).1 e.symm]
  have hR : (cred (∑ j, tR j c) : sProp 𝕄) ⊢ bigSep (Finset.univ.erase c) fun j => cred (tallyAt (cel 1 c j) () NX) := by
    rw [Pipeline.cred_finsetSum]
    refine BIBase.Entails.trans (bigSep_subset (Finset.erase_subset c _)) (bmono (F := F) _ fun j hj => ?_)
    rw [show tR j c = _ from if_neg fun e => (Finset.mem_erase.mp hj).1 e.symm]
  unfold crds crd1
  iintro H
  ihave H := (cred_add _ _).1 $$ H
  icases H with ⟨H, HB⟩
  ihave H := (cred_add _ _).1 $$ H
  icases H with ⟨HA, HR⟩
  isplitl [HB]; · iexact HB
  iapply (Entails.of_eq (bsep _ _ _).symm)
  isplitl [HR]
  · iapply hR $$ HR
  · iapply hA $$ HA

/-! ## All of it at once -/

/-- The ghost state's launch element, given to device 0. -/
def G (c : Dev nD) : sProp 𝕄 := if c = 0 then BI.own (EB (launchOf barCells celCells allToks)) else iprop(emp)

omit [FloatOps F] in
theorem G_intro : (BI.own (EB (launchOf barCells celCells allToks)) : sProp 𝕄) ⊢ bigSep Finset.univ (G (F := F)) := by
  rw [bigSep_univ_at _ (0 : Dev nD), bigSep_congr (s := Finset.univ.erase (0 : Dev nD)) (Ψ := fun _ => (iprop(emp) : sProp 𝕄))
    (fun c hc => show G (F := F) c = _ from if_neg (Finset.mem_erase.mp hc).1), bemp, semp]
  exact Entails.of_eq (show _ = G (F := F) 0 from (if_pos rfl).symm)
omit [FloatOps F] in
theorem G_elim : bigSep Finset.univ (G (F := F)) ⊢ (BI.own (EB (launchOf barCells celCells allToks)) : sProp 𝕄) := by
  refine BIBase.Entails.trans (bigSep_elim (Finset.mem_univ (0 : Dev nD))) ?_
  exact Entails.of_eq (show G (F := F) 0 = _ from if_pos rfl)

def u₀ (a : (p : Fin 1) → (pcfgs (F := F) p).Adm) : UU :=
  (initOf (Pipeline.cells (Pipeline.pin (pcfgs (F := F)) a) (cellOf_inj a)) (Pipeline.launchToks (Pipeline.pin (pcfgs (F := F)) a) (cellOf_inj a)),
    (launchOf barCells celCells allToks, (1 : Counters)))

theorem u₀_split (a : (p : Fin 1) → (pcfgs (F := F) p).Adm) : (ownU (u₀ a) : sProp 𝕄)
    ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ (G (F := F))) := by
  have h : (ownU (u₀ a) : sProp 𝕄) ⊢ iprop(BI.own (EP (initOf (Pipeline.cells (Pipeline.pin (pcfgs (F := F)) a) (cellOf_inj a)) (Pipeline.launchToks (Pipeline.pin (pcfgs (F := F)) a) (cellOf_inj a)))) ∗ BI.own (EB (launchOf barCells celCells allToks))) :=
    BI.own_op_elim ((uEmb (nD := nD) (sig := sig) (Ix := Unit) (Val := Elt F) (Name := ℕ) (U := UU) (Lvl := ℕ)).toEmb.op_of_mem (Prod.mk_mem_op (URA.mem_op_one _) (URA.mem_one_op (launchOf barCells celCells allToks, (1 : Counters)))))
  iintro H
  ihave H := h $$ H
  icases H with ⟨HP, HB⟩
  imodintro
  isplitl [HP]; · iexact HP
  iapply (G_intro (F := F)) $$ HB

/-- What rides along with a device until the call. -/
def aboard (c : Dev nD) : sProp 𝕄 := iprop(∃ K, ctx xs tx K ∗ kit (F := F) c)

omit [FloatOps F] in
theorem unscoped_eq (c : Dev nD) : (unscopedSems0 c : sProp 𝕄) = semVal (bar c) 0 := by
  unfold unscopedSems0
  rw [bigSep_eq_bigSepL_of_eq [SemLoc.reg barS] (by decide) (by decide)]
  rfl

theorem deal (g : Dev nD → PrngReg) :
    iprop((bigSep Finset.univ fun c : Dev nD => iprop(unscopedSems0 c ∗ owes (c : Thread nD τ) (O₀ c) ∅ ∗ Pipeline.launchCred O₀ c ∗ prngReg c (g c) ∗ G (F := F) c))
        ∗ levAts L lv)
      ⊢ (|={Set.univ}=> bigSep Finset.univ (aboard xs tx) : sProp 𝕄) := by
  have hf := Rounds.fund_launch EB (sched xs tx) cells_disjoint (fun _ _ h => h) allToks (Es := Set.univ)
  have hS (Φ : GSem nD τ sig → sProp 𝕄) : bigSep barCells Φ = bigSep Finset.univ fun c : Dev nD => Φ (bar c) := by
    unfold barCells; rw [bigSep_map]; rfl
  have hD (Φ : GSem nD τ sig → sProp 𝕄) : bigSep celCells Φ = bigSep Finset.univ fun c : Dev nD => bigSep Finset.univ fun x : Fin 4 × Dev nD => Φ (cel x.1 c x.2) := by
    unfold celCells; rw [bigSep_map, bigSep_univ_prod]; rfl
  rw [hS, hS, hS, hD] at hf
  rw [bsep, bsep, bsep, bsep]
  iintro ⟨⟨Hs, Ho, Hc, -, HG⟩, #Hlev⟩
  ihave HG := (G_elim (F := F)) $$ HG
  ihave Hs := (Entails.of_eq (bigSep_congr (s := Finset.univ) fun c _ => unscoped_eq (F := F) c)) $$ Hs
  imod hf $$ [Hs HG] with ⟨%K, -, #HI, #HR, Hat, Hop, Ht⟩
  · isplitl [Hs] <;> iassumption
  imodintro
  ihave Ht := (toks_dealt (F := F)) $$ Ht
  ihave Hc := (bmono (F := F) _ fun c _ => creds (F := F) c) $$ Hc
  ihave Hc := (Entails.of_eq (bsep _ _ _)) $$ Hc
  icases Hc with ⟨Hb, Hc⟩
  ihave #HC : ctx xs tx K $$ []
  · unfold ctx
    isplitr
    · iapply (bigSep_intro_persistent (R := bigSep (barCells ∪ celCells) fun g => cellInv EB (sched xs tx) (K g) g) (S := Finset.univ)
        (Φ := fun c : Dev nD => cellInv EB (sched xs tx) (K (bar c)) (bar c)) fun c _ =>
          bigSep_elim (Φ := fun g => cellInv EB (sched xs tx) (K g) g) (Finset.mem_union_left _ (Finset.mem_map_of_mem barE (Finset.mem_univ c))))
      iexact HI
    isplitr
    · iapply (bigSep_intro_persistent (R := bigSep (barCells ∪ celCells) fun g => cellInv EB (sched xs tx) (K g) g) (S := Finset.univ)
        (Φ := fun x : Fin 4 × Dev nD × Dev nD => cellInv EB (sched xs tx) (K (cel x.1 x.2.1 x.2.2)) (cel x.1 x.2.1 x.2.2)) fun x _ =>
          bigSep_elim (Φ := fun g => cellInv EB (sched xs tx) (K g) g) (Finset.mem_union_right _ (Finset.mem_map_of_mem celE (Finset.mem_univ (x.2.1, (x.1, x.2.2))))))
      iexact HI
    isplitr; · iexact HR
    iexact Hlev
  have hk (c : Dev nD) : iprop(ctx xs tx K ∗ (bigSep Finset.univ fun x : Fin 4 × Dev nD => openTok EB (cel x.1 c x.2)) ∗ atPos EB (bar c) 0 ∅ 0
      ∗ cred (tallyAt (bar c) () 31) ∗ toks (F := F) c ∗ crds (F := F) c ∗ owes (c : Thread nD τ) (O₀ c) ∅) ⊢ aboard xs tx c := by
    unfold aboard kit opens ow
    iintro ⟨HC, H1, H2, H3, H4, H5, H6⟩
    iexists K
    isplitl [HC]; · iexact HC
    isplitl [H1]; · iexact H1
    isplitl [H2]; · iexact H2
    isplitl [H3]; · iexact H3
    isplitl [H4]; · iexact H4
    isplitl [H5]; · iexact H5
    iexists ∅
    iexact H6
  have hk' := bmono (F := F) Finset.univ fun c _ => hk c
  rw [bsep, bsep, bsep, bsep, bsep, bsep] at hk'
  iapply hk'
  isplitr
  · iapply (BI.bigSep_of_persistent Finset.univ (ctx xs tx K))
    iexact HC
  isplitl [Hop]; · iexact Hop
  isplitl [Hat]; · iexact Hat
  isplitl [Hb]; · iexact Hb
  isplitl [Ht]; · iexact Ht
  isplitl [Hc]; · iexact Hc
  iexact Ho

end Cert.A2A

end

end
-- ==== Proof.Launch.lean ====
/-
The run of the whole program on all devices, at any float values.
-/
module

public import proofs.«01_k».proof.Proof.Deal
public import Idealize.ShloMosaic.Lib.Pipeline.CollectiveSegs

@[expose] public section

set_option maxRecDepth 16384

noncomputable section

namespace Cert.A2A

open Cert.KernelIdeal Cert.KernelIdeal.Gen

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (kernel pipe entry HostSeg Seg ucRefs)

local notation "𝔻" => defs (F := F)
local notation "𝕍" => Variants.lift 𝒱₀

variable (m : (ℓ : Loc nD τ sig) → Buf (Elt F) ℓ)

/-- The operands as the devices hold them at launch. -/
def xsM (c : Dev nD) : XBuf F := m ((c : Thread nD τ).loc main_arg0)
def wsM (c : Dev nD) : WAll F := m ((c : Thread nD τ).loc main_arg1)

/-- The unscoped buffers once the kernel has run. -/
def VF (c : Dev nD) : Valuation τ sig (Elt F) := Function.update (V4 m c) main_v10 (outOf (xsM m) (wsM m) c)

/-! ## The kernel's operands out of the unscoped buffers -/

abbrev four : Finset (DevRef τ sig) := {Proc.devRef .tc main_arg0, Proc.devRef .tc main_arg1, Proc.devRef .tc main_v9, Proc.devRef .tc main_v10}

theorem four_sub : four ⊆ ucRefs τ sig := by
  intro b hb
  simp only [four, Finset.mem_insert, Finset.mem_singleton] at hb
  rcases hb with rfl | rfl | rfl | rfl
  · exact Finset.mem_filter.mpr ⟨StableHlo.devRef_mem_tcRefs main_arg0, by decide⟩
  · exact Finset.mem_filter.mpr ⟨StableHlo.devRef_mem_tcRefs main_arg1, by decide⟩
  · exact Finset.mem_filter.mpr ⟨StableHlo.devRef_mem_tcRefs main_v9, by decide⟩
  · exact Finset.mem_filter.mpr ⟨StableHlo.devRef_mem_tcRefs main_v10, by decide⟩

/-- The unscoped buffers that the kernel leaves alone. -/
def leftover (c : Dev nD) : sProp 𝕄 := StableHlo.held (c : Thread nD τ) (ucRefs τ sig \ four) (V4 m c)

omit [FloatOps F] in
theorem four_eq (c : Dev nD) (V : Valuation τ sig (Elt F)) : (StableHlo.held (c : Thread nD τ) four V : sProp 𝕄)
    = iprop((mX.view.loc (c : Thread nD τ) ↦{fullShare} V main_arg0) ∗ (mW.view.loc (c : Thread nD τ) ↦{fullShare} V main_arg1)
      ∗ (tb.view.loc (c : Thread nD τ) ↦{fullShare} V main_v9) ∗ (mO.view.loc (c : Thread nD τ) ↦{fullShare} V main_v10)) := by
  unfold StableHlo.held
  rw [bigSep_eq_bigSepL_of_eq [Proc.devRef .tc main_arg0, Proc.devRef .tc main_arg1, Proc.devRef .tc main_v9, Proc.devRef .tc main_v10] (by decide) (by decide)]
  rfl

theorem V4_arg0 (c : Dev nD) : V4 m c main_arg0 = xsM m c :=
  (V5_of m (fun _ r c => V4 m c r) c main_arg0 (by decide)).symm.trans (V5_main_arg0 m (fun _ r c => V4 m c r) c)
theorem V4_arg1 (c : Dev nD) : V4 m c main_arg1 = wsM m c :=
  (V5_of m (fun _ r c => V4 m c r) c main_arg1 (by decide)).symm.trans (V5_main_arg1 m (fun _ r c => V4 m c r) c)

theorem held_V4 (c : Dev nD) : (StableHlo.held (c : Thread nD τ) (ucRefs τ sig) (V4 m c) : sProp 𝕄)
    = iprop(((mX.view.loc (c : Thread nD τ) ↦{fullShare} xsM m c) ∗ (mW.view.loc (c : Thread nD τ) ↦{fullShare} wsM m c)
      ∗ tbl (F := F) c ∗ (mO.view.loc (c : Thread nD τ) ↦{fullShare} V4 m c main_v10)) ∗ leftover m c) := by
  rw [StableHlo.held_sub_split _ four_sub, four_eq, table_eq]
  rw [V4_arg0, V4_arg1]
  rfl

theorem VF_of (c : Dev nD) (b : DevRef τ sig) (h : b ≠ Proc.devRef .tc main_v10) : VF m c b = V4 m c b := Function.update_of_ne h _ _
theorem VF_out (c : Dev nD) : VF m c main_v10 = outOf (xsM m) (wsM m) c := Function.update_self _ _ _

theorem held_VF (c : Dev nD) : (StableHlo.held (c : Thread nD τ) (ucRefs τ sig) (VF m c) : sProp 𝕄)
    = iprop(((mX.view.loc (c : Thread nD τ) ↦{fullShare} xsM m c) ∗ (mW.view.loc (c : Thread nD τ) ↦{fullShare} wsM m c)
      ∗ tbl (F := F) c ∗ (mO.view.loc (c : Thread nD τ) ↦{fullShare} outOf (xsM m) (wsM m) c)) ∗ leftover m c) := by
  rw [StableHlo.held_sub_split _ four_sub, four_eq, VF_of m c main_arg0 (by decide), VF_of m c main_arg1 (by decide), VF_of m c main_v9 (by decide),
    VF_out, table_eq, V4_arg0, V4_arg1]
  refine congrArg₂ (fun A B : sProp 𝕄 => iprop(A ∗ B)) rfl ?_
  unfold leftover StableHlo.held
  refine bigSep_congr fun b hb => ?_
  rw [VF_of m c b fun e => (Finset.mem_sdiff.mp hb).2 (by rw [e]; decide)]

/-! ## The call as a segment of the host's program -/

def aboardM (c : Dev nD) : sProp 𝕄 := aboard (xsM m) (txOf (xsM m) (wsM m)) c

set_option backward.isDefEq.respectTransparency.types false in
def callSeg : HostSeg (Ix := Unit) (Name := ℕ) (U := UU) (Lvl := ℕ) (pcfgs (F := F)) defs₀ 𝒱₀ L lv where
  prog := Prog.lift (.customCall (entry 0) ())
  pre c := iprop(StableHlo.held (c : Thread nD τ) (ucRefs τ sig) (V4 m c) ∗ aboardM m c)
  post c := iprop(StableHlo.held (c : Thread nD τ) (ucRefs τ sig) (VF m c) ∗ semVal (bar c) 0 ∗ ow (F := F) c 0)
  run c {β} k Q := by
    rw [held_V4, held_VF]
    show _ ⊢ wp frame (wpE 𝔻 𝕍 (c : Thread nD τ) none) Set.univ (.op (.customCall (entry (0 : Fin 1)) ()) k) Q
    unfold aboardM aboard
    iintro ⟨Hk, Hb, ⟨⟨⟨HX, HW, HT, HO⟩, Hr⟩, ⟨%K, HC, HK⟩⟩, -⟩
    have h := call_wp (xsM m) K c (wsM m) k Q
    iapply h
    isplitl [Hk Hr]
    · unfold leaves
      iintro ⟨Hb, Hs, HT, HX, HW, HO, How⟩
      iapply Hk
      isplitl [Hb]; · iexact Hb
      isplitr [Hs How]
      · isplitr [Hr]
        · isplitl [HX]; · iexact HX
          isplitl [HW]; · iexact HW
          isplitl [HT] <;> iassumption
        · iexact Hr
      isplitl [Hs] <;> iassumption
    isplitl [Hb]; · iexact Hb
    unfold before
    isplitl [HC]; · iexact HC
    isplitl [HK]; · iexact HK
    isplitl [HT]; · iexact HT
    isplitl [HX]; · iexact HX
    isplitl [HW]; · iexact HW
    iexists (V4 m c main_v10)
    iexact HO

/-! ## The run -/

/-- The pipeline library's admissible contents and proof data, of which the run makes no use. -/
def admAny (p : Fin 1) : (pcfgs (F := F) p).Adm := match p with
  | 0 => adm (0 : Dev nD)
  | ⟨_ + 1, h⟩ => absurd h (Nat.not_lt.2 (Nat.le_add_left _ _))

def datAny (p : Fin 1) (c : Dev nD) : Pipeline.Dat τ (Elt F) Unit ℕ UU ℕ (Pipeline.pin (pcfgs (F := F)) (admAny (F := F)) p) c where
  A _ := m _
  after _ _ _ := Classical.arbitrary _
  Φ _ := iprop(emp)
  q _ := fullShare
  owed _ := 0

abbrev parts (c : Dev nD) : List (Seg (pcfgs (F := F)) (admAny (F := F)) (datAny m) () defs₀ 𝒱₀ L lv) :=
  [.host (seg0 m 𝒱₀ L lv (fun _ => aboardM m) c), .host (seg1 m 𝒱₀ L lv fun _ => aboardM m), .host (seg2 m 𝒱₀ L lv fun _ => aboardM m),
    .host (seg3 m 𝒱₀ L lv fun _ => aboardM m), .host (callSeg m)]

set_option backward.isDefEq.respectTransparency.types false in
/-- Every fair execution ends; each device then holds its operands as launched and the computed block of the result, and
    every semaphore counter is zero. -/
theorem run_main (ρ : Dev nD → PrngReg) :
    θ_run defs (onTc (τ := τ) (main (F := F))) ⟨m, fun _ => 0, ρ⟩ (fun r =>
      (∀ c : Dev nD, r.2.mem ((c : Thread nD τ).loc main_arg0) = xsM m c ∧ r.2.mem ((c : Thread nD τ).loc main_arg1) = wsM m c
        ∧ r.2.mem ((c : Thread nD τ).loc main_v10) = outOf (xsM m) (wsM m) c) ∧ r.2.sem = fun _ => 0) := by
  refine Pipeline.θ_run_regions_kit_dev_sems (pcfgs (F := F)) admAny (datAny m) () (cellOf_inj admAny) EP defs₀ 𝒱₀ L lv m ρ main (parts m)
    (fun c Q => by
      rewrite [main_chain c, Seg.run_eq_chain,
        show (parts m c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [parts, Seg.pipes_host, Seg.pipes_nil]; decide) O₀ L_of_ne (G (F := F)) (u₀ admAny) (u₀_split admAny)
    (T₀ := fun c => iprop(StableHlo.held (c : Thread nD τ) (ucRefs τ sig) (V0 m c) ∗ aboardM m c))
    (Tₙ := fun c => iprop(StableHlo.held (c : Thread nD τ) (ucRefs τ sig) (VF m c) ∗ semVal (bar c) 0))
    (hch := fun c => ⟨.rfl, .rfl, .rfl, .rfl, .rfl, ?_⟩)
    (hinit := ?_)
    (QY := fun c s => (s.mem ((c : Thread nD τ).loc main_arg0) = xsM m c ∧ s.mem ((c : Thread nD τ).loc main_arg1) = wsM m c
        ∧ s.mem ((c : Thread nD τ).loc main_v10) = outOf (xsM m) (wsM m) c) ∧ ∀ sm : SemLoc sig, sm.isScoped .tc = false → s.sem ((c : Thread nD τ), sm) = 0)
    (hfin := fun c s' => ?_) (hQ := fun s h hs => ⟨fun c => (h c).1, sem_eq_zero hs fun c => (h c).2⟩)
  · show iprop(StableHlo.held (c : Thread nD τ) (ucRefs τ sig) (VF m c) ∗ semVal (bar c) 0 ∗ ow (F := F) c 0)
      ⊢ iprop((StableHlo.held (c : Thread nD τ) (ucRefs τ sig) (VF m c) ∗ semVal (bar c) 0) ∗ ∃ W, owes (c : Thread nD τ) (0 : CellTallies nD τ sig Unit) W)
    unfold ow
    iintro ⟨Hh, Hs, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    have hd := deal (xsM m) (txOf (xsM m) (wsM m)) ρ
    iintro ⟨H, Hla⟩
    ihave H' := hsplit $$ H
    icases H' with ⟨Hh, Hr⟩
    imod hd $$ [Hr Hla] with HE
    · isplitl [Hr]; · iexact Hr
      iexact Hla
    imodintro
    iapply (Entails.of_eq (bsep _ _ _).symm)
    isplitl [Hh]; · iexact Hh
    iexact HE
  · have hr := Pipeline.unscopedSems0_read (nD := nD) (τ := τ) (sig := sig) (Val := Elt F) (Ix := Unit) (Name := ℕ) (U := UU) (Lvl := ℕ) (X := semVal (bar c) 0) (c := c)
      (by rw [unscoped_eq]; exact fupd_intro) s'
    unfold StableHlo.held
    iintro ⟨⟨Hh, Hs⟩, HSI⟩
    imod hr $$ [Hs HSI] with ⟨%hz, HSI⟩
    · isplitl [Hs] <;> iassumption
    ihave Hr := (pointsTo_read_all (ucRefs τ sig) (fun b => ((c : Thread nD τ).1, b)) (VF m c) s') $$ [Hh HSI]
    · isplitl [Hh] <;> iassumption
    icases Hr with ⟨%h, HSI⟩
    imodintro
    isplitr
    · ipureintro
      refine ⟨⟨?_, ?_, ?_⟩, hz⟩
      · exact (h (Proc.devRef .tc main_arg0) (Finset.mem_filter.mpr ⟨StableHlo.devRef_mem_tcRefs main_arg0, by decide⟩)).trans
          ((VF_of m c main_arg0 (by decide)).trans (V4_arg0 m c))
      · exact (h (Proc.devRef .tc main_arg1) (Finset.mem_filter.mpr ⟨StableHlo.devRef_mem_tcRefs main_arg1, by decide⟩)).trans
          ((VF_of m c main_arg1 (by decide)).trans (V4_arg1 m c))
      · exact (h (Proc.devRef .tc main_v10) (Finset.mem_filter.mpr ⟨StableHlo.devRef_mem_tcRefs main_v10, by decide⟩)).trans (VF_out m c)
    · iexact HSI

end Cert.A2A

end

end
-- ==== Proof.Same.lean ====
/-
The kernel's program and its ideal program are one text printed in two vocabularies. Here they are shown equal, piece by
piece, so that a run of the one is a run of the other.
-/
module

public import proofs.«01_k».proof.Proof.Gen.Kernel
public import proofs.«01_k».proof.Proof.Gen.KernelIdeal

@[expose] public section

set_option maxRecDepth 16384

noncomputable section

namespace Cert.Same

open Idealize.ShloMosaic Idealize.ShloMosaic.TcCoe Idealize.SL.Sem

variable {F : FTy → Type} [FloatOps F]

/-- The bodies' tables agree. -/
theorem defs0_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

set_option maxHeartbeats 4000000 in
/-- So do the tables with the pipeline's regions. -/
theorem defs_eq : Cert.Kernel.defs (F := F) = Cert.KernelIdeal.defs (F := F) := by
  refine (congrArg (Pipeline.defs (Cert.Kernel.pcfgs (F := F))) (defs0_eq (F := F))).trans ?_
  unfold Cert.KernelIdeal.defs
  rfl

/-- Two sequences agree when their heads and their tails do. -/
theorem bind_step.{w} {M : Type → Type w} [Monad M] {a b : M PUnit} {f g : PUnit → M PUnit} (h : a = b)
    (k : ∀ u, f u = g u) : a >>= f = b >>= g := by
  subst h; rw [show f = g from funext k]

set_option maxHeartbeats 4000000 in
/-- The host's quotient. -/
theorem divide_eq : Cert.Kernel.fn_floor_divide.body (F := F) (.of Cert.Kernel.main_v4) (.of Cert.Kernel.main_c_1) Cert.Kernel.main_call0
    = Cert.KernelIdeal.fn_floor_divide.body (F := F) (.of Cert.KernelIdeal.main_v4) (.of Cert.KernelIdeal.main_c_1) Cert.KernelIdeal.main_call0 := by
  delta Cert.Kernel.fn_floor_divide.body Cert.KernelIdeal.fn_floor_divide.body Cert.Kernel.fn_where.body Cert.KernelIdeal.fn_where.body
  iterate 11 refine bind_step rfl fun _ => ?_
  refine bind_step (bind_step rfl fun _ => rfl) fun _ => rfl

set_option maxHeartbeats 8000000 in
/-- The host's remainder. -/
theorem remainder_eq : Cert.Kernel.fn_remainder.body (F := F) (.of Cert.Kernel.main_v8) (.of Cert.Kernel.main_c_2) Cert.Kernel.main_call1
    = Cert.KernelIdeal.fn_remainder.body (F := F) (.of Cert.KernelIdeal.main_v8) (.of Cert.KernelIdeal.main_c_2) Cert.KernelIdeal.main_call1 := by
  delta Cert.Kernel.fn_remainder.body Cert.KernelIdeal.fn_remainder.body Cert.Kernel.fn_where.body Cert.KernelIdeal.fn_where.body
  iterate 4 refine bind_step rfl fun _ => ?_
  refine bind_step (bind_step rfl fun _ => rfl) fun _ => ?_
  iterate 16 refine bind_step rfl fun _ => ?_
  rfl

set_option maxHeartbeats 4000000 in
/-- The whole of the host's program. -/
theorem main_eq : Cert.Kernel.main (F := F) = Cert.KernelIdeal.main (F := F) := by
  delta Cert.Kernel.main Cert.KernelIdeal.main
  funext d
  iterate 7 refine bind_step rfl fun _ => ?_
  refine bind_step divide_eq fun _ => ?_
  iterate 4 refine bind_step rfl fun _ => ?_
  refine bind_step remainder_eq fun _ => ?_
  refine bind_step rfl fun _ => ?_
  rfl

/-- A run of one program is a run of every program equal to it. -/
theorem run_of_eq {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val} {Q}
    (h : θ_run d' (onTc p') s Q) : θ_run d (onTc p) s Q := by
  subst hd; subst hp; exact h

end Cert.Same

end

end
-- ==== Proof.Product.lean ====
/-
Over the extended reals the accumulator of device `c` ends holding its block of rows of the whole product, whatever
quarter the device began with.
-/
module

public import proofs.«01_k».proof.Proof.Points
public import Idealize.ShloMosaic.Lib.MatmulPlain
public import Idealize.ShloMosaic.Lib.Pointwise.Sums
public import Idealize.ShloMosaic.Lib.Pipeline.Value

@[expose] public section

set_option maxRecDepth 16384

noncomputable section

namespace Cert.A2A

open Cert.KernelIdeal Cert.KernelIdeal.Gen

open Idealize.ShloMosaic hiding ix1 ix2 ix3
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

variable {xs : Dev nD → XBuf Ideal} {X : (⟨2, ![4096, 4096]⟩ : Shape).Idx → Ideal .f32}

/-- The whole first argument. -/
abbrev XAll : Type := (⟨2, ![4096, 4096]⟩ : Shape).Idx → Ideal .f32

/-- Entry (r, q) of the whole product. -/
def yRef (X : XAll) (W : WAll Ideal) (r : Fin 4096) (q : Fin 8192) : EReal :=
  ∑ k : Fin 4096, (X (ix2 r k) : EReal) * W (ix2 k q)

/-- The part of it that quarter `s` of the columns of `X` gives. -/
def qSum (X : XAll) (W : WAll Ideal) (r : Fin 4096) (q : Fin 8192) (s : Fin 4) : EReal :=
  ∑ t : Fin 1024, (X (ix2 r ⟨s.val * 1024 + t.val, by omega⟩) : EReal) * W (ix2 (⟨s.val * 1024 + t.val, by omega⟩ : Fin 4096) q)

theorem yRef_quarters (X : XAll) (W : WAll Ideal) (r : Fin 4096) (q : Fin 8192) : yRef X W r q = ∑ s : Fin 4, qSum X W r q s :=
  Fin.sum_univ_tiles 4 1024 rfl fun k : Fin 4096 => (X (ix2 r k) : EReal) * W (ix2 k q)

/-- Row `p` of device `c`'s block of rows. -/
def rowOf (c : Dev nD) (p : Fin 128) : Fin 4096 := ⟨c.val * 128 + p.val, by have : c.val < 32 := c.isLt; omega⟩
/-- Column `q` of half `h`. -/
def colOf (h : Fin 2) (q : Fin 4096) : Fin 8192 := ⟨4096 * h.val + q.val, by omega⟩

/-- The devices' blocks of columns are those of `X`. -/
def IsCut (xs : Dev nD → XBuf Ideal) (X : XAll) : Prop :=
  ∀ (c : Dev nD) (p : Fin 4096) (l : Fin 128),
    xs c (ix2 p l) = X (ix2 p ⟨c.val * 128 + l.val, by have : c.val < 32 := c.isLt; omega⟩)

theorem AS_apply (hx : IsCut xs X) (c : Dev nD) (s : Fin 4) (p : Fin 128) (k : Fin 1024) :
    AS xs c s (ix2 p k) = X (ix2 (rowOf c p) ⟨s.val * 1024 + k.val, by omega⟩) := by
  have hc : c.val < 32 := c.isLt
  show xs (lane s ⟨k.val / 128, by omega⟩) ((xRow c).view.emb (ix2 p (⟨k.val % 128, Nat.mod_lt _ (by decide)⟩ : Fin 128))) = _
  rw [xRow_emb]
  refine (hx _ _ _).trans (congrArg X ?_)
  funext a
  match a with
  | ⟨0, _⟩ => exact Fin.ext (by show 128 * c.val + p.val = c.val * 128 + p.val; omega)
  | ⟨1, _⟩ => exact Fin.ext (by show (8 * s.val + k.val / 128) * 128 + k.val % 128 = s.val * 1024 + k.val; omega)

theorem pay2_apply (A : ABuf Ideal) (B : WBuf Ideal) (p : Fin 128) (q : Fin 4096) :
    k0_pay2 A B (ix2 p q) = ∑ k : Fin 1024, (A (ix2 p k) : EReal) * B (ix2 k q) := by
  unfold k0_pay2
  rw [shapeCast_self]
  refine (Ideal.matmul_plain_apply (M := 128) (K := 1024) (N := 4096) none A B _ p q).trans ?_
  show Ideal.ofBits .f32 0x00000000#32 + _ = _
  rw [Ideal.ofBits_zero_f32, zero_add]

theorem wbk_apply (w : WAll Ideal) (c : Dev nD) (k : Fin 4) (h : Fin 2) (a : Fin 1024) (q : Fin 4096) :
    wbk w c (2 * k.val + h.val) (ix2 a q) = w (ix2 (⟨(quarter c k).val * 1024 + a.val, by have := (quarter c k).isLt; omega⟩ : Fin 4096) (colOf h q)) := by
  rw [wbk_of w c _ (by omega)]
  show w (((wnd1 (F := Ideal) c).rect (pt (2 * k.val + h.val) (by omega))).emb (ix2 a q)) = _
  refine congrArg w (funext fun b => Fin.ext ?_)
  refine ((wnd1 (F := Ideal) c).rect_emb_val (pt (2 * k.val + h.val) (by omega)) (ix2 a q) b).trans ?_
  rw [index1 c _ (by show 2 * k.val + h.val < 8; omega)]
  have e : (⟨(2 * k.val + h.val) / 2, by omega⟩ : Fin 4) = k := Fin.ext (by show (2 * k.val + h.val) / 2 = k.val; omega)
  match b with
  | ⟨0, _⟩ =>
    show (quarter c ⟨(2 * k.val + h.val) / 2, _⟩).val * 1024 + a.val = (quarter c k).val * 1024 + a.val
    rw [e]
  | ⟨1, _⟩ =>
    show (2 * k.val + h.val) % 2 * 4096 + q.val = 4096 * h.val + q.val
    omega

/-- One pass adds one quarter's part. -/
theorem pass_apply (hx : IsCut xs X) (w : WAll Ideal) (c : Dev nD) (k : Fin 4) (h : Fin 2) (p : Fin 128) (q : Fin 4096) :
    k0_pay2 (AS xs c (quarter c k)) (wbk w c (2 * k.val + h.val)) (ix2 p q) = qSum X w (rowOf c p) (colOf h q) (quarter c k) := by
  rw [pay2_apply]
  exact Finset.sum_congr rfl fun t _ => by rw [AS_apply hx, wbk_apply]

theorem qk_eq (c : Dev nD) (k : Fin 4) : qk c k.val = quarter c k :=
  congrArg (quarter c) (Fin.ext (Nat.mod_eq_of_lt k.isLt))

theorem acc_apply (hx : IsCut xs X) (w : WAll Ideal) (c : Dev nD) (h : Fin 2) (p : Fin 128) (q : Fin 4096) :
    ∀ k : ℕ, k < 4 → acc xs w c h.val k (ix3 (0 : Fin 1) p q) = ∑ j ∈ Finset.range (k + 1), qSum X w (rowOf c p) (colOf h q) (qk c j)
  | 0, _ => by
    show k0_pay3 (AS xs c (qk c 0)) (wbk w c h.val) (ix3 (0 : Fin 1) p q) = _
    rw [Finset.sum_range_one]
    refine (shapeCast_addUnit_apply ![128, 4096] (k0_pay2 (AS xs c (qk c 0)) (wbk w c h.val)) _ (ix3 (0 : Fin 1) p q)).trans ?_
    have := pass_apply hx w c 0 h p q
    rw [← qk_eq] at this
    have e : 2 * (0 : Fin 4).val + h.val = h.val := by show 2 * 0 + h.val = _; omega
    rw [e] at this
    refine Eq.trans (congrArg _ ?_) this
    funext a
    match a with
    | ⟨0, _⟩ => rfl
    | ⟨1, _⟩ => rfl
  | k + 1, hk => by
    have ih := acc_apply hx w c h p q k (by omega)
    rw [Finset.sum_range_succ, ← ih]
    show k0_pay4 (AS xs c (qk c (k + 1))) (wbk w c (2 * (k + 1) + h.val)) (acc xs w c h.val k) (ix3 (0 : Fin 1) p q) = _
    unfold k0_pay4
    refine (shapeCast_addUnit_apply ![128, 4096] (addf (shapeCast S128x4096 (acc xs w c h.val k) _) (k0_pay2 (AS xs c (qk c (k + 1))) (wbk w c (2 * (k + 1) + h.val)))) _ (ix3 (0 : Fin 1) p q)).trans ?_
    have := pass_apply hx w c ⟨k + 1, hk⟩ h p q
    rw [← qk_eq] at this
    refine congrArg₂ (fun a b : EReal => a + b) ?_ (Eq.trans (congrArg _ ?_) this)
    · refine (shapeCast_dropUnit_apply ![128, 4096] (acc xs w c h.val k) _ _).trans (congrArg _ ?_)
      funext a
      match a with
      | ⟨0, _⟩ => rfl
      | ⟨1, _⟩ => rfl
      | ⟨2, _⟩ => rfl
    · funext a
      match a with
      | ⟨0, _⟩ => rfl
      | ⟨1, _⟩ => rfl

theorem quarter_bij (c : Dev nD) : Function.Bijective (quarter c) := by
  refine Finite.injective_iff_bijective.1 fun a b e => Fin.ext ?_
  have : (c.val / 8 + a.val) % 4 = (c.val / 8 + b.val) % 4 := congrArg Fin.val e
  omega

/-- The accumulator at the end: the device's block of rows of the whole product. -/
theorem acc_final (hx : IsCut xs X) (w : WAll Ideal) (c : Dev nD) (h : Fin 2) (p : Fin 128) (q : Fin 4096) :
    acc xs w c h.val 3 (ix3 (0 : Fin 1) p q) = yRef X w (rowOf c p) (colOf h q) := by
  rw [acc_apply hx w c h p q 3 (by omega), yRef_quarters, Finset.sum_range]
  simp only [qk_eq]
  exact (quarter_bij c).sum_comp fun s => qSum X w (rowOf c p) (colOf h q) s

theorem yFin_apply (hx : IsCut xs X) (w : WAll Ideal) (c : Dev nD) (h : Fin 2) (p : Fin 128) (q : Fin 4096) :
    yFin xs w c (ix3 h p q) = yRef X w (rowOf c p) (colOf h q) := by
  match h with
  | ⟨0, _⟩ => exact acc_final hx w c 0 p q
  | ⟨1, _⟩ => exact acc_final hx w c 1 p q

end Cert.A2A

end

end
-- ==== Proof.Maxima.lean ====
/-
The maximum of the absolute values of the whole product, as the kernel gathers it from the devices and as the reference
takes it, and one entry of the quantised product on either side.
-/
module

public import proofs.«01_k».proof.Proof.Product

@[expose] public section

set_option maxRecDepth 16384

noncomputable section

namespace Cert.A2A

open Cert.KernelIdeal Cert.KernelIdeal.Gen

open Idealize.ShloMosaic hiding ix1 ix2 ix3
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

variable {xs : Dev nD → XBuf Ideal} {X : (⟨2, ![4096, 4096]⟩ : Shape).Idx → Ideal .f32}

/-- The absolute value. -/
def eabs (a : EReal) : EReal := max a (-a)

theorem eabs_nonneg (a : EReal) : 0 ≤ eabs a := by
  rcases le_total 0 a with h | h
  · exact h.trans (le_max_left _ _)
  · exact (EReal.neg_nonneg.2 h).trans (le_max_right _ _)

theorem negInf : Ideal.ofBits .f32 0xFF800000#32 = ⊥ := by simp [Ideal.ofBits, Ideal.ieee]

theorem fold_max_eq_iSup {ι : Type} [Fintype ι] (f : ι → EReal) : (Finset.univ : Finset ι).fold max ⊥ f = ⨆ i, f i :=
  le_antisymm ((Finset.fold_max_le _).2 ⟨bot_le, fun i _ => le_iSup f i⟩)
    (iSup_le fun i => (Finset.le_fold_max _).2 (Or.inr ⟨i, Finset.mem_univ i, le_rfl⟩))

/-- A kernel's maximum over everything. -/
theorem kernel_max {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ) (j : t.Idx) :
    multiReduction .maximumf axes t src 0xFF800000#32 h hφ hacc j = ⨆ i, (src i : EReal) := by
  rw [multiReduction_maximumf_eq_fold, Finset.filter_true_of_mem fun i _ => funext fun b => Fin.ext (by
    have := (h.drop i b).isLt; have := (j b).isLt; have := ht b; omega)]
  refine Eq.trans ?_ (fold_max_eq_iSup fun i => (src i : EReal))
  rw [← negInf]
  rfl

/-- The reference's maximum over everything. -/
theorem host_max {s t u : Shape} {axes : List (Fin s.rank)} (x : s.Idx → EReal) (h : s.ReducesTo axes t)
    (ht : ∀ b, t.size b = 1) (hu : 0 < u.numel) (j : t.Idx) :
    Host.reduce (FloatOps.maximumf (F := Ideal) (φ := .f32)) x (constant (F := Ideal) u .f32 0xFF800000#32) h hu j = ⨆ i, x i := by
  rw [Host.reduce_eq_fold, Finset.filter_true_of_mem fun i _ => funext fun b => Fin.ext (by
    have := (h.drop i b).isLt; have := (j b).isLt; have := ht b; omega)]
  refine Eq.trans ?_ (fold_max_eq_iSup x)
  rw [← negInf]
  rfl

theorem extract_cast {α : Type} {s t : Shape} (pos : Fin t.rank → ℕ) (v : s.Idx → α) (h : s.ShapeCasts t) (hp : ∀ a, pos a < t.size a) :
    extractAt pos (shapeCast t v h) hp = v (Shape.reshapeEquiv h fun a => ⟨pos a, hp a⟩) := rfl

theorem pay11_eq (y : S2x128x4096.Idx → Ideal .f32) : k0_pay11 (F := Ideal) y = (⨆ i, eabs (y i) : EReal) := by
  unfold k0_pay11
  refine (extract_cast _ _ _ _).trans ((kernel_max (shapeCast S1x2x128x4096 (absf y) shapeCasts_S2x128x4096_S1x2x128x4096) reduces_S1x2x128x4096_S1 (by decide) (.inl rfl) rfl _).trans ?_)
  exact (Shape.reshapeEquiv shapeCasts_S2x128x4096_S1x2x128x4096).iSup_comp (g := fun i => eabs (y i))

theorem splat_apply {α : Type} (s : Shape) (x : α) (i : s.Idx) : broadcast s x i = x := rfl

theorem pay12_apply (y : S2x128x4096.Idx → Ideal .f32) (l : Fin 128) : k0_pay12 (F := Ideal) y (ix2 (0 : Fin 1) l) = k0_pay11 (F := Ideal) y := by
  unfold k0_pay12
  rw [shapeCast_self]
  exact splat_apply _ _ _

/-- The maximum of gathered maxima. -/
def aMax (am : S32x128.Idx → EReal) : EReal := ⨆ i, am i
theorem le_aMax (am : S32x128.Idx → EReal) (i : S32x128.Idx) : am i ≤ aMax am := le_iSup am i
theorem aMax_le (am : S32x128.Idx → EReal) (b : EReal) (h : ∀ i, am i ≤ b) : aMax am ≤ b := iSup_le h

/-- The scale's divisor, 127. -/
def top8 : EReal := Ideal.ofBits .f32 0x42FE0000#32
/-- The lower bound of the quantised values, −127. -/
def bot8 : EReal := Ideal.ofBits .f32 0xC2FE0000#32
/-- `y` rounded to a whole multiple of `s` between −127 and 127. -/
def quant (y s : EReal) : EReal := min top8 (max bot8 (Ideal.liftRound Ideal.roundHalfEven (Ideal.div y s))) * s

theorem pay13_eq (y : S2x128x4096.Idx → Ideal .f32) (am : S32x128.Idx → Ideal .f32) :
    k0_pay13 (F := Ideal) y am = Ideal.div (max (aMax am) (⨆ i, eabs (y i))) top8 := by
  unfold k0_pay13
  refine congrArg (fun z : EReal => Ideal.div z top8) (congrArg₂ (fun a b : EReal => max a b) ?_ (pay11_eq y))
  refine (extract_cast _ _ _ _).trans ((kernel_max (shapeCast S1x32x128 am shapeCasts_S32x128_S1x32x128) reduces_S1x32x128_S1 (by decide) (.inl rfl) rfl _).trans ?_)
  exact (Shape.reshapeEquiv shapeCasts_S32x128_S1x32x128).iSup_comp (g := fun i : S32x128.Idx => (am i : EReal))

theorem dropHead (v : YHalf Ideal) (p : Fin 128) (q : Fin 4096) :
    shapeCast S128x4096 v shapeCasts_S1x128x4096_S128x4096 (ix2 p q) = v (ix3 (0 : Fin 1) p q) := by
  refine (shapeCast_dropUnit_apply ![128, 4096] v _ _).trans (congrArg _ ?_)
  funext a
  match a with
  | ⟨0, _⟩ => rfl
  | ⟨1, _⟩ => rfl
  | ⟨2, _⟩ => rfl

theorem pay5_apply (s : Ideal .f32) (v : YHalf Ideal) (p : Fin 128) (q : Fin 4096) :
    k0_pay5 s v (ix2 p q) = quant (v (ix3 (0 : Fin 1) p q)) s := by
  unfold k0_pay5
  refine Eq.trans ?_ (congrArg (fun z : EReal => quant z s) (dropHead v p q))
  rfl

theorem pay14_eq (y : YBuf Ideal) (am : BBuf Ideal) (v : YHalf Ideal) : k0_pay14 y am v = k0_pay5 (k0_pay13 y am) v := by
  unfold k0_pay14 k0_pay5
  rfl

theorem pay14_apply (y : YBuf Ideal) (am : BBuf Ideal) (v : YHalf Ideal) (p : Fin 128) (q : Fin 4096) :
    k0_pay14 y am v (ix2 p q) = quant (v (ix3 (0 : Fin 1) p q)) (k0_pay13 (F := Ideal) y am) :=
  (congrFun (pay14_eq y am v) _).trans (pay5_apply _ v p q)

/-! ## The maxima of the devices together -/

/-- The maximum of the absolute values of the whole product. -/
def yMax (X : XAll) (W : WAll Ideal) : EReal := ⨆ i : (⟨2, ![4096, 8192]⟩ : Shape).Idx, eabs (yRef X W (i 0) (i 1))

theorem eabs_le_yMax (X : XAll) (W : WAll Ideal) (r : Fin 4096) (q : Fin 8192) : eabs (yRef X W r q) ≤ yMax X W :=
  le_iSup (fun i : (⟨2, ![4096, 8192]⟩ : Shape).Idx => eabs (yRef X W (i 0) (i 1))) (ix2 r q)

theorem local_le (hx : IsCut xs X) (W : WAll Ideal) (c : Dev nD) : (⨆ i, eabs (yFin xs W c i)) ≤ yMax X W :=
  iSup_le fun i => by
    rw [ValueIdx.eq_ix3 i]
    exact (congrArg eabs (yFin_apply hx W c (i 0) (i 1) (i 2))).le.trans (eabs_le_yMax X W _ _)

theorem le_local (hx : IsCut xs X) (W : WAll Ideal) (c : Dev nD) (h : Fin 2) (p : Fin 128) (q : Fin 4096) :
    eabs (yRef X W (rowOf c p) (colOf h q)) ≤ ⨆ i, eabs (yFin xs W c i) :=
  (congrArg eabs (yFin_apply hx W c h p q)).symm.le.trans (le_iSup (fun i => eabs (yFin xs W c i)) (ix3 h p q))

theorem tx_apply (W : WAll Ideal) (j : Dev nD) (l : Fin 128) :
    @Eq EReal (txOf xs (fun _ => W) j (ix2 (0 : Fin 1) l)) (⨆ i, eabs (yFin xs W j i)) :=
  (pay12_apply (yFin xs W j) l).trans (pay11_eq (yFin xs W j))

/-- What device `c` takes for the maximum is the maximum. -/
theorem max_eq (hx : IsCut xs X) (W : WAll Ideal) (c : Dev nD) :
    max (aMax (AB (txOf xs fun _ => W) c)) (⨆ i, eabs (yFin xs W c i)) = yMax X W := by
  refine le_antisymm (max_le (aMax_le _ _ fun i => ?_) (local_le hx W c)) (iSup_le fun i => ?_)
  · show @ite EReal ((i 0).val = c.val) _ (k0_pay15 (F := Ideal) i) (txOf xs (fun _ => W) (i 0 : Fin 32) (ix2 (0 : Fin 1) (i 1 : Fin 128))) ≤ _
    split
    · refine Eq.trans_le (b := (0 : EReal)) ?_ ((eabs_nonneg _).trans (eabs_le_yMax X W 0 0))
      exact Ideal.ofBits_zero_f32
    · exact (tx_apply W _ _).le.trans (local_le hx W _)
  · have h0 : (i 0).val < 4096 := (i 0).isLt
    have h1 : (i 1).val < 8192 := (i 1).isLt
    have er : i 0 = rowOf (⟨(i 0).val / 128, by show _ < 32; omega⟩ : Dev nD) ⟨(i 0).val % 128, Nat.mod_lt _ (by decide)⟩ :=
      Fin.ext (by show (i 0).val = (i 0).val / 128 * 128 + (i 0).val % 128; omega)
    have ec : i 1 = colOf ⟨(i 1).val / 4096, by omega⟩ ⟨(i 1).val % 4096, Nat.mod_lt _ (by decide)⟩ :=
      Fin.ext (by show (i 1).val = 4096 * ((i 1).val / 4096) + (i 1).val % 4096; omega)
    rw [er, ec]
    refine (le_local hx W _ _ _ _).trans ?_
    by_cases e : (⟨(i 0).val / 128, by show _ < 32; omega⟩ : Dev nD) = c
    · rw [e]
      exact le_max_right _ _
    · refine le_trans ?_ (le_max_left _ _)
      refine le_trans ?_ (le_aMax (AB (txOf xs fun _ => W) c) (ix2 (⟨(i 0).val / 128, by omega⟩ : Fin 32) (0 : Fin 128)))
      refine (tx_apply W (⟨(i 0).val / 128, by show _ < 32; omega⟩ : Dev nD) 0).symm.le.trans (le_of_eq ?_)
      exact (if_neg fun h => e (Fin.ext h)).symm

/-- The scale. -/
def scale (X : XAll) (W : WAll Ideal) : EReal := Ideal.div (yMax X W) top8

theorem pay13_final (hx : IsCut xs X) (W : WAll Ideal) (c : Dev nD) :
    k0_pay13 (yFin xs W c) (AB (txOf xs fun _ => W) c) = scale X W :=
  (pay13_eq _ _).trans (congrArg (fun z : EReal => Ideal.div z top8) (max_eq hx W c))

/-- One entry of the kernel's result. -/
theorem out_apply (hx : IsCut xs X) (W : WAll Ideal) (c : Dev nD) (p : Fin 128) (q : Fin 8192) :
    outOf xs (fun _ => W) c (ix2 p q) = quant (yRef X W (rowOf c p) q) (scale X W) := by
  unfold outOf outB
  rw [← pay13_final hx W c]
  by_cases h : q.val < 4096
  · refine (dif_pos h).trans ((pay14_apply _ _ _ _ _).trans ?_)
    refine congrArg (fun z : EReal => quant z (k0_pay13 (yFin xs W c) (AB (txOf xs fun _ => W) c))) ?_
    refine (yFin_apply hx W c 0 p ⟨q.val, h⟩).trans (congrArg (yRef X W (rowOf c p)) (Fin.ext ?_))
    show 4096 * 0 + q.val = q.val
    omega
  · have hq := q.isLt
    refine (dif_neg h).trans ((pay5_apply _ _ _ _).trans ?_)
    refine congrArg (fun z : EReal => quant z (k0_pay13 (yFin xs W c) (AB (txOf xs fun _ => W) c))) ?_
    refine (yFin_apply hx W c 1 p ⟨q.val - 4096, by omega⟩).trans (congrArg (yRef X W (rowOf c p)) (Fin.ext ?_))
    show 4096 * 1 + (q.val - 4096) = q.val
    omega

end Cert.A2A

end

end
-- ==== Proof.Match.lean ====
/-
The reference's result at one entry, and that every device's result is its block of rows of it.
-/
module

public import proofs.«01_k».proof.Proof.Maxima
public import proofs.«01_k».proof.Proof.Gen.ReferenceIdeal.Run
public import Idealize.ShloMosaic.Lib.StackMember

@[expose] public section

set_option maxRecDepth 16384

noncomputable section

namespace Cert.Match

open Cert.ReferenceIdeal Cert.ReferenceIdeal.Gen
open Idealize.ShloMosaic hiding ix1 ix2 ix3
open Idealize.ShloMosaic.TcCoe Idealize.ShloMosaic.ValueIdx Idealize.SL.Sem
open scoped BigOperators

/-- The whole product, as the reference takes it. -/
def prod (X : S4096x4096.Idx → Ideal .f32) (W : S4096x8192.Idx → Ideal .f32) : S4096x8192.Idx → Ideal .f32 :=
  Host.dotGeneral dot_S4096x4096_S4096x8192_S4096x8192_1_0_0_1_n_n none X W

/-- The scale, as the reference takes it. -/
def refScale (X : S4096x4096.Idx → Ideal .f32) (W : S4096x8192.Idx → Ideal .f32) : S_.Idx → Ideal .f32 :=
  Host.divf (Host.reduce FloatOps.maximumf (Host.absf (prod X W)) (constant S_ .f32 0xFF800000#32) reducesTo_S4096x8192_S_d0_1 h_S_)
    (constant S_ .f32 0x42FE0000#32)

/-- The reference's result. -/
def refOut (X : S4096x4096.Idx → Ideal .f32) (W : S4096x8192.Idx → Ideal .f32) : S4096x8192.Idx → Ideal .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (prod X W) (broadcastInDim S4096x8192 ![] bcast_S_S4096x8192 (refScale X W))))))
    (broadcastInDim S4096x8192 ![] bcast_S_S4096x8192 (refScale X W))

theorem prod_apply (X : S4096x4096.Idx → Ideal .f32) (W : S4096x8192.Idx → Ideal .f32) (i : S4096x8192.Idx) :
    prod X W i = Cert.A2A.yRef X W (i 0) (i 1) :=
  (congrArg (prod X W) (ValueIdx.eq_ix2 i)).trans (StackMember.dotGeneral_plain_apply (m := 4096) (k := 4096) (n := 8192) none X W (i 0) (i 1))

theorem refScale_apply (X : S4096x4096.Idx → Ideal .f32) (W : S4096x8192.Idx → Ideal .f32) (j : S_.Idx) :
    refScale X W j = Cert.A2A.scale X W := by
  refine congrArg (fun z : EReal => Ideal.div z Cert.A2A.top8) ?_
  refine (Cert.A2A.host_max (fun i => Cert.A2A.eabs (prod X W i)) reducesTo_S4096x8192_S_d0_1 (fun b => b.elim0) h_S_ j).trans ?_
  exact iSup_congr fun i => congrArg Cert.A2A.eabs (prod_apply X W i)

/-- The quantiser on whole arrays, with any array of scales. -/
theorem quant_apply (y s : S4096x8192.Idx → Ideal .f32) (i : S4096x8192.Idx) :
    mulf (minimumf (broadcastInDim S4096x8192 ![] bcast_S_S4096x8192 (id (constant S_ .f32 0x42FE0000#32)))
      (maximumf (broadcastInDim S4096x8192 ![] bcast_S_S4096x8192 (id (constant S_ .f32 0xC2FE0000#32)))
        (Host.roundeven (Host.divf y s)))) s i = Cert.A2A.quant (y i) (s i) := rfl

theorem refOut_apply (X : S4096x4096.Idx → Ideal .f32) (W : S4096x8192.Idx → Ideal .f32) (i : S4096x8192.Idx) :
    refOut X W i = Cert.A2A.quant (Cert.A2A.yRef X W (i 0) (i 1)) (Cert.A2A.scale X W) := by
  unfold refOut
  refine (quant_apply (prod X W) (broadcastInDim S4096x8192 ![] bcast_S_S4096x8192 (refScale X W)) i).trans (congrArg₂ Cert.A2A.quant (prod_apply X W i) ?_)
  exact refScale_apply X W _

theorem isCut {xs : Dev Cert.KernelIdeal.nD → Cert.A2A.XBuf Ideal} (X : S4096x4096.Idx → Ideal .f32)
    (hx : ∀ c, xs c = Layout.block ⟨2, ![4096, 128]⟩ ⟨2, ![4096, 4096]⟩ 1 32 c X) : Cert.A2A.IsCut xs X := fun d p l => by
  rw [hx d]
  refine congrArg X (funext fun a => Fin.ext ?_)
  match a with
  | ⟨0, _⟩ => rfl
  | ⟨1, _⟩ => rfl

theorem block_entry (v : S4096x8192.Idx → Ideal .f32) (c : Fin 32) (p : Fin 128) (q : Fin 8192) :
    (Layout.block ⟨2, ![128, 8192]⟩ ⟨2, ![4096, 8192]⟩ 0 32 c v) (ix2 p q) = v (ix2 (Cert.A2A.rowOf c p) q) := by
  refine congrArg v (funext fun a => Fin.ext ?_)
  match a with
  | ⟨0, _⟩ => rfl
  | ⟨1, _⟩ => rfl

/-- Every device's result is its block of rows of the reference's. -/
theorem out_block {xs : Dev Cert.KernelIdeal.nD → Cert.A2A.XBuf Ideal} {ws : Dev Cert.KernelIdeal.nD → Cert.A2A.WAll Ideal}
    (X : S4096x4096.Idx → Ideal .f32) (W : S4096x8192.Idx → Ideal .f32)
    (hx : Cert.A2A.IsCut xs X) (hw : ∀ c, ws c = W) (c : Dev Cert.KernelIdeal.nD) :
    Cert.A2A.outOf xs ws c = Layout.block ⟨2, ![128, 8192]⟩ ⟨2, ![4096, 8192]⟩ 0 32 c (refOut X W) := by
  rw [show ws = fun _ => W from funext hw]
  refine funext fun i : (⟨2, ![128, 8192]⟩ : Shape).Idx => ?_
  rw [ValueIdx.eq_ix2 i]
  exact (Cert.A2A.out_apply hx W c (i 0) (i 1)).trans ((block_entry (refOut X W) c (i 0) (i 1)).trans (refOut_apply X W _)).symm

end Cert.Match

end

end
-- ==== Proof.lean ====
/-
The kernel and the reference run and leave their arguments and every semaphore counter as they found them; over the
extended reals the kernel computes the reference's result, every device its own block of rows.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Match

@[expose] public section

noncomputable section

namespace Cert.Proof

open Idealize.ShloMosaic Idealize.ShloMosaic.TcCoe Idealize.SL.Sem

/-- The kernel over the bits of the machine runs, and leaves its arguments and every semaphore counter as they were. -/
theorem frame_kernel : Cert.quiescent_Kernel := fun m ρ _ =>
  Cert.Same.run_of_eq Cert.Same.defs_eq Cert.Same.main_eq
    ((θ_run Cert.KernelIdeal.defs _ _).mono (fun _ h => ⟨fun c => ⟨(h.1 c).1, (h.1 c).2.1⟩, h.2⟩)
      (Cert.A2A.run_main (F := Bits) m ρ))

/-- So does the kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩)
    (Cert.A2A.run_main (F := Ideal) m ρ)

/-- So does the reference, which has no semaphores at all. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Over the extended reals every device's result is its block of rows of the reference's. -/
theorem algebraic : Cert.algebraic_KernelIdeal_ReferenceIdeal := fun m ρ m' ρ' _ hag =>
  ⟨Cert.Match.refOut (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ h c => ⟨(h.1 c).2.2.trans (Cert.Match.out_block _ _ (Cert.Match.isCut _ fun d => (hag d).1) (fun d => (hag d).2) c), (h.1 c).1, (h.1 c).2.1⟩)
      (Cert.A2A.run_main (F := Ideal) m ρ),
    (θ_run Cert.ReferenceIdeal.defs _ _).mono (fun _ h => ⟨(h 0).1, (h 0).2.1, (h 0).2.2⟩)
      (Cert.ReferenceIdeal.Value.run (F := Ideal) m' ρ')⟩

/-- Everything that is claimed of the kernel. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end

end
